-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S24576x1536 : Shape := ⟨2, ![24576, 1536]⟩
abbrev S16x1536x768 : Shape := ⟨3, ![16, 1536, 768]⟩
abbrev S2x1536x1536 : Shape := ⟨3, ![2, 1536, 1536]⟩
abbrev S_ : Shape := ⟨0, ![]⟩
abbrev S2 : Shape := ⟨1, ![2]⟩
abbrev S4 : Shape := ⟨1, ![4]⟩
abbrev S8 : Shape := ⟨1, ![8]⟩
abbrev S1x1536x768 : Shape := ⟨3, ![1, 1536, 768]⟩
abbrev S1 : Shape := ⟨1, ![1]⟩
abbrev S1536x1536 : Shape := ⟨2, ![1536, 1536]⟩
abbrev S1x1536x1536 : Shape := ⟨3, ![1, 1536, 1536]⟩
abbrev S1x768x768 : Shape := ⟨3, ![1, 768, 768]⟩
abbrev S768x768 : Shape := ⟨2, ![768, 768]⟩

abbrev nBuf : Space → Nat
  | .hbm => 3
  | .vmem => 5
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S24576x1536, .bf16⟩
  | .local _ .vmem, ⟨0, _⟩ => ⟨S1536x768, .bf16⟩
  | .local _ .vmem, ⟨1, _⟩ => ⟨S768x1536, .bf16⟩
  | .local _ .vmem, ⟨2, _⟩ => ⟨S16x1536x768, .bf16⟩
  | .local _ .vmem, ⟨3, _⟩ => ⟨S2x1536x1536, .bf16⟩
  | .local _ .vmem, ⟨4, _⟩ => ⟨S768x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_28 : BitVec 32 := 1#32
  let v57 : BitVec 32 := Scalar.muli v55 c1_i32_28
  let v58 : BitVec 32 := Scalar.addi c0_i32_29 v57
  v58.toNat
def k0_dev2 (d0 : Dev nD) : Nat :=
  let c0_i32_32 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_31 : BitVec 32 := 1#32
  let v59 : BitVec 32 := Scalar.muli v42 c1_i32_31
  let v60 : BitVec 32 := Scalar.addi c0_i32_32 v59
  v60.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_33 : BitVec 32 := 0#32
  let v61 : BitVec 1 := Scalar.cmpi .ne v19 c0_i32_33
  let v62 : BitVec 32 := Scalar.extui v61
  let c0_i32_34 : BitVec 32 := 0#32
  let v63 : BitVec 1 := Scalar.cmpi .ne v62 c0_i32_34
  v63

def k0_dev3 (d0 : Dev nD) : Nat :=
  let c0_i32_888 : BitVec 32 := 0#32
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c0_i32_885 v29
  let c1_i32_887 : BitVec 32 := 1#32
  let v1036 : BitVec 32 := Scalar.muli v1035 c1_i32_887
  let v1037 : BitVec 32 := Scalar.addi c0_i32_888 v1036
  v1037.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_35 : BitVec 32 := 1#32
  let v64 : BitVec 1 := Scalar.cmpi .ne v19 c1_i32_35
  let v65 : BitVec 32 := Scalar.extui v64
  let c0_i32_36 : BitVec 32 := 0#32
  let v66 : BitVec 1 := Scalar.cmpi .ne v65 c0_i32_36
  v66

def k0_dev4 (d0 : Dev nD) : Nat :=
  let c0_i32_888 : BitVec 32 := 0#32
  let c4_i32_885 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c4_i32_885 v29
  let c1_i32_887 : BitVec 32 := 1#32
  let v1036 : BitVec 32 := Scalar.muli v1035 c1_i32_887
  let v1037 : BitVec 32 := Scalar.addi c0_i32_888 v1036
  v1037.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v67 : BitVec 1 := Scalar.cmpi .ne v19 c2_i32
  let v68 : BitVec 32 := Scalar.extui v67
  let c0_i32_37 : BitVec 32 := 0#32
  let v69 : BitVec 1 := Scalar.cmpi .ne v68 c0_i32_37
  v69

def k0_dev5 (d0 : Dev nD) : Nat :=
  let c0_i32_888 : BitVec 32 := 0#32
  let c8_i32_885 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c8_i32_885 v29
  let c1_i32_887 : BitVec 32 := 1#32
  let v1036 : BitVec 32 := Scalar.muli v1035 c1_i32_887
  let v1037 : BitVec 32 := Scalar.addi c0_i32_888 v1036
  v1037.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v70 : BitVec 1 := Scalar.cmpi .ne v19 c3_i32
  let v71 : BitVec 32 := Scalar.extui v70
  let c0_i32_38 : BitVec 32 := 0#32
  let v72 : BitVec 1 := Scalar.cmpi .ne v71 c0_i32_38
  v72

def k0_dev6 (d0 : Dev nD) : Nat :=
  let c0_i32_888 : BitVec 32 := 0#32
  let c12_i32_885 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c12_i32_885 v29
  let c1_i32_887 : BitVec 32 := 1#32
  let v1036 : BitVec 32 := Scalar.muli v1035 c1_i32_887
  let v1037 : BitVec 32 := Scalar.addi c0_i32_888 v1036
  v1037.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v75 : Index := Scalar.indexCast v2
  let c0_40 : Index := 0#32
  let c0_41 : Index := 0#32
  ![v75.toNat, 0, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_46 : BitVec 32 := 0#32
  let v84 : BitVec 1 := Scalar.cmpi .ne v19 c0_i32_46
  let v85 : BitVec 32 := Scalar.extui v84
  let c0_i32_47 : BitVec 32 := 0#32
  let v86 : BitVec 1 := Scalar.cmpi .ne v85 c0_i32_47
  v86

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev7 (d0 : Dev nD) : Nat :=
  let c0_i32_888 : BitVec 32 := 0#32
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c0_i32_885 v29
  let c1_i32_887 : BitVec 32 := 1#32
  let v1036 : BitVec 32 := Scalar.muli v1035 c1_i32_887
  let v1037 : BitVec 32 := Scalar.addi c0_i32_888 v1036
  v1037.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_48 : BitVec 32 := 1#32
  let v87 : BitVec 1 := Scalar.cmpi .ne v19 c1_i32_48
  let v88 : BitVec 32 := Scalar.extui v87
  let c0_i32_49 : BitVec 32 := 0#32
  let v89 : BitVec 1 := Scalar.cmpi .ne v88 c0_i32_49
  v89

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev8 (d0 : Dev nD) : Nat :=
  let c0_i32_888 : BitVec 32 := 0#32
  let c4_i32_885 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c4_i32_885 v29
  let c1_i32_887 : BitVec 32 := 1#32
  let v1036 : BitVec 32 := Scalar.muli v1035 c1_i32_887
  let v1037 : BitVec 32 := Scalar.addi c0_i32_888 v1036
  v1037.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_50 : BitVec 32 := 2#32
  let v90 : BitVec 1 := Scalar.cmpi .ne v19 c2_i32_50
  let v91 : BitVec 32 := Scalar.extui v90
  let c0_i32_51 : BitVec 32 := 0#32
  let v92 : BitVec 1 := Scalar.cmpi .ne v91 c0_i32_51
  v92

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev9 (d0 : Dev nD) : Nat :=
  let c0_i32_888 : BitVec 32 := 0#32
  let c8_i32_885 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c8_i32_885 v29
  let c1_i32_887 : BitVec 32 := 1#32
  let v1036 : BitVec 32 := Scalar.muli v1035 c1_i32_887
  let v1037 : BitVec 32 := Scalar.addi c0_i32_888 v1036
  v1037.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_52 : BitVec 32 := 3#32
  let v93 : BitVec 1 := Scalar.cmpi .ne v19 c3_i32_52
  let v94 : BitVec 32 := Scalar.extui v93
  let c0_i32_53 : BitVec 32 := 0#32
  let v95 : BitVec 1 := Scalar.cmpi .ne v94 c0_i32_53
  v95

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev10 (d0 : Dev nD) : Nat :=
  let c0_i32_888 : BitVec 32 := 0#32
  let c12_i32_885 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1035 : BitVec 32 := Scalar.addi c12_i32_885 v29
  let c1_i32_887 : BitVec 32 := 1#32
  let v1036 : BitVec 32 := Scalar.muli v1035 c1_i32_887
  let v1037 : BitVec 32 := Scalar.addi c0_i32_888 v1036
  v1037.toNat
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_56 : BitVec 32 := 0#32
  let c0_i32_57 : BitVec 32 := 0#32
  ![v2.toNat, 0, 0]
def k0_dev11 (d0 : Dev nD) : Nat :=
  let c0_i32_55 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_54 : BitVec 32 := 1#32
  let v96 : BitVec 32 := Scalar.muli v42 c1_i32_54
  let v97 : BitVec 32 := Scalar.addi c0_i32_55 v96
  v97.toNat
def k0_dev12 (d0 : Dev nD) : Nat :=
  let c0_i32_61 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_60 : BitVec 32 := 1#32
  let v106 : BitVec 32 := Scalar.muli v55 c1_i32_60
  let v107 : BitVec 32 := Scalar.addi c0_i32_61 v106
  v107.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1536_i32 : BitVec 32 := 1536#32
  let v125 : BitVec 32 := Scalar.muli v2 c1536_i32
  let c0_i32_75 : BitVec 32 := 0#32
  ![v125.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m1_i32 : BitVec 32 := 4294967295#32
  let v131 : BitVec 32 := Scalar.addi v19 c_m1_i32
  let c0_i32_78 : BitVec 32 := 0#32
  let v132 : BitVec 1 := Scalar.cmpi .sge v131 c0_i32_78
  let c3_i32_79 : BitVec 32 := 3#32
  let v133 : BitVec 1 := Scalar.cmpi .sle v131 c3_i32_79
  let v134 : BitVec 1 := Scalar.andi v132 v133
  let v137 : BitVec 32 := Scalar.extui v134
  let c0_i32_82 : BitVec 32 := 0#32
  let v138 : BitVec 1 := Scalar.cmpi .ne v137 c0_i32_82
  v138

def k0_off13 (d0 : Dev nD) : Fin 1 → Nat :=
  let c3_i32_81 : BitVec 32 := 3#32
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m1_i32 : BitVec 32 := 4294967295#32
  let v131 : BitVec 32 := Scalar.addi v19 c_m1_i32
  let v135 : BitVec 32 := Scalar.maxsi c0_i32_80 v131
  let v136 : BitVec 32 := Scalar.minsi c3_i32_81 v135
  ![v136.toNat]
def k0_off14 (d0 : Dev nD) : Fin 3 → Nat :=
  let c4_i32_885 : BitVec 32 := 4#32
  let c3_i32_81 : BitVec 32 := 3#32
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m1_i32 : BitVec 32 := 4294967295#32
  let v131 : BitVec 32 := Scalar.addi v19 c_m1_i32
  let v135 : BitVec 32 := Scalar.maxsi c0_i32_80 v131
  let v136 : BitVec 32 := Scalar.minsi c3_i32_81 v135
  let v1035 : BitVec 32 := Scalar.muli c4_i32_885 v136
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1036 : BitVec 32 := Scalar.addi v1035 v29
  let c0_i32_889 : BitVec 32 := 0#32
  let c0_i32_890 : BitVec 32 := 0#32
  ![v1036.toNat, 0, 0]
def k0_off15 (d0 : Dev nD) : Fin 1 → Nat :=
  let c3_i32_81 : BitVec 32 := 3#32
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m1_i32 : BitVec 32 := 4294967295#32
  let v131 : BitVec 32 := Scalar.addi v19 c_m1_i32
  let v135 : BitVec 32 := Scalar.maxsi c0_i32_80 v131
  let v136 : BitVec 32 := Scalar.minsi c3_i32_81 v135
  ![v136.toNat]
def k0_dev13 (d0 : Dev nD) : Nat :=
  let c0_i32_895 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_894 : BitVec 32 := 1#32
  let v1047 : BitVec 32 := Scalar.muli v42 c1_i32_894
  let v1048 : BitVec 32 := Scalar.addi c0_i32_895 v1047
  v1048.toNat
def k0_dev14 (d0 : Dev nD) : Nat :=
  let c0_i32_902 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_901 : BitVec 32 := 1#32
  let v1059 : BitVec 32 := Scalar.muli v55 c1_i32_901
  let v1060 : BitVec 32 := Scalar.addi c0_i32_902 v1059
  v1060.toNat
def k0_off16 (d0 : Dev nD) (c_m1_i32 : BitVec 32) : Fin 3 → Nat :=
  let c4_i32_83 : BitVec 32 := 4#32
  let c3_i32_81 : BitVec 32 := 3#32
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v131 : BitVec 32 := Scalar.addi v19 c_m1_i32
  let v135 : BitVec 32 := Scalar.maxsi c0_i32_80 v131
  let v136 : BitVec 32 := Scalar.minsi c3_i32_81 v135
  let v139 : BitVec 32 := Scalar.muli c4_i32_83 v136
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v140 : BitVec 32 := Scalar.addi v139 v29
  let v141 : Index := Scalar.indexCast v140
  let c0_84 : Index := 0#32
  let c0_85 : Index := 0#32
  ![v141.toNat, 0, 0]
def k0_off16_at (r : Fin 6) : BitVec 32 :=
  if r.val < 3 then
    if r.val < 1 then
      4294967295#32
    else
      if r.val < 2 then
        1#32
      else
        4294967294#32
  else
    if r.val < 4 then
      2#32
    else
      if r.val < 5 then
        4294967293#32
      else
        3#32
def k0_off17 (d0 : Dev nD) (c_m1_i32 : BitVec 32) : Fin 2 → Nat :=
  let c4_i32_83 : BitVec 32 := 4#32
  let c3_i32_81 : BitVec 32 := 3#32
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v131 : BitVec 32 := Scalar.addi v19 c_m1_i32
  let v135 : BitVec 32 := Scalar.maxsi c0_i32_80 v131
  let v136 : BitVec 32 := Scalar.minsi c3_i32_81 v135
  let v139 : BitVec 32 := Scalar.muli c4_i32_83 v136
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v140 : BitVec 32 := Scalar.addi v139 v29
  let c1536_i32_91 : BitVec 32 := 1536#32
  let v150 : BitVec 32 := Scalar.muli v140 c1536_i32_91
  let c0_i32_94 : BitVec 32 := 0#32
  ![v150.toNat, 0]
def k0_off17_at (r : Fin 6) : BitVec 32 :=
  if r.val < 3 then
    if r.val < 1 then
      4294967295#32
    else
      if r.val < 2 then
        1#32
      else
        4294967294#32
  else
    if r.val < 4 then
      2#32
    else
      if r.val < 5 then
        4294967293#32
      else
        3#32
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_97 : BitVec 32 := 1#32
  let v156 : BitVec 32 := Scalar.addi v19 c1_i32_97
  let c0_i32_98 : BitVec 32 := 0#32
  let v157 : BitVec 1 := Scalar.cmpi .sge v156 c0_i32_98
  let c3_i32_99 : BitVec 32 := 3#32
  let v158 : BitVec 1 := Scalar.cmpi .sle v156 c3_i32_99
  let v159 : BitVec 1 := Scalar.andi v157 v158
  let v162 : BitVec 32 := Scalar.extui v159
  let c0_i32_102 : BitVec 32 := 0#32
  let v163 : BitVec 1 := Scalar.cmpi .ne v162 c0_i32_102
  v163

def k0_off18 (d0 : Dev nD) : Fin 1 → Nat :=
  let c3_i32_101 : BitVec 32 := 3#32
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_97 : BitVec 32 := 1#32
  let v156 : BitVec 32 := Scalar.addi v19 c1_i32_97
  let v160 : BitVec 32 := Scalar.maxsi c0_i32_100 v156
  let v161 : BitVec 32 := Scalar.minsi c3_i32_101 v160
  ![v161.toNat]
def k0_off19 (d0 : Dev nD) : Fin 3 → Nat :=
  let c4_i32_885 : BitVec 32 := 4#32
  let c3_i32_101 : BitVec 32 := 3#32
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_97 : BitVec 32 := 1#32
  let v156 : BitVec 32 := Scalar.addi v19 c1_i32_97
  let v160 : BitVec 32 := Scalar.maxsi c0_i32_100 v156
  let v161 : BitVec 32 := Scalar.minsi c3_i32_101 v160
  let v1035 : BitVec 32 := Scalar.muli c4_i32_885 v161
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1036 : BitVec 32 := Scalar.addi v1035 v29
  let c0_i32_889 : BitVec 32 := 0#32
  let c0_i32_890 : BitVec 32 := 0#32
  ![v1036.toNat, 0, 0]
def k0_off20 (d0 : Dev nD) : Fin 1 → Nat :=
  let c3_i32_101 : BitVec 32 := 3#32
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_97 : BitVec 32 := 1#32
  let v156 : BitVec 32 := Scalar.addi v19 c1_i32_97
  let v160 : BitVec 32 := Scalar.maxsi c0_i32_100 v156
  let v161 : BitVec 32 := Scalar.minsi c3_i32_101 v160
  ![v161.toNat]
def k0_dev15 (d0 : Dev nD) : Nat :=
  let c0_i32_895 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_894 : BitVec 32 := 1#32
  let v1047 : BitVec 32 := Scalar.muli v42 c1_i32_894
  let v1048 : BitVec 32 := Scalar.addi c0_i32_895 v1047
  v1048.toNat
def k0_dev16 (d0 : Dev nD) : Nat :=
  let c0_i32_902 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_901 : BitVec 32 := 1#32
  let v1059 : BitVec 32 := Scalar.muli v55 c1_i32_901
  let v1060 : BitVec 32 := Scalar.addi c0_i32_902 v1059
  v1060.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m2_i32 : BitVec 32 := 4294967294#32
  let v187 : BitVec 32 := Scalar.addi v19 c_m2_i32
  let c0_i32_124 : BitVec 32 := 0#32
  let v188 : BitVec 1 := Scalar.cmpi .sge v187 c0_i32_124
  let c3_i32_125 : BitVec 32 := 3#32
  let v189 : BitVec 1 := Scalar.cmpi .sle v187 c3_i32_125
  let v190 : BitVec 1 := Scalar.andi v188 v189
  let v193 : BitVec 32 := Scalar.extui v190
  let c0_i32_128 : BitVec 32 := 0#32
  let v194 : BitVec 1 := Scalar.cmpi .ne v193 c0_i32_128
  v194

def k0_off21 (d0 : Dev nD) : Fin 1 → Nat :=
  let c3_i32_127 : BitVec 32 := 3#32
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m2_i32 : BitVec 32 := 4294967294#32
  let v187 : BitVec 32 := Scalar.addi v19 c_m2_i32
  let v191 : BitVec 32 := Scalar.maxsi c0_i32_126 v187
  let v192 : BitVec 32 := Scalar.minsi c3_i32_127 v191
  ![v192.toNat]
def k0_off22 (d0 : Dev nD) : Fin 3 → Nat :=
  let c4_i32_885 : BitVec 32 := 4#32
  let c3_i32_127 : BitVec 32 := 3#32
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m2_i32 : BitVec 32 := 4294967294#32
  let v187 : BitVec 32 := Scalar.addi v19 c_m2_i32
  let v191 : BitVec 32 := Scalar.maxsi c0_i32_126 v187
  let v192 : BitVec 32 := Scalar.minsi c3_i32_127 v191
  let v1035 : BitVec 32 := Scalar.muli c4_i32_885 v192
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1036 : BitVec 32 := Scalar.addi v1035 v29
  let c0_i32_889 : BitVec 32 := 0#32
  let c0_i32_890 : BitVec 32 := 0#32
  ![v1036.toNat, 0, 0]
def k0_off23 (d0 : Dev nD) : Fin 1 → Nat :=
  let c3_i32_127 : BitVec 32 := 3#32
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m2_i32 : BitVec 32 := 4294967294#32
  let v187 : BitVec 32 := Scalar.addi v19 c_m2_i32
  let v191 : BitVec 32 := Scalar.maxsi c0_i32_126 v187
  let v192 : BitVec 32 := Scalar.minsi c3_i32_127 v191
  ![v192.toNat]
def k0_dev17 (d0 : Dev nD) : Nat :=
  let c0_i32_895 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_894 : BitVec 32 := 1#32
  let v1047 : BitVec 32 := Scalar.muli v42 c1_i32_894
  let v1048 : BitVec 32 := Scalar.addi c0_i32_895 v1047
  v1048.toNat
def k0_dev18 (d0 : Dev nD) : Nat :=
  let c0_i32_902 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_901 : BitVec 32 := 1#32
  let v1059 : BitVec 32 := Scalar.muli v55 c1_i32_901
  let v1060 : BitVec 32 := Scalar.addi c0_i32_902 v1059
  v1060.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_150 : BitVec 32 := 2#32
  let v218 : BitVec 32 := Scalar.addi v19 c2_i32_150
  let c0_i32_151 : BitVec 32 := 0#32
  let v219 : BitVec 1 := Scalar.cmpi .sge v218 c0_i32_151
  let c3_i32_152 : BitVec 32 := 3#32
  let v220 : BitVec 1 := Scalar.cmpi .sle v218 c3_i32_152
  let v221 : BitVec 1 := Scalar.andi v219 v220
  let v224 : BitVec 32 := Scalar.extui v221
  let c0_i32_155 : BitVec 32 := 0#32
  let v225 : BitVec 1 := Scalar.cmpi .ne v224 c0_i32_155
  v225

def k0_off24 (d0 : Dev nD) : Fin 1 → Nat :=
  let c3_i32_154 : BitVec 32 := 3#32
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_150 : BitVec 32 := 2#32
  let v218 : BitVec 32 := Scalar.addi v19 c2_i32_150
  let v222 : BitVec 32 := Scalar.maxsi c0_i32_153 v218
  let v223 : BitVec 32 := Scalar.minsi c3_i32_154 v222
  ![v223.toNat]
def k0_off25 (d0 : Dev nD) : Fin 3 → Nat :=
  let c4_i32_885 : BitVec 32 := 4#32
  let c3_i32_154 : BitVec 32 := 3#32
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_150 : BitVec 32 := 2#32
  let v218 : BitVec 32 := Scalar.addi v19 c2_i32_150
  let v222 : BitVec 32 := Scalar.maxsi c0_i32_153 v218
  let v223 : BitVec 32 := Scalar.minsi c3_i32_154 v222
  let v1035 : BitVec 32 := Scalar.muli c4_i32_885 v223
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1036 : BitVec 32 := Scalar.addi v1035 v29
  let c0_i32_889 : BitVec 32 := 0#32
  let c0_i32_890 : BitVec 32 := 0#32
  ![v1036.toNat, 0, 0]
def k0_off26 (d0 : Dev nD) : Fin 1 → Nat :=
  let c3_i32_154 : BitVec 32 := 3#32
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_150 : BitVec 32 := 2#32
  let v218 : BitVec 32 := Scalar.addi v19 c2_i32_150
  let v222 : BitVec 32 := Scalar.maxsi c0_i32_153 v218
  let v223 : BitVec 32 := Scalar.minsi c3_i32_154 v222
  ![v223.toNat]
def k0_dev19 (d0 : Dev nD) : Nat :=
  let c0_i32_895 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_894 : BitVec 32 := 1#32
  let v1047 : BitVec 32 := Scalar.muli v42 c1_i32_894
  let v1048 : BitVec 32 := Scalar.addi c0_i32_895 v1047
  v1048.toNat
def k0_dev20 (d0 : Dev nD) : Nat :=
  let c0_i32_902 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_901 : BitVec 32 := 1#32
  let v1059 : BitVec 32 := Scalar.muli v55 c1_i32_901
  let v1060 : BitVec 32 := Scalar.addi c0_i32_902 v1059
  v1060.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m3_i32 : BitVec 32 := 4294967293#32
  let v249 : BitVec 32 := Scalar.addi v19 c_m3_i32
  let c0_i32_177 : BitVec 32 := 0#32
  let v250 : BitVec 1 := Scalar.cmpi .sge v249 c0_i32_177
  let c3_i32_178 : BitVec 32 := 3#32
  let v251 : BitVec 1 := Scalar.cmpi .sle v249 c3_i32_178
  let v252 : BitVec 1 := Scalar.andi v250 v251
  let v255 : BitVec 32 := Scalar.extui v252
  let c0_i32_181 : BitVec 32 := 0#32
  let v256 : BitVec 1 := Scalar.cmpi .ne v255 c0_i32_181
  v256

def k0_off27 (d0 : Dev nD) : Fin 1 → Nat :=
  let c3_i32_180 : BitVec 32 := 3#32
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m3_i32 : BitVec 32 := 4294967293#32
  let v249 : BitVec 32 := Scalar.addi v19 c_m3_i32
  let v253 : BitVec 32 := Scalar.maxsi c0_i32_179 v249
  let v254 : BitVec 32 := Scalar.minsi c3_i32_180 v253
  ![v254.toNat]
def k0_off28 (d0 : Dev nD) : Fin 3 → Nat :=
  let c4_i32_885 : BitVec 32 := 4#32
  let c3_i32_180 : BitVec 32 := 3#32
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m3_i32 : BitVec 32 := 4294967293#32
  let v249 : BitVec 32 := Scalar.addi v19 c_m3_i32
  let v253 : BitVec 32 := Scalar.maxsi c0_i32_179 v249
  let v254 : BitVec 32 := Scalar.minsi c3_i32_180 v253
  let v1035 : BitVec 32 := Scalar.muli c4_i32_885 v254
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1036 : BitVec 32 := Scalar.addi v1035 v29
  let c0_i32_889 : BitVec 32 := 0#32
  let c0_i32_890 : BitVec 32 := 0#32
  ![v1036.toNat, 0, 0]
def k0_off29 (d0 : Dev nD) : Fin 1 → Nat :=
  let c3_i32_180 : BitVec 32 := 3#32
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c_m3_i32 : BitVec 32 := 4294967293#32
  let v249 : BitVec 32 := Scalar.addi v19 c_m3_i32
  let v253 : BitVec 32 := Scalar.maxsi c0_i32_179 v249
  let v254 : BitVec 32 := Scalar.minsi c3_i32_180 v253
  ![v254.toNat]
def k0_dev21 (d0 : Dev nD) : Nat :=
  let c0_i32_895 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_894 : BitVec 32 := 1#32
  let v1047 : BitVec 32 := Scalar.muli v42 c1_i32_894
  let v1048 : BitVec 32 := Scalar.addi c0_i32_895 v1047
  v1048.toNat
def k0_dev22 (d0 : Dev nD) : Nat :=
  let c0_i32_902 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_901 : BitVec 32 := 1#32
  let v1059 : BitVec 32 := Scalar.muli v55 c1_i32_901
  let v1060 : BitVec 32 := Scalar.addi c0_i32_902 v1059
  v1060.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_203 : BitVec 32 := 3#32
  let v280 : BitVec 32 := Scalar.addi v19 c3_i32_203
  let c0_i32_204 : BitVec 32 := 0#32
  let v281 : BitVec 1 := Scalar.cmpi .sge v280 c0_i32_204
  let c3_i32_205 : BitVec 32 := 3#32
  let v282 : BitVec 1 := Scalar.cmpi .sle v280 c3_i32_205
  let v283 : BitVec 1 := Scalar.andi v281 v282
  let v286 : BitVec 32 := Scalar.extui v283
  let c0_i32_208 : BitVec 32 := 0#32
  let v287 : BitVec 1 := Scalar.cmpi .ne v286 c0_i32_208
  v287

def k0_off30 (d0 : Dev nD) : Fin 1 → Nat :=
  let c3_i32_207 : BitVec 32 := 3#32
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_203 : BitVec 32 := 3#32
  let v280 : BitVec 32 := Scalar.addi v19 c3_i32_203
  let v284 : BitVec 32 := Scalar.maxsi c0_i32_206 v280
  let v285 : BitVec 32 := Scalar.minsi c3_i32_207 v284
  ![v285.toNat]
def k0_off31 (d0 : Dev nD) : Fin 3 → Nat :=
  let c4_i32_885 : BitVec 32 := 4#32
  let c3_i32_207 : BitVec 32 := 3#32
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_203 : BitVec 32 := 3#32
  let v280 : BitVec 32 := Scalar.addi v19 c3_i32_203
  let v284 : BitVec 32 := Scalar.maxsi c0_i32_206 v280
  let v285 : BitVec 32 := Scalar.minsi c3_i32_207 v284
  let v1035 : BitVec 32 := Scalar.muli c4_i32_885 v285
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1036 : BitVec 32 := Scalar.addi v1035 v29
  let c0_i32_889 : BitVec 32 := 0#32
  let c0_i32_890 : BitVec 32 := 0#32
  ![v1036.toNat, 0, 0]
def k0_off32 (d0 : Dev nD) : Fin 1 → Nat :=
  let c3_i32_207 : BitVec 32 := 3#32
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_203 : BitVec 32 := 3#32
  let v280 : BitVec 32 := Scalar.addi v19 c3_i32_203
  let v284 : BitVec 32 := Scalar.maxsi c0_i32_206 v280
  let v285 : BitVec 32 := Scalar.minsi c3_i32_207 v284
  ![v285.toNat]
def k0_dev23 (d0 : Dev nD) : Nat :=
  let c0_i32_895 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_894 : BitVec 32 := 1#32
  let v1047 : BitVec 32 := Scalar.muli v42 c1_i32_894
  let v1048 : BitVec 32 := Scalar.addi c0_i32_895 v1047
  v1048.toNat
def k0_dev24 (d0 : Dev nD) : Nat :=
  let c0_i32_902 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_901 : BitVec 32 := 1#32
  let v1059 : BitVec 32 := Scalar.muli v55 c1_i32_901
  let v1060 : BitVec 32 := Scalar.addi c0_i32_902 v1059
  v1060.toNat
def k0_off33 (d0 : Dev nD) (c0_i32_237 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v311 : BitVec 32 := Scalar.subi v29 c1_i32_230
  let c4_i32_231 : BitVec 32 := 4#32
  let c0_i32_232 : BitVec 32 := 0#32
  let v312 : BitVec 1 := Scalar.cmpi .eq c4_i32_231 c0_i32_232
  let c1_i32_233 : BitVec 32 := 1#32
  let v313 : BitVec 32 := Scalar.select v312 c1_i32_233 c4_i32_231
  let v314 : BitVec 32 := Scalar.remsi v311 v313
  let c0_i32_235 : BitVec 32 := 0#32
  let v316 : BitVec 1 := Scalar.cmpi .slt v314 c0_i32_235
  let c0_i32_236 : BitVec 32 := 0#32
  let v317 : BitVec 1 := Scalar.cmpi .slt v313 c0_i32_236
  let v318 : BitVec 1 := Scalar.xori v316 v317
  let c0_i32_234 : BitVec 32 := 0#32
  let v315 : BitVec 1 := Scalar.cmpi .ne v314 c0_i32_234
  let v319 : BitVec 1 := Scalar.andi v318 v315
  let v320 : BitVec 32 := Scalar.addi v314 v313
  let v321 : BitVec 32 := Scalar.select v319 v320 v314
  let v322 : BitVec 32 := Scalar.addi c0_i32_237 v321
  let c0_i32_250 : BitVec 32 := 0#32
  let c0_i32_251 : BitVec 32 := 0#32
  ![v322.toNat, 0, 0]
def k0_off34 (d0 : Dev nD) (c0_i32_237 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v311 : BitVec 32 := Scalar.subi v29 c1_i32_230
  let c4_i32_231 : BitVec 32 := 4#32
  let c0_i32_232 : BitVec 32 := 0#32
  let v312 : BitVec 1 := Scalar.cmpi .eq c4_i32_231 c0_i32_232
  let c1_i32_233 : BitVec 32 := 1#32
  let v313 : BitVec 32 := Scalar.select v312 c1_i32_233 c4_i32_231
  let v314 : BitVec 32 := Scalar.remsi v311 v313
  let c0_i32_235 : BitVec 32 := 0#32
  let v316 : BitVec 1 := Scalar.cmpi .slt v314 c0_i32_235
  let c0_i32_236 : BitVec 32 := 0#32
  let v317 : BitVec 1 := Scalar.cmpi .slt v313 c0_i32_236
  let v318 : BitVec 1 := Scalar.xori v316 v317
  let c0_i32_234 : BitVec 32 := 0#32
  let v315 : BitVec 1 := Scalar.cmpi .ne v314 c0_i32_234
  let v319 : BitVec 1 := Scalar.andi v318 v315
  let v320 : BitVec 32 := Scalar.addi v314 v313
  let v321 : BitVec 32 := Scalar.select v319 v320 v314
  let v322 : BitVec 32 := Scalar.addi c0_i32_237 v321
  let c0_i32_258 : BitVec 32 := 0#32
  let c0_i32_259 : BitVec 32 := 0#32
  ![v322.toNat, 0, 0]
def k0_dev25 (d0 : Dev nD) : Nat :=
  let c0_i32_257 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_256 : BitVec 32 := 1#32
  let v343 : BitVec 32 := Scalar.muli v42 c1_i32_256
  let v344 : BitVec 32 := Scalar.addi c0_i32_257 v343
  v344.toNat
def k0_off35 (d0 : Dev nD) (c0_i32_237 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v311 : BitVec 32 := Scalar.subi v29 c1_i32_230
  let c4_i32_231 : BitVec 32 := 4#32
  let c0_i32_232 : BitVec 32 := 0#32
  let v312 : BitVec 1 := Scalar.cmpi .eq c4_i32_231 c0_i32_232
  let c1_i32_233 : BitVec 32 := 1#32
  let v313 : BitVec 32 := Scalar.select v312 c1_i32_233 c4_i32_231
  let v314 : BitVec 32 := Scalar.remsi v311 v313
  let c0_i32_235 : BitVec 32 := 0#32
  let v316 : BitVec 1 := Scalar.cmpi .slt v314 c0_i32_235
  let c0_i32_236 : BitVec 32 := 0#32
  let v317 : BitVec 1 := Scalar.cmpi .slt v313 c0_i32_236
  let v318 : BitVec 1 := Scalar.xori v316 v317
  let c0_i32_234 : BitVec 32 := 0#32
  let v315 : BitVec 1 := Scalar.cmpi .ne v314 c0_i32_234
  let v319 : BitVec 1 := Scalar.andi v318 v315
  let v320 : BitVec 32 := Scalar.addi v314 v313
  let v321 : BitVec 32 := Scalar.select v319 v320 v314
  let v322 : BitVec 32 := Scalar.addi c0_i32_237 v321
  let c1536_i32_262 : BitVec 32 := 1536#32
  let v353 : BitVec 32 := Scalar.muli v322 c1536_i32_262
  let c0_i32_265 : BitVec 32 := 0#32
  ![v353.toNat, 0]
def k0_off36 (d0 : Dev nD) (c0_i32_237 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_230 : BitVec 32 := 1#32
  let v311 : BitVec 32 := Scalar.subi v29 c1_i32_230
  let c4_i32_231 : BitVec 32 := 4#32
  let c0_i32_232 : BitVec 32 := 0#32
  let v312 : BitVec 1 := Scalar.cmpi .eq c4_i32_231 c0_i32_232
  let c1_i32_233 : BitVec 32 := 1#32
  let v313 : BitVec 32 := Scalar.select v312 c1_i32_233 c4_i32_231
  let v314 : BitVec 32 := Scalar.remsi v311 v313
  let c0_i32_235 : BitVec 32 := 0#32
  let v316 : BitVec 1 := Scalar.cmpi .slt v314 c0_i32_235
  let c0_i32_236 : BitVec 32 := 0#32
  let v317 : BitVec 1 := Scalar.cmpi .slt v313 c0_i32_236
  let v318 : BitVec 1 := Scalar.xori v316 v317
  let c0_i32_234 : BitVec 32 := 0#32
  let v315 : BitVec 1 := Scalar.cmpi .ne v314 c0_i32_234
  let v319 : BitVec 1 := Scalar.andi v318 v315
  let v320 : BitVec 32 := Scalar.addi v314 v313
  let v321 : BitVec 32 := Scalar.select v319 v320 v314
  let v322 : BitVec 32 := Scalar.addi c0_i32_237 v321
  let v359 : Index := Scalar.indexCast v322
  let c0_268 : Index := 0#32
  let c0_269 : Index := 0#32
  ![v359.toNat, 0, 0]
def k0_off37 (d0 : Dev nD) (c0_i32_245 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_238 : BitVec 32 := 1#32
  let v323 : BitVec 32 := Scalar.addi v29 c1_i32_238
  let c4_i32_239 : BitVec 32 := 4#32
  let c0_i32_240 : BitVec 32 := 0#32
  let v324 : BitVec 1 := Scalar.cmpi .eq c4_i32_239 c0_i32_240
  let c1_i32_241 : BitVec 32 := 1#32
  let v325 : BitVec 32 := Scalar.select v324 c1_i32_241 c4_i32_239
  let v326 : BitVec 32 := Scalar.remsi v323 v325
  let c0_i32_243 : BitVec 32 := 0#32
  let v328 : BitVec 1 := Scalar.cmpi .slt v326 c0_i32_243
  let c0_i32_244 : BitVec 32 := 0#32
  let v329 : BitVec 1 := Scalar.cmpi .slt v325 c0_i32_244
  let v330 : BitVec 1 := Scalar.xori v328 v329
  let c0_i32_242 : BitVec 32 := 0#32
  let v327 : BitVec 1 := Scalar.cmpi .ne v326 c0_i32_242
  let v331 : BitVec 1 := Scalar.andi v330 v327
  let v332 : BitVec 32 := Scalar.addi v326 v325
  let v333 : BitVec 32 := Scalar.select v331 v332 v326
  let v334 : BitVec 32 := Scalar.addi c0_i32_245 v333
  let c0_i32_286 : BitVec 32 := 0#32
  let c0_i32_287 : BitVec 32 := 0#32
  ![v334.toNat, 0, 0]
def k0_off38 (d0 : Dev nD) (c0_i32_245 : BitVec 32) (c1_i32_238 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v323 : BitVec 32 := Scalar.addi v29 c1_i32_238
  let c4_i32_239 : BitVec 32 := 4#32
  let c0_i32_240 : BitVec 32 := 0#32
  let v324 : BitVec 1 := Scalar.cmpi .eq c4_i32_239 c0_i32_240
  let c1_i32_241 : BitVec 32 := 1#32
  let v325 : BitVec 32 := Scalar.select v324 c1_i32_241 c4_i32_239
  let v326 : BitVec 32 := Scalar.remsi v323 v325
  let c0_i32_243 : BitVec 32 := 0#32
  let v328 : BitVec 1 := Scalar.cmpi .slt v326 c0_i32_243
  let c0_i32_244 : BitVec 32 := 0#32
  let v329 : BitVec 1 := Scalar.cmpi .slt v325 c0_i32_244
  let v330 : BitVec 1 := Scalar.xori v328 v329
  let c0_i32_242 : BitVec 32 := 0#32
  let v327 : BitVec 1 := Scalar.cmpi .ne v326 c0_i32_242
  let v331 : BitVec 1 := Scalar.andi v330 v327
  let v332 : BitVec 32 := Scalar.addi v326 v325
  let v333 : BitVec 32 := Scalar.select v331 v332 v326
  let v334 : BitVec 32 := Scalar.addi c0_i32_245 v333
  let c768_i32 : BitVec 32 := 768#32
  let c0_i32_294 : BitVec 32 := 0#32
  ![v334.toNat, 768, 0]
def k0_dev26 (d0 : Dev nD) : Nat :=
  let c0_i32_293 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_292 : BitVec 32 := 1#32
  let v382 : BitVec 32 := Scalar.muli v55 c1_i32_292
  let v383 : BitVec 32 := Scalar.addi c0_i32_293 v382
  v383.toNat
def k0_off39 (d0 : Dev nD) (c0_i32_245 : BitVec 32) (c1_i32_238 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v323 : BitVec 32 := Scalar.addi v29 c1_i32_238
  let c4_i32_239 : BitVec 32 := 4#32
  let c0_i32_240 : BitVec 32 := 0#32
  let v324 : BitVec 1 := Scalar.cmpi .eq c4_i32_239 c0_i32_240
  let c1_i32_241 : BitVec 32 := 1#32
  let v325 : BitVec 32 := Scalar.select v324 c1_i32_241 c4_i32_239
  let v326 : BitVec 32 := Scalar.remsi v323 v325
  let c0_i32_243 : BitVec 32 := 0#32
  let v328 : BitVec 1 := Scalar.cmpi .slt v326 c0_i32_243
  let c0_i32_244 : BitVec 32 := 0#32
  let v329 : BitVec 1 := Scalar.cmpi .slt v325 c0_i32_244
  let v330 : BitVec 1 := Scalar.xori v328 v329
  let c0_i32_242 : BitVec 32 := 0#32
  let v327 : BitVec 1 := Scalar.cmpi .ne v326 c0_i32_242
  let v331 : BitVec 1 := Scalar.andi v330 v327
  let v332 : BitVec 32 := Scalar.addi v326 v325
  let v333 : BitVec 32 := Scalar.select v331 v332 v326
  let v334 : BitVec 32 := Scalar.addi c0_i32_245 v333
  let c1536_i32_297 : BitVec 32 := 1536#32
  let v392 : BitVec 32 := Scalar.muli v334 c1536_i32_297
  let c0_i32_300 : BitVec 32 := 0#32
  ![v392.toNat, 0]
def k0_off40 (d0 : Dev nD) (c0_i32_245 : BitVec 32) (c1_i32_238 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v323 : BitVec 32 := Scalar.addi v29 c1_i32_238
  let c4_i32_239 : BitVec 32 := 4#32
  let c0_i32_240 : BitVec 32 := 0#32
  let v324 : BitVec 1 := Scalar.cmpi .eq c4_i32_239 c0_i32_240
  let c1_i32_241 : BitVec 32 := 1#32
  let v325 : BitVec 32 := Scalar.select v324 c1_i32_241 c4_i32_239
  let v326 : BitVec 32 := Scalar.remsi v323 v325
  let c0_i32_243 : BitVec 32 := 0#32
  let v328 : BitVec 1 := Scalar.cmpi .slt v326 c0_i32_243
  let c0_i32_244 : BitVec 32 := 0#32
  let v329 : BitVec 1 := Scalar.cmpi .slt v325 c0_i32_244
  let v330 : BitVec 1 := Scalar.xori v328 v329
  let c0_i32_242 : BitVec 32 := 0#32
  let v327 : BitVec 1 := Scalar.cmpi .ne v326 c0_i32_242
  let v331 : BitVec 1 := Scalar.andi v330 v327
  let v332 : BitVec 32 := Scalar.addi v326 v325
  let v333 : BitVec 32 := Scalar.select v331 v332 v326
  let v334 : BitVec 32 := Scalar.addi c0_i32_245 v333
  let v398 : Index := Scalar.indexCast v334
  let c0_303 : Index := 0#32
  let c0_304 : Index := 0#32
  ![v398.toNat, 0, 0]
def k0_dev27 (d0 : Dev nD) : Nat :=
  let c0_i32_344 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_343 : BitVec 32 := 1#32
  let v445 : BitVec 32 := Scalar.muli v42 c1_i32_343
  let v446 : BitVec 32 := Scalar.addi c0_i32_344 v445
  v446.toNat
def k0_dev28 (d0 : Dev nD) : Nat :=
  let c0_i32_380 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_379 : BitVec 32 := 1#32
  let v484 : BitVec 32 := Scalar.muli v55 c1_i32_379
  let v485 : BitVec 32 := Scalar.addi c0_i32_380 v484
  v485.toNat
def k0_dev29 (d0 : Dev nD) : Nat :=
  let c0_i32_430 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_429 : BitVec 32 := 1#32
  let v547 : BitVec 32 := Scalar.muli v42 c1_i32_429
  let v548 : BitVec 32 := Scalar.addi c0_i32_430 v547
  v548.toNat
def k0_dev30 (d0 : Dev nD) : Nat :=
  let c0_i32_466 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_465 : BitVec 32 := 1#32
  let v586 : BitVec 32 := Scalar.muli v55 c1_i32_465
  let v587 : BitVec 32 := Scalar.addi c0_i32_466 v586
  v587.toNat
def k0_dev31 (d0 : Dev nD) : Nat :=
  let c0_i32_516 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_515 : BitVec 32 := 1#32
  let v649 : BitVec 32 := Scalar.muli v42 c1_i32_515
  let v650 : BitVec 32 := Scalar.addi c0_i32_516 v649
  v650.toNat
def k0_dev32 (d0 : Dev nD) : Nat :=
  let c0_i32_552 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_551 : BitVec 32 := 1#32
  let v688 : BitVec 32 := Scalar.muli v55 c1_i32_551
  let v689 : BitVec 32 := Scalar.addi c0_i32_552 v688
  v689.toNat
def k0_off41 (d0 : Dev nD) (c0_i32_584 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_577 : BitVec 32 := 2#32
  let v719 : BitVec 32 := Scalar.addi v29 c2_i32_577
  let c4_i32_578 : BitVec 32 := 4#32
  let c0_i32_579 : BitVec 32 := 0#32
  let v720 : BitVec 1 := Scalar.cmpi .eq c4_i32_578 c0_i32_579
  let c1_i32_580 : BitVec 32 := 1#32
  let v721 : BitVec 32 := Scalar.select v720 c1_i32_580 c4_i32_578
  let v722 : BitVec 32 := Scalar.remsi v719 v721
  let c0_i32_582 : BitVec 32 := 0#32
  let v724 : BitVec 1 := Scalar.cmpi .slt v722 c0_i32_582
  let c0_i32_583 : BitVec 32 := 0#32
  let v725 : BitVec 1 := Scalar.cmpi .slt v721 c0_i32_583
  let v726 : BitVec 1 := Scalar.xori v724 v725
  let c0_i32_581 : BitVec 32 := 0#32
  let v723 : BitVec 1 := Scalar.cmpi .ne v722 c0_i32_581
  let v727 : BitVec 1 := Scalar.andi v726 v723
  let v728 : BitVec 32 := Scalar.addi v722 v721
  let v729 : BitVec 32 := Scalar.select v727 v728 v722
  let v730 : BitVec 32 := Scalar.addi c0_i32_584 v729
  let c0_i32_589 : BitVec 32 := 0#32
  let c0_i32_590 : BitVec 32 := 0#32
  ![v730.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_753 : BitVec 32 := 0#32
  let v915 : BitVec 1 := Scalar.cmpi .ne v19 c0_i32_753
  let v916 : BitVec 32 := Scalar.extui v915
  let c0_i32_754 : BitVec 32 := 0#32
  let v917 : BitVec 1 := Scalar.cmpi .ne v916 c0_i32_754
  v917

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_888 : BitVec 32 := 0#32
  let c0_i32_889 : BitVec 32 := 0#32
  ![v2.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_755 : BitVec 32 := 1#32
  let v918 : BitVec 1 := Scalar.cmpi .ne v19 c1_i32_755
  let v919 : BitVec 32 := Scalar.extui v918
  let c0_i32_756 : BitVec 32 := 0#32
  let v920 : BitVec 1 := Scalar.cmpi .ne v919 c0_i32_756
  v920

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_888 : BitVec 32 := 0#32
  let c0_i32_889 : BitVec 32 := 0#32
  ![v2.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_757 : BitVec 32 := 2#32
  let v921 : BitVec 1 := Scalar.cmpi .ne v19 c2_i32_757
  let v922 : BitVec 32 := Scalar.extui v921
  let c0_i32_758 : BitVec 32 := 0#32
  let v923 : BitVec 1 := Scalar.cmpi .ne v922 c0_i32_758
  v923

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_888 : BitVec 32 := 0#32
  let c0_i32_889 : BitVec 32 := 0#32
  ![v2.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_759 : BitVec 32 := 3#32
  let v924 : BitVec 1 := Scalar.cmpi .ne v19 c3_i32_759
  let v925 : BitVec 32 := Scalar.extui v924
  let c0_i32_760 : BitVec 32 := 0#32
  let v926 : BitVec 1 := Scalar.cmpi .ne v925 c0_i32_760
  v926

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_888 : BitVec 32 := 0#32
  let c0_i32_889 : BitVec 32 := 0#32
  ![v2.toNat, 0, 0]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_820 : BitVec 32 := 0#32
  let c0_i32_821 : BitVec 32 := 0#32
  ![v2.toNat, 0, 0]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c768_i32_827 : BitVec 32 := 768#32
  let c0_i32_828 : BitVec 32 := 0#32
  ![v2.toNat, 768, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S24576x768 : Shape := ⟨2, ![24576, 768]⟩
abbrev S768x1536 : Shape := ⟨2, ![768, 1536]⟩
abbrev S24576x1536 : Shape := ⟨2, ![24576, 1536]⟩

abbrev nBuf : Space → Nat
  | .hbm => 6
  | .vmem => 0
  | .smem => 0
  | _ => 0

abbrev bufTy : (tb : Table) → Fin (tcTables nBuf tb) → BufTy
  | .hbm, ⟨0, _⟩ => ⟨S24576x768, .bf16⟩
  | .hbm, ⟨1, _⟩ => ⟨S768x1536, .bf16⟩
  | .hbm, ⟨2, _⟩ => ⟨S24576x768, .f32⟩
  | .hbm, ⟨3, _⟩ => ⟨S768x1536, .f32⟩
  | .hbm, ⟨4, _⟩ => ⟨S24576x1536, .f32⟩
  | .hbm, ⟨5, _⟩ => ⟨S24576x1536, .bf16⟩
  | _, _ => ⟨S24576x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Tables.lean ====
/-
The mesh and the order of the protocol, as tables over the device number.

The sixteen devices form four columns of four: device `c` sits at `(zz c, tt c) = (c / 4, c % 4)`. A device starts twenty
transfers, numbered `j : Fin 20`: `0 … 3` its own block to the device of its column at height `j`; `4 … 7` the block of
its column at height `j - 4` to its right neighbour, `8 … 11` the upper half of a block of its left neighbour's column to
its right neighbour; `12 … 15` and `16 … 19` the same to its left neighbour, with the lower half of a block of its right
neighbour's column. What lands on a device is numbered likewise. The number `zz c` names no transfer: a device does not
send itself its own block.
-/
module

public import proofs.«01_k».proof.Proof.Gen.KernelIdeal

@[expose] public section

set_option maxRecDepth 16384

namespace Cert.Exchange

open Cert.KernelIdeal Cert.KernelIdeal.Gen
open Idealize.ShloMosaic

/-! ## The mesh -/

/-- The height of a device in its column, and its column. -/
def zz (c : Dev nD) : ℕ := c.val / 4
def tt (c : Dev nD) : ℕ := c.val % 4
/-- The device at height `z` of column `t`, both taken modulo four. -/
def at4 (z t : ℕ) : Dev nD := ⟨4 * (z % 4) + t % 4, show _ < 16 by omega⟩
/-- The device of `c`'s column at height `z`; the right neighbour; the left neighbour. -/
def col (c : Dev nD) (z : ℕ) : Dev nD := at4 z (tt c)
def pr (c : Dev nD) : Dev nD := at4 (zz c) (tt c + 1)
def pl (c : Dev nD) : Dev nD := at4 (zz c) (tt c + 3)
/-- The number that names no transfer of `c`. -/
def zi (c : Dev nD) : Fin 20 := ⟨c.val / 4, by have : c.val < 16 := c.isLt; omega⟩

/-! ## The transfers of a device -/

/-- The device transfer `j` of `c` lands on, and the number it has there. -/
def tgt (c : Dev nD) (j : Fin 20) : Dev nD := if j.val < 4 then col c j.val else if j.val < 12 then pr c else pl c
def rix (c : Dev nD) (j : Fin 20) : Fin 20 := if j.val < 4 then zi c else j
/-- The device that starts the transfer landing on `d` under `r`, and the number it has there. -/
def src (d : Dev nD) (r : Fin 20) : Dev nD := if r.val < 4 then col d r.val else if r.val < 12 then pl d else pr d
/-- The block transfer `j` of `c` carries, and its rows. -/
def org (c : Dev nD) (j : Fin 20) : Fin 16 :=
  if j.val < 4 then c else if j.val < 8 then at4 (j.val - 4) (tt c) else if j.val < 12 then at4 (j.val - 8) (tt c + 3)
  else if j.val < 16 then at4 (j.val - 12) (tt c) else at4 (j.val - 16) (tt c + 1)
def isHalf (j : Fin 20) : Bool := (decide (8 ≤ j.val) && decide (j.val < 12)) || decide (16 ≤ j.val)
def lo (j : Fin 20) : ℕ := if 16 ≤ j.val then 768 else 0
def hi (j : Fin 20) : ℕ := if 8 ≤ j.val ∧ j.val < 12 then 768 else 1536
/-- The block that lands on `d` under `r`. -/
def rorg (d : Dev nD) (r : Fin 20) : Fin 16 := org (src d r) (rix d r)
/-- The landing whose rows transfer `j` of `c` reads (`zi c`: its own block). -/
def srcOf (c : Dev nD) (j : Fin 20) : Fin 20 :=
  if j.val < 4 then zi c else if j.val < 8 then ⟨j.val - 4, by omega⟩ else if j.val < 12 then ⟨j.val - 4, by omega⟩
  else if j.val < 16 then ⟨j.val - 12, by omega⟩ else ⟨j.val - 4, by omega⟩
/-- The semaphores: the one on `c` transfer `j` reports its reading on, the one landing `r` reports on. -/
def sS (j : Fin 20) : DmaSem sig := if j.val < 4 then ⟨5 + j.val, show _ < 45 by omega⟩ else if j.val < 12 then ⟨9 + j.val, show _ < 45 by omega⟩ else ⟨17 + j.val, show _ < 45 by omega⟩
def rS (r : Fin 20) : DmaSem sig := if r.val < 4 then ⟨9 + r.val, show _ < 45 by omega⟩ else if r.val < 12 then ⟨17 + r.val, show _ < 45 by omega⟩ else ⟨25 + r.val, show _ < 45 by omega⟩
/-- The levels of the landings: a device waits for the column's blocks, then for its neighbours', then for the halves. -/
def lvR (r : Fin 20) : ℕ := if r.val < 4 then 2 else if isHalf r then 4 else 3

theorem sS_inj : ∀ j j' : Fin 20, sS j = sS j' → j = j' := by decide +kernel
theorem rS_inj : ∀ j j' : Fin 20, rS j = rS j' → j = j' := by decide +kernel
theorem sS_ne_rS : ∀ j j' : Fin 20, sS j ≠ rS j' := by decide +kernel
theorem src_tgt : ∀ (c : Dev nD) (j : Fin 20), src (tgt c j) (rix c j) = c := by decide +kernel
theorem tgt_src : ∀ (d : Dev nD) (r : Fin 20), tgt (src d r) (rix d r) = d := by decide +kernel
theorem rix_rix : ∀ (c : Dev nD) (j : Fin 20), rix (tgt c j) (rix c j) = j := by decide +kernel
theorem rix_rix' : ∀ (c : Dev nD) (j : Fin 20), rix (src c j) (rix c j) = j := by decide +kernel
theorem rorg_tgt (c : Dev nD) (j : Fin 20) : rorg (tgt c j) (rix c j) = org c j := by unfold rorg; rw [src_tgt, rix_rix]
theorem lo_rix : ∀ (c : Dev nD) (j : Fin 20), lo (rix c j) = lo j := by decide +kernel
theorem hi_rix : ∀ (c : Dev nD) (j : Fin 20), hi (rix c j) = hi j := by decide +kernel
theorem isHalf_rix : ∀ (c : Dev nD) (j : Fin 20), isHalf (rix c j) = isHalf j := by decide +kernel
theorem act_rix : ∀ (c : Dev nD) (j : Fin 20), j ≠ zi c → rix c j ≠ zi (tgt c j) := by decide +kernel
theorem act_rix' : ∀ (d : Dev nD) (r : Fin 20), r ≠ zi d → rix d r ≠ zi (src d r) := by decide +kernel
theorem rorg_zi : ∀ c : Dev nD, rorg c (zi c) = c := by decide +kernel
theorem half_iff : ∀ j : Fin 20, lo j < hi j ∧ (isHalf j = true ↔ hi j = lo j + 768) ∧ (isHalf j = false ↔ lo j = 0 ∧ hi j = 1536) := by decide +kernel
/-- Two landings of a device are in different blocks or in different rows. -/
theorem apart : ∀ (c : Dev nD) (r r' : Fin 20), r ≠ r' → rorg c r ≠ rorg c r' ∨ hi r ≤ lo r' ∨ hi r' ≤ lo r := by decide +kernel
/-- Each block is one landing whole or two landings of its halves. -/
theorem whole_or_halves : ∀ (c : Dev nD) (o : Fin 16), (∃ r, rorg c r = o ∧ lo r = 0 ∧ hi r = 1536) ∨ (∃ r r', rorg c r = o ∧ rorg c r' = o ∧ lo r = 0 ∧ hi r = 768 ∧ lo r' = 768 ∧ hi r' = 1536) := by
  decide +kernel
/-- Rows that transfer `j` reads are rows of the landing `srcOf c j`. -/
theorem srcOf_rows : ∀ (c : Dev nD) (j : Fin 20), rorg c (srcOf c j) = org c j ∧ lo (srcOf c j) ≤ lo j ∧ hi j ≤ hi (srcOf c j) := by decide +kernel

/-- Transfers and landings, device by device, correspond. -/
def deal : Dev nD × Fin 20 ≃ Dev nD × Fin 20 where
  toFun x := (tgt x.1 x.2, rix x.1 x.2)
  invFun x := (src x.1 x.2, rix x.1 x.2)
  left_inv x := by simp only [src_tgt, rix_rix]
  right_inv x := by simp only [tgt_src, rix_rix']

/-! ## The order of a device's protocol operations -/

/-- How far block `z'` of the column is from the height `z` in the order blocks are forwarded. -/
def ixz (z z' : ℕ) : ℕ := if z' < z then 2 * (z - z' - 1) else 2 * (z' - z - 1) + 1
/-- The place of the start of transfer `j`, of the wait for landing `r`, of the wait for transfer `j`'s reading. -/
def posS (c : Dev nD) (j : Fin 20) : ℕ :=
  if j.val < 4 then j.val else if j.val < 8 then (if j.val - 4 = zz c then 4 else 7 + 3 * ixz (zz c) (j.val - 4))
  else if j.val < 12 then 25 + 4 * (j.val - 8) else if j.val < 16 then (if j.val - 12 = zz c then 5 else 8 + 3 * ixz (zz c) (j.val - 12))
  else 27 + 4 * (j.val - 16)
def posR (c : Dev nD) (r : Fin 20) : ℕ :=
  if r.val < 4 then 6 + 3 * ixz (zz c) r.val else if r.val < 8 then 24 + 4 * (r.val - 4) else if r.val < 12 then 40 + 2 * (r.val - 8)
  else if r.val < 16 then 26 + 4 * (r.val - 12) else 41 + 2 * (r.val - 16)
def posW (j : Fin 20) : ℕ :=
  if j.val < 4 then 48 + j.val else if j.val < 8 then 52 + 2 * (j.val - 4) else if j.val < 12 then 60 + 2 * (j.val - 8)
  else if j.val < 16 then 53 + 2 * (j.val - 12) else 61 + 2 * (j.val - 16)

theorem posS_inj : ∀ (c : Dev nD) (i j : Fin 20), i ≠ zi c → j ≠ zi c → posS c i = posS c j → i = j := by decide +kernel
theorem posR_inj : ∀ (c : Dev nD) (i j : Fin 20), i ≠ zi c → j ≠ zi c → posR c i = posR c j → i = j := by decide +kernel
theorem posW_inj : ∀ i j : Fin 20, posW i = posW j → i = j := by decide +kernel
theorem posS_ne_posR : ∀ (c : Dev nD) (i j : Fin 20), i ≠ zi c → j ≠ zi c → posS c i ≠ posR c j := by decide +kernel
theorem posS_lt : ∀ (c : Dev nD) (j : Fin 20), j ≠ zi c → posS c j < 48 := by decide +kernel
theorem posR_lt : ∀ (c : Dev nD) (j : Fin 20), j ≠ zi c → posR c j < 48 := by decide +kernel
theorem posW_ge : ∀ j : Fin 20, 48 ≤ posW j ∧ posW j < 68 := by decide +kernel
/-- A transfer starts after the landing it reads. -/
theorem posR_srcOf : ∀ (c : Dev nD) (j : Fin 20), j ≠ zi c → srcOf c j ≠ zi c → posR c (srcOf c j) < posS c j := by decide +kernel
theorem srcOf_zi : ∀ c : Dev nD, srcOf c (zi c) = zi c := by decide +kernel
/-- What a device still has to start when it waits for a landing is at higher levels. -/
theorem levels : ∀ (c : Dev nD) (r j : Fin 20), r ≠ zi c → j ≠ zi c → posR c r ≤ posS c j → lvR r < lvR (rix c j) := by decide +kernel
theorem lvR_ge : ∀ r : Fin 20, 2 ≤ lvR r := by decide +kernel

/-- Transfers not started; started with their reading not waited for; read; with their rows at hand and not started. -/
def Un (c : Dev nD) (n : ℕ) : Finset (Fin 20) := Finset.univ.filter fun j => j ≠ zi c ∧ n ≤ posS c j
def Se (c : Dev nD) (n : ℕ) : Finset (Fin 20) := Finset.univ.filter fun j => j ≠ zi c ∧ posS c j < n ∧ n ≤ posW j
def Ba (c : Dev nD) (n : ℕ) : Finset (Fin 20) := Finset.univ.filter fun j => j = zi c ∨ posW j < n
def Ha (c : Dev nD) (n : ℕ) : Finset (Fin 20) := Finset.univ.filter fun j => j ≠ zi c ∧ (srcOf c j = zi c ∨ posR c (srcOf c j) < n) ∧ n ≤ posS c j
/-- Landings not waited for; had. -/
def Wt (c : Dev nD) (n : ℕ) : Finset (Fin 20) := Finset.univ.filter fun r => r ≠ zi c ∧ n ≤ posR c r
def Kp (c : Dev nD) (n : ℕ) : Finset (Fin 20) := Finset.univ.filter fun r => r = zi c ∨ posR c r < n
/-- The transfers that read the rows of landing `r`. -/
def srcs (c : Dev nD) (r : Fin 20) : Finset (Fin 20) := Finset.univ.filter fun j => srcOf c j = r

section Steps
variable {c : Dev nD} {n : ℕ}

theorem Un_send {j : Fin 20} (hj : j ≠ zi c) (hn : n = posS c j) : Un c n = insert j (Un c (n + 1)) ∧ j ∉ Un c (n + 1) := by
  subst hn
  refine ⟨Finset.ext fun i => ?_, ?_⟩
  · simp only [Un, Finset.mem_filter, Finset.mem_univ, true_and, Finset.mem_insert]
    constructor
    · rintro ⟨h1, h2⟩
      by_cases h : i = j
      · exact .inl h
      · exact .inr ⟨h1, Nat.lt_of_le_of_ne h2 fun e => h (posS_inj c i j h1 hj e.symm)⟩
    · rintro (rfl | ⟨h1, h2⟩)
      · exact ⟨hj, le_refl _⟩
      · exact ⟨h1, by omega⟩
  · simp only [Un, Finset.mem_filter, Finset.mem_univ, true_and]; omega
theorem Un_skip (h : ∀ i, i ≠ zi c → posS c i ≠ n) : Un c (n + 1) = Un c n :=
  Finset.filter_congr fun i _ => and_congr_right fun hi => by have := h i hi; omega

theorem Ha_send {j : Fin 20} (hj : j ≠ zi c) (hn : n = posS c j) : Ha c n = insert j (Ha c (n + 1)) ∧ j ∉ Ha c (n + 1) := by
  subst hn
  refine ⟨Finset.ext fun i => ?_, ?_⟩
  · simp only [Ha, Finset.mem_filter, Finset.mem_univ, true_and, Finset.mem_insert]
    constructor
    · rintro ⟨h1, h2, h3⟩
      by_cases h : i = j
      · exact .inl h
      · exact .inr ⟨h1, h2.imp_right (by omega), Nat.lt_of_le_of_ne h3 fun e => h (posS_inj c i j h1 hj e.symm)⟩
    · rintro (rfl | ⟨h1, h2, h3⟩)
      · exact ⟨hj, or_iff_not_imp_left.mpr fun h => posR_srcOf c i hj h, le_refl _⟩
      · refine ⟨h1, ?_, by omega⟩
        by_cases h : srcOf c i = zi c
        · exact .inl h
        · exact .inr (by have := h2.resolve_left h; have := posS_ne_posR c j (srcOf c i) hj h; omega)
  · simp only [Ha, Finset.mem_filter, Finset.mem_univ, true_and]; omega
theorem Ha_skip (h : ∀ i, i ≠ zi c → posS c i ≠ n) (h' : ∀ r, r ≠ zi c → posR c r ≠ n) : Ha c (n + 1) = Ha c n := by
  refine Finset.filter_congr fun i _ => and_congr_right fun hi => and_congr ?_ (by have := h i hi; omega)
  by_cases hs : srcOf c i = zi c
  · simp only [hs, true_or]
  · simp only [hs, false_or]; have := h' _ hs; omega
theorem Ha_recv {r : Fin 20} (hr : r ≠ zi c) (hn : n = posR c r) : Ha c (n + 1) = Ha c n ∪ srcs c r ∧ Disjoint (Ha c n) (srcs c r) := by
  subst hn
  refine ⟨Finset.ext fun i => ?_, Finset.disjoint_filter.mpr fun i _ h1 h2 => ?_⟩
  · simp only [Ha, srcs, Finset.mem_filter, Finset.mem_univ, true_and, Finset.mem_union]
    constructor
    · rintro ⟨h1, h2, h3⟩
      by_cases hs : srcOf c i = r
      · exact .inr hs
      · refine .inl ⟨h1, ?_, by omega⟩
        by_cases h : srcOf c i = zi c
        · exact .inl h
        · exact .inr (by have := h2.resolve_left h; have := mt (posR_inj c (srcOf c i) r h hr) hs; omega)
    · rintro (⟨h1, h2, h3⟩ | rfl)
      · exact ⟨h1, h2.imp_right (by omega), by have := posS_ne_posR c i r h1 hr; omega⟩
      · have hi : i ≠ zi c := fun e => hr (e ▸ srcOf_zi c)
        exact ⟨hi, .inr (by omega), posR_srcOf c i hi hr⟩
  · rcases h1 with ⟨-, h1 | h1, -⟩
    · exact hr (h2.symm.trans h1)
    · rw [h2] at h1; exact Nat.lt_irrefl _ h1

theorem Se_send {j : Fin 20} (hj : j ≠ zi c) (hn : n = posS c j) : Se c (n + 1) = insert j (Se c n) ∧ j ∉ Se c n := by
  subst hn
  refine ⟨Finset.ext fun i => ?_, ?_⟩
  · have hs := posS_lt c j hj
    have hw := posW_ge i
    simp only [Se, Finset.mem_filter, Finset.mem_univ, true_and, Finset.mem_insert]
    constructor
    · rintro ⟨h1, h2, h3⟩
      by_cases h : i = j
      · exact .inl h
      · exact .inr ⟨h1, by have := mt (posS_inj c i j h1 hj) h; omega, by omega⟩
    · rintro (rfl | ⟨h1, h2, h3⟩)
      · exact ⟨hj, by omega, by omega⟩
      · exact ⟨h1, by omega, by omega⟩
  · simp only [Se, Finset.mem_filter, Finset.mem_univ, true_and]; omega
theorem Se_skip (h : ∀ i, i ≠ zi c → posS c i ≠ n) (h' : ∀ i, i ≠ zi c → posW i ≠ n) : Se c (n + 1) = Se c n :=
  Finset.filter_congr fun i _ => and_congr_right fun hi => by have := h i hi; have := h' i hi; omega
theorem Se_wait {j : Fin 20} (hj : j ≠ zi c) (hn : n = posW j) : Se c n = insert j (Se c (n + 1)) ∧ j ∉ Se c (n + 1) := by
  subst hn
  have hw := posW_ge j
  refine ⟨Finset.ext fun i => ?_, ?_⟩
  · simp only [Se, Finset.mem_filter, Finset.mem_univ, true_and, Finset.mem_insert]
    constructor
    · rintro ⟨h1, h2, h3⟩
      by_cases h : i = j
      · exact .inl h
      · exact .inr ⟨h1, by omega, by have := mt (posW_inj i j) h; omega⟩
    · rintro (rfl | ⟨h1, h2, h3⟩)
      · exact ⟨hj, by have := posS_lt c i hj; omega, le_refl _⟩
      · exact ⟨h1, by have := posS_lt c i h1; omega, by omega⟩
  · simp only [Se, Finset.mem_filter, Finset.mem_univ, true_and]; omega
theorem Ba_wait {j : Fin 20} (hj : j ≠ zi c) (hn : n = posW j) : Ba c (n + 1) = insert j (Ba c n) ∧ j ∉ Ba c n := by
  subst hn
  refine ⟨Finset.ext fun i => ?_, ?_⟩
  · simp only [Ba, Finset.mem_filter, Finset.mem_univ, true_and, Finset.mem_insert]
    by_cases h : i = j
    · subst h; simp only [true_or, iff_true]; omega
    · have := mt (posW_inj i j) h; simp only [h, false_or]; exact or_congr_right (by omega)
  · simp only [Ba, Finset.mem_filter, Finset.mem_univ, true_and]; rintro (h | h)
    · exact hj h
    · omega
theorem Ba_skip (h : ∀ i, i ≠ zi c → posW i ≠ n) : Ba c (n + 1) = Ba c n :=
  Finset.filter_congr fun i _ => by
    by_cases hi : i = zi c
    · simp only [hi, true_or]
    · have := h i hi; simp only [hi, false_or]; omega
theorem Wt_recv {r : Fin 20} (hr : r ≠ zi c) (hn : n = posR c r) : Wt c n = insert r (Wt c (n + 1)) ∧ r ∉ Wt c (n + 1) := by
  subst hn
  refine ⟨Finset.ext fun i => ?_, ?_⟩
  · simp only [Wt, Finset.mem_filter, Finset.mem_univ, true_and, Finset.mem_insert]
    constructor
    · rintro ⟨h1, h2⟩
      by_cases h : i = r
      · exact .inl h
      · exact .inr ⟨h1, Nat.lt_of_le_of_ne h2 fun e => h (posR_inj c i r h1 hr e.symm)⟩
    · rintro (rfl | ⟨h1, h2⟩)
      · exact ⟨hr, le_refl _⟩
      · exact ⟨h1, by omega⟩
  · simp only [Wt, Finset.mem_filter, Finset.mem_univ, true_and]; omega
theorem Wt_skip (h : ∀ i, i ≠ zi c → posR c i ≠ n) : Wt c (n + 1) = Wt c n :=
  Finset.filter_congr fun i _ => and_congr_right fun hi => by have := h i hi; omega
theorem Kp_recv {r : Fin 20} (hr : r ≠ zi c) (hn : n = posR c r) : Kp c (n + 1) = insert r (Kp c n) ∧ r ∉ Kp c n := by
  subst hn
  refine ⟨Finset.ext fun i => ?_, ?_⟩
  · simp only [Kp, Finset.mem_filter, Finset.mem_univ, true_and, Finset.mem_insert]
    by_cases h : i = r
    · subst h; simp only [true_or, iff_true]; omega
    · by_cases h' : i = zi c
      · simp only [h', true_or, or_true]
      · have := mt (posR_inj c i r h' hr) h; simp only [h, h', false_or]; omega
  · simp only [Kp, Finset.mem_filter, Finset.mem_univ, true_and]; rintro (h | h)
    · exact hr h
    · omega
theorem Kp_skip (h : ∀ i, i ≠ zi c → posR c i ≠ n) : Kp c (n + 1) = Kp c n :=
  Finset.filter_congr fun i _ => by
    by_cases hi : i = zi c
    · simp only [hi, true_or]
    · have := h i hi; simp only [hi, false_or]; omega

end Steps

/-- Where the order begins and ends. -/
theorem Un_zero : ∀ c : Dev nD, Un c 0 = Finset.univ.erase (zi c) := by decide +kernel
theorem Se_zero : ∀ c : Dev nD, Se c 0 = ∅ := by decide +kernel
theorem Ba_zero : ∀ c : Dev nD, Ba c 0 = {zi c} := by decide +kernel
theorem Ha_zero : ∀ c : Dev nD, srcs c (zi c) = insert (zi c) (Ha c 0) ∧ zi c ∉ Ha c 0 := by decide +kernel
theorem Wt_zero : ∀ c : Dev nD, Wt c 0 = Finset.univ.erase (zi c) := by decide +kernel
theorem Kp_zero : ∀ c : Dev nD, Kp c 0 = {zi c} := by decide +kernel
theorem last_sets : ∀ c : Dev nD, Un c 68 = ∅ ∧ Se c 68 = ∅ ∧ Ba c 68 = Finset.univ ∧ Ha c 68 = ∅ ∧ Wt c 68 = ∅ ∧ Kp c 68 = Finset.univ := by decide +kernel
theorem Un_48 : ∀ (c : Dev nD) (n : Fin 20), Un c (48 + n.val) = ∅ := by decide +kernel

/-! ## The signals at the start -/

/-- Signal `b` of `c`: `0` to its left neighbour, `1` to its right, `2 + z` to the device of its column at height `z`; the
    number it has there. The number `2 + zz c` names no signal. -/
def btgt (c : Dev nD) (b : Fin 6) : Dev nD := if b.val = 0 then pl c else if b.val = 1 then pr c else col c (b.val - 2)
def bix (c : Dev nD) (b : Fin 6) : Fin 6 := if b.val < 2 then b else ⟨2 + c.val / 4, by have : c.val < 16 := c.isLt; omega⟩
def bz (c : Dev nD) : Fin 6 := ⟨2 + c.val / 4, by have : c.val < 16 := c.isLt; omega⟩
/-- The device signal number `b` of `d` comes from. -/
def bsrc (d : Dev nD) (b : Fin 6) : Dev nD := if b.val = 0 then pr d else if b.val = 1 then pl d else col d (b.val - 2)
/-- The transfers of `d` that signal number `b` allows. -/
def pk (b : Fin 6) : Finset (Fin 20) := Finset.univ.filter fun j => if b.val = 0 then 4 ≤ j.val ∧ j.val < 12 else if b.val = 1 then 12 ≤ j.val else j.val = b.val - 2
/-- Signals not given after the first `n`. -/
def Sg (c : Dev nD) (n : ℕ) : Finset (Fin 6) := Finset.univ.filter fun b => b ≠ bz c ∧ n ≤ b.val

theorem bsrc_btgt : ∀ (c : Dev nD) (b : Fin 6), bsrc (btgt c b) (bix c b) = c := by decide +kernel
theorem btgt_bsrc : ∀ (d : Dev nD) (b : Fin 6), btgt (bsrc d b) (bix d b) = d := by decide +kernel
theorem bix_bix : ∀ (c : Dev nD) (b : Fin 6), bix (btgt c b) (bix c b) = b := by decide +kernel
theorem bix_bix' : ∀ (c : Dev nD) (b : Fin 6), bix (bsrc c b) (bix c b) = b := by decide +kernel
theorem bact : ∀ (c : Dev nD) (b : Fin 6), b ≠ bz c → bix c b ≠ bz (btgt c b) := by decide +kernel
/-- The transfers a signal of `c` allows land on `c`. -/
theorem pk_tgt : ∀ (c : Dev nD) (b : Fin 6), ∀ j ∈ pk (bix c b), tgt (btgt c b) j = c := by decide +kernel
/-- The landings on `c` that signal `b` of `c` gives away. -/
def pkr (c : Dev nD) (b : Fin 6) : Finset (Fin 20) := (pk (bix c b)).image (rix (btgt c b))
theorem pkr_inj : ∀ (c : Dev nD) (b : Fin 6), ∀ j ∈ pk (bix c b), ∀ j' ∈ pk (bix c b), rix (btgt c b) j = rix (btgt c b) j' → j = j' := by decide +kernel
theorem pkr_disj : ∀ (c : Dev nD) (b b' : Fin 6), b ≠ b' → Disjoint (pkr c b) (pkr c b') := by decide +kernel
theorem pkr_union : ∀ c : Dev nD, (Finset.univ.erase (bz c)).biUnion (pkr c) = Finset.univ.erase (zi c) := by decide +kernel
theorem pk_disj : ∀ b b' : Fin 6, b ≠ b' → Disjoint (pk b) (pk b') := by decide +kernel
theorem pk_union : ∀ c : Dev nD, (Finset.univ.erase (bz c)).biUnion pk = Finset.univ.erase (zi c) := by decide +kernel
theorem Sg_zero : ∀ c : Dev nD, Sg c 0 = Finset.univ.erase (bz c) := by decide +kernel
theorem Sg_six : ∀ c : Dev nD, Sg c 6 = ∅ := by decide +kernel
theorem Sg_step : ∀ (c : Dev nD) (b : Fin 6), b ≠ bz c → Sg c b.val = insert b (Sg c (b.val + 1)) ∧ b ∉ Sg c (b.val + 1) := by decide +kernel
theorem Sg_skip : ∀ c : Dev nD, Sg c ((bz c).val + 1) = Sg c (bz c).val := by decide +kernel
theorem card_bz : ∀ c : Dev nD, (Finset.univ.erase (bz c)).card = 5 := by decide +kernel

def bdeal : Dev nD × Fin 6 ≃ Dev nD × Fin 6 where
  toFun x := (btgt x.1 x.2, bix x.1 x.2)
  invFun x := (bsrc x.1 x.2, bix x.1 x.2)
  left_inv x := by simp only [bsrc_btgt, bix_bix]
  right_inv x := by simp only [btgt_bsrc, bix_bix']

end Cert.Exchange
-- ==== Proof.Printed.lean ====
/-
The printed device numbers, conditions and offsets of the kernel, in closed form over the device number: which device each
signal and transfer names, which operations a device skips, which block each access is at, which semaphore each names.
-/
module

public import proofs.«01_k».proof.Proof.Tables

@[expose] public section

set_option maxRecDepth 16384

namespace Cert.Exchange

open Cert.KernelIdeal Cert.KernelIdeal.Gen
open Idealize.ShloMosaic

/-! ## Devices -/

theorem dev1_eq : ∀ c : Dev nD, k0_dev1 c = (pl c).val := by decide +kernel
theorem dev2_eq : ∀ c : Dev nD, k0_dev2 c = (pr c).val := by decide +kernel
theorem dev3_eq : ∀ c : Dev nD, k0_cond1 c = 1#1 → k0_dev3 c = (col c 0).val := by decide +kernel
theorem dev4_eq : ∀ c : Dev nD, k0_cond2 c = 1#1 → k0_dev4 c = (col c 1).val := by decide +kernel
theorem dev5_eq : ∀ c : Dev nD, k0_cond3 c = 1#1 → k0_dev5 c = (col c 2).val := by decide +kernel
theorem dev6_eq : ∀ c : Dev nD, k0_cond4 c = 1#1 → k0_dev6 c = (col c 3).val := by decide +kernel
theorem dev7_eq : ∀ c : Dev nD, k0_cond5 c = 1#1 → k0_dev7 c = (col c 0).val := by decide +kernel
theorem dev8_eq : ∀ c : Dev nD, k0_cond6 c = 1#1 → k0_dev8 c = (col c 1).val := by decide +kernel
theorem dev9_eq : ∀ c : Dev nD, k0_cond7 c = 1#1 → k0_dev9 c = (col c 2).val := by decide +kernel
theorem dev10_eq : ∀ c : Dev nD, k0_cond8 c = 1#1 → k0_dev10 c = (col c 3).val := by decide +kernel
theorem dev11_eq : ∀ c : Dev nD, k0_dev11 c = (pr c).val := by decide +kernel
theorem dev12_eq : ∀ c : Dev nD, k0_dev12 c = (pl c).val := by decide +kernel
theorem dev13_eq : ∀ c : Dev nD, k0_cond9 c = 1#1 → k0_dev13 c = (pr c).val := by decide +kernel
theorem dev14_eq : ∀ c : Dev nD, k0_cond9 c = 1#1 → k0_dev14 c = (pl c).val := by decide +kernel
theorem dev15_eq : ∀ c : Dev nD, k0_cond10 c = 1#1 → k0_dev15 c = (pr c).val := by decide +kernel
theorem dev16_eq : ∀ c : Dev nD, k0_cond10 c = 1#1 → k0_dev16 c = (pl c).val := by decide +kernel
theorem dev17_eq : ∀ c : Dev nD, k0_cond11 c = 1#1 → k0_dev17 c = (pr c).val := by decide +kernel
theorem dev18_eq : ∀ c : Dev nD, k0_cond11 c = 1#1 → k0_dev18 c = (pl c).val := by decide +kernel
theorem dev19_eq : ∀ c : Dev nD, k0_cond12 c = 1#1 → k0_dev19 c = (pr c).val := by decide +kernel
theorem dev20_eq : ∀ c : Dev nD, k0_cond12 c = 1#1 → k0_dev20 c = (pl c).val := by decide +kernel
theorem dev21_eq : ∀ c : Dev nD, k0_cond13 c = 1#1 → k0_dev21 c = (pr c).val := by decide +kernel
theorem dev22_eq : ∀ c : Dev nD, k0_cond13 c = 1#1 → k0_dev22 c = (pl c).val := by decide +kernel
theorem dev23_eq : ∀ c : Dev nD, k0_cond14 c = 1#1 → k0_dev23 c = (pr c).val := by decide +kernel
theorem dev24_eq : ∀ c : Dev nD, k0_cond14 c = 1#1 → k0_dev24 c = (pl c).val := by decide +kernel
theorem dev25_eq : ∀ c : Dev nD, k0_dev25 c = (pr c).val ∧ k0_dev27 c = (pr c).val ∧ k0_dev29 c = (pr c).val ∧ k0_dev31 c = (pr c).val := by decide +kernel
theorem dev26_eq : ∀ c : Dev nD, k0_dev26 c = (pl c).val ∧ k0_dev28 c = (pl c).val ∧ k0_dev30 c = (pl c).val ∧ k0_dev32 c = (pl c).val := by decide +kernel

/-! ## Conditions -/

/-- The block of the column a device forwards at step `i`, held between `0` and `3`; whether it forwards one. -/
def fw (c : Dev nD) (i : Fin 6) : Fin 20 := if i.val % 2 = 0 then ⟨(c.val / 4) - (i.val / 2 + 1), by have : c.val < 16 := c.isLt; omega⟩ else ⟨min 3 (c.val / 4 + (i.val / 2 + 1)), by omega⟩
def fv (c : Dev nD) (i : Fin 6) : Prop := if i.val % 2 = 0 then i.val / 2 + 1 ≤ c.val / 4 else c.val / 4 + (i.val / 2 + 1) ≤ 3
instance (c : Dev nD) (i : Fin 6) : Decidable (fv c i) := by unfold fv; infer_instance

theorem cond1_iff : ∀ c : Dev nD, k0_cond1 c = 1#1 ↔ (2 : Fin 6) ≠ bz c := by decide +kernel
theorem cond2_iff : ∀ c : Dev nD, k0_cond2 c = 1#1 ↔ (3 : Fin 6) ≠ bz c := by decide +kernel
theorem cond3_iff : ∀ c : Dev nD, k0_cond3 c = 1#1 ↔ (4 : Fin 6) ≠ bz c := by decide +kernel
theorem cond4_iff : ∀ c : Dev nD, k0_cond4 c = 1#1 ↔ (5 : Fin 6) ≠ bz c := by decide +kernel
theorem cond5_iff : ∀ c : Dev nD, k0_cond5 c = 1#1 ↔ (0 : Fin 20) ≠ zi c := by decide +kernel
theorem cond6_iff : ∀ c : Dev nD, k0_cond6 c = 1#1 ↔ (1 : Fin 20) ≠ zi c := by decide +kernel
theorem cond7_iff : ∀ c : Dev nD, k0_cond7 c = 1#1 ↔ (2 : Fin 20) ≠ zi c := by decide +kernel
theorem cond8_iff : ∀ c : Dev nD, k0_cond8 c = 1#1 ↔ (3 : Fin 20) ≠ zi c := by decide +kernel
theorem cond9_iff : ∀ c : Dev nD, k0_cond9 c = 1#1 ↔ fv c 0 := by decide +kernel
theorem cond10_iff : ∀ c : Dev nD, k0_cond10 c = 1#1 ↔ fv c 1 := by decide +kernel
theorem cond11_iff : ∀ c : Dev nD, k0_cond11 c = 1#1 ↔ fv c 2 := by decide +kernel
theorem cond12_iff : ∀ c : Dev nD, k0_cond12 c = 1#1 ↔ fv c 3 := by decide +kernel
theorem cond13_iff : ∀ c : Dev nD, k0_cond13 c = 1#1 ↔ fv c 4 := by decide +kernel
theorem cond14_iff : ∀ c : Dev nD, k0_cond14 c = 1#1 ↔ fv c 5 := by decide +kernel
theorem cond15_iff : ∀ c : Dev nD, k0_cond15 c = 1#1 ↔ (0 : Fin 20) ≠ zi c := by decide +kernel
theorem cond16_iff : ∀ c : Dev nD, k0_cond16 c = 1#1 ↔ (1 : Fin 20) ≠ zi c := by decide +kernel
theorem cond17_iff : ∀ c : Dev nD, k0_cond17 c = 1#1 ↔ (2 : Fin 20) ≠ zi c := by decide +kernel
theorem cond18_iff : ∀ c : Dev nD, k0_cond18 c = 1#1 ↔ (3 : Fin 20) ≠ zi c := by decide +kernel

/-! ## The places of the forwarding steps -/

/-- The transfers to the right and to the left of column block `r`. -/
def toR (r : Fin 20) : Fin 20 := ⟨(4 + r.val) % 20, Nat.mod_lt _ (by decide)⟩
def toL (r : Fin 20) : Fin 20 := ⟨(12 + r.val) % 20, Nat.mod_lt _ (by decide)⟩
theorem fw_lt : ∀ (c : Dev nD) (i : Fin 6), (fw c i).val < 4 := by decide +kernel
theorem fw_pos : ∀ (c : Dev nD) (i : Fin 6), fv c i → fw c i ≠ zi c ∧ posR c (fw c i) = 6 + 3 * i.val ∧ toR (fw c i) ≠ zi c ∧ posS c (toR (fw c i)) = 7 + 3 * i.val ∧ toL (fw c i) ≠ zi c ∧ posS c (toL (fw c i)) = 8 + 3 * i.val := by
  decide +kernel
theorem fw_skip : ∀ (c : Dev nD) (i : Fin 6), ¬ fv c i → ∀ r : Fin 20, r ≠ zi c → (posR c r < 6 + 3 * i.val ∨ 9 + 3 * i.val ≤ posR c r) ∧ (posS c r < 6 + 3 * i.val ∨ 9 + 3 * i.val ≤ posS c r) := by
  decide +kernel
theorem own_pos : ∀ c : Dev nD, toR (zi c) ≠ zi c ∧ posS c (toR (zi c)) = 4 ∧ toL (zi c) ≠ zi c ∧ posS c (toL (zi c)) = 5 := by decide +kernel
theorem tgt_toR : ∀ c : Dev nD, ∀ r : Fin 20, r.val < 4 → tgt c (toR r) = pr c ∧ org c (toR r) = col c r.val ∧ isHalf (toR r) = false ∧ rix c (toR r) = toR r := by decide +kernel
theorem tgt_toL : ∀ c : Dev nD, ∀ r : Fin 20, r.val < 4 → tgt c (toL r) = pl c ∧ org c (toL r) = col c r.val ∧ isHalf (toL r) = false ∧ rix c (toL r) = toL r := by decide +kernel
theorem col_zi : ∀ c : Dev nD, col c (zi c).val = c := by decide +kernel
theorem zi_lt : ∀ c : Dev nD, (zi c).val < 4 := by decide +kernel

/-! ## The block of each product -/

/-- The block whose product a device takes at its `k`-th time. -/
def og (c : Dev nD) (k : ℕ) : Fin 16 :=
  if k = 0 then c else if h : k < 7 then col c (fw c ⟨k - 1, by omega⟩).val
  else if k < 15 then at4 ((k - 7) / 2) (tt c + (if k % 2 = 1 then 3 else 1)) else at4 (k - 15) (tt c + 2)
/-- The place in the order of the protocol of the `k`-th product. -/
def posC (k : ℕ) : ℕ := if k = 0 then 6 else if k < 7 then 6 + 3 * k else if k < 15 then 26 + 2 * (k - 7) else 42 + 2 * (k - 15)
/-- The landings that make up block `o`. -/
def rdOf (c : Dev nD) (o : Fin 16) : Finset (Fin 20) := Finset.univ.filter fun r => rorg c r = o
theorem rdOf_had : ∀ (c : Dev nD) (k : Fin 19), rdOf c (og c k.val) ⊆ Kp c (posC k.val) := by decide +kernel
/-- Every block has its product taken. -/
theorem og_onto : ∀ (c : Dev nD) (o : Fin 16), ∃ k : Fin 19, og c k.val = o := by decide +kernel
/-- Two products of one block: an even number of times apart, but for the first two of the devices at height `0`. -/
theorem og_again : ∀ (c : Dev nD) (k k' : Fin 19), k.val < k'.val → og c k.val = og c k'.val → k.val % 2 = k'.val % 2 ∨ (k.val = 0 ∧ k'.val = 1 ∧ c.val < 4) ∨ k.val + 1 < k'.val := by
  decide +kernel

/-! ## Offsets -/

theorem off2_eq : ∀ c : Dev nD, k0_off2 c = ![(zi c).val] ∧ k0_off4 c = ![(zi c).val] ∧ k0_off6 c = ![(zi c).val] ∧ k0_off8 c = ![(zi c).val] ∧ k0_off10 c = ![(zi c).val] := by decide +kernel
theorem off13_eq : ∀ c : Dev nD, fv c 0 → k0_off13 c = ![(fw c 0).val] ∧ k0_off14 c = ![(col c (fw c 0).val).val, 0, 0] ∧ k0_off15 c = ![(fw c 0).val] := by decide +kernel
theorem off18_eq : ∀ c : Dev nD, fv c 1 → k0_off18 c = ![(fw c 1).val] ∧ k0_off19 c = ![(col c (fw c 1).val).val, 0, 0] ∧ k0_off20 c = ![(fw c 1).val] := by decide +kernel
theorem off21_eq : ∀ c : Dev nD, fv c 2 → k0_off21 c = ![(fw c 2).val] ∧ k0_off22 c = ![(col c (fw c 2).val).val, 0, 0] ∧ k0_off23 c = ![(fw c 2).val] := by decide +kernel
theorem off24_eq : ∀ c : Dev nD, fv c 3 → k0_off24 c = ![(fw c 3).val] ∧ k0_off25 c = ![(col c (fw c 3).val).val, 0, 0] ∧ k0_off26 c = ![(fw c 3).val] := by decide +kernel
theorem off27_eq : ∀ c : Dev nD, fv c 4 → k0_off27 c = ![(fw c 4).val] ∧ k0_off28 c = ![(col c (fw c 4).val).val, 0, 0] ∧ k0_off29 c = ![(fw c 4).val] := by decide +kernel
theorem off30_eq : ∀ c : Dev nD, fv c 5 → k0_off30 c = ![(fw c 5).val] ∧ k0_off31 c = ![(col c (fw c 5).val).val, 0, 0] ∧ k0_off32 c = ![(fw c 5).val] := by decide +kernel
theorem off16_eq : ∀ (c : Dev nD) (i : Fin 6), k0_off16 c (k0_off16_at i) = ![(og c (i.val + 1)).val, 0, 0] ∧ k0_off17 c (k0_off17_at i) = ![1536 * (og c (i.val + 1)).val, 0] := by decide +kernel
theorem off34_eq : ∀ (c : Dev nD) (q : Fin 4), k0_off34 c (BitVec.ofNat 32 (4 * q.val)) = ![(org c ⟨8 + q.val, by omega⟩).val, 0, 0] := by decide +kernel
theorem off36_eq : ∀ (c : Dev nD) (q : Fin 4), k0_off36 c (BitVec.ofNat 32 (4 * q.val)) = ![(og c (7 + 2 * q.val)).val, 0, 0] ∧ k0_off35 c (BitVec.ofNat 32 (4 * q.val)) = ![1536 * (og c (7 + 2 * q.val)).val, 0] := by decide +kernel
theorem off38_eq : ∀ (c : Dev nD) (q : Fin 4), k0_off38 c (BitVec.ofNat 32 (4 * q.val)) 1#32 = ![(org c ⟨16 + q.val, by omega⟩).val, 768, 0] := by decide +kernel
theorem off40_eq : ∀ (c : Dev nD) (q : Fin 4), k0_off40 c (BitVec.ofNat 32 (4 * q.val)) 1#32 = ![(og c (8 + 2 * q.val)).val, 0, 0] ∧ k0_off39 c (BitVec.ofNat 32 (4 * q.val)) 1#32 = ![1536 * (og c (8 + 2 * q.val)).val, 0] := by decide +kernel
theorem off40_eq' : ∀ (c : Dev nD) (q : Fin 4), k0_off40 c (BitVec.ofNat 32 (4 * q.val)) 2#32 = ![(og c (15 + q.val)).val, 0, 0] ∧ k0_off39 c (BitVec.ofNat 32 (4 * q.val)) 2#32 = ![1536 * (og c (15 + q.val)).val, 0] := by decide +kernel

/-! ## Semaphores -/

theorem inb2 : ∀ (i : Fin 2) (a), (![i.val] : Fin 1 → ℕ) a + S1.size a ≤ S2.size a := by decide +kernel
theorem inb4 : ∀ (i : Fin 4) (a), (![i.val] : Fin 1 → ℕ) a + S1.size a ≤ S4.size a := by decide +kernel
theorem inb8 : ∀ (i : Fin 8) (a), (![i.val] : Fin 1 → ℕ) a + S1.size a ≤ S8.size a := by decide +kernel
/-- The semaphore the copies out of staging slot `i` report on. -/
def cS (i : Fin 2) : DmaSem sig := ⟨3 + i.val, show _ < 45 by omega⟩
theorem zsend_at : ∀ i : Fin 4, ((cc0_scratch5.slice (Rect.unit (s := S4) ![i.val] S1.size (inb4 i))).squeeze S_ squeezes_S1_S_).sem = sS ⟨i.val, by omega⟩ := by decide +kernel
theorem zsend_sem {off : Fin 1 → ℕ} {inb} {h} (i : Fin 4) (ho : off = ![i.val]) : ((cc0_scratch5.slice (Rect.unit (s := S4) off S1.size inb)).squeeze S_ h).sem = sS ⟨i.val, by omega⟩ := by
  subst ho; exact zsend_at i
theorem zrecv_at : ∀ i : Fin 4, ((cc0_scratch6.slice (Rect.unit (s := S4) ![i.val] S1.size (inb4 i))).squeeze S_ squeezes_S1_S_).sem = rS ⟨i.val, by omega⟩ := by decide +kernel
theorem zrecv_sem {off : Fin 1 → ℕ} {inb} {h} (i : Fin 4) (ho : off = ![i.val]) : ((cc0_scratch6.slice (Rect.unit (s := S4) off S1.size inb)).squeeze S_ h).sem = rS ⟨i.val, by omega⟩ := by
  subst ho; exact zrecv_at i
theorem psend_p_at : ∀ i : Fin 8, ((cc0_scratch7.slice (Rect.unit (s := S8) ![i.val] S1.size (inb8 i))).squeeze S_ squeezes_S1_S_).sem = sS ⟨4 + i.val, by omega⟩ := by decide +kernel
theorem psend_p_sem {off : Fin 1 → ℕ} {inb} {h} (i : Fin 8) (ho : off = ![i.val]) : ((cc0_scratch7.slice (Rect.unit (s := S8) off S1.size inb)).squeeze S_ h).sem = sS ⟨4 + i.val, by omega⟩ := by
  subst ho; exact psend_p_at i
theorem precv_p_at : ∀ i : Fin 8, ((cc0_scratch8.slice (Rect.unit (s := S8) ![i.val] S1.size (inb8 i))).squeeze S_ squeezes_S1_S_).sem = rS ⟨4 + i.val, by omega⟩ := by decide +kernel
theorem precv_p_sem {off : Fin 1 → ℕ} {inb} {h} (i : Fin 8) (ho : off = ![i.val]) : ((cc0_scratch8.slice (Rect.unit (s := S8) off S1.size inb)).squeeze S_ h).sem = rS ⟨4 + i.val, by omega⟩ := by
  subst ho; exact precv_p_at i
theorem psend_m_at : ∀ i : Fin 8, ((cc0_scratch9.slice (Rect.unit (s := S8) ![i.val] S1.size (inb8 i))).squeeze S_ squeezes_S1_S_).sem = sS ⟨12 + i.val, by omega⟩ := by decide +kernel
theorem psend_m_sem {off : Fin 1 → ℕ} {inb} {h} (i : Fin 8) (ho : off = ![i.val]) : ((cc0_scratch9.slice (Rect.unit (s := S8) off S1.size inb)).squeeze S_ h).sem = sS ⟨12 + i.val, by omega⟩ := by
  subst ho; exact psend_m_at i
theorem precv_m_at : ∀ i : Fin 8, ((cc0_scratch10.slice (Rect.unit (s := S8) ![i.val] S1.size (inb8 i))).squeeze S_ squeezes_S1_S_).sem = rS ⟨12 + i.val, by omega⟩ := by decide +kernel
theorem precv_m_sem {off : Fin 1 → ℕ} {inb} {h} (i : Fin 8) (ho : off = ![i.val]) : ((cc0_scratch10.slice (Rect.unit (s := S8) off S1.size inb)).squeeze S_ h).sem = rS ⟨12 + i.val, by omega⟩ := by
  subst ho; exact precv_m_at i
theorem copy_at : ∀ i : Fin 2, ((cc0_scratch4.slice (Rect.unit (s := S2) ![i.val] S1.size (inb2 i))).squeeze S_ squeezes_S1_S_).sem = cS i := by decide +kernel
theorem copy_sem {off : Fin 1 → ℕ} {inb} {h} (i : Fin 2) (ho : off = ![i.val]) : ((cc0_scratch4.slice (Rect.unit (s := S2) off S1.size inb)).squeeze S_ h).sem = cS i := by
  subst ho; exact copy_at i

end Cert.Exchange
-- ==== Proof.Regions.lean ====
/-
The regions of the communication buffer and what they hold: which rows each transfer reads and writes, as sets of
elements; how one landing's rows are shared out between the transfers that forward them and the product that reads them.
-/
module

public import proofs.«01_k».proof.Proof.Printed
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's own algebra, the protocol's (a cell's duties numbered up to six), and counters for the copies. -/
abbrev UU : Type := UR sig nD τ × (Rounds.URounds (GSem nD τ sig) (Fin 6) × Counters)

local notation "𝕄" => MT nD τ sig Unit (Elt F) ℕ UU ℕ

abbrev EP : Emb (UR sig nD τ) (MT nD τ sig Unit (Elt F) ℕ UU ℕ) := embL
def ER : Emb (Rounds.URounds (GSem nD τ sig) (Fin 6)) (MT nD τ sig Unit (Elt F) ℕ UU ℕ) :=
  (Emb.inl : Emb _ (Rounds.URounds (GSem nD τ sig) (Fin 6) × Counters)).trans embR
instance ER_landsIn : (ER : Emb (Rounds.URounds (GSem nD τ sig) (Fin 6)) 𝕄).LandsIn (upEmb : UEmb _ 𝕄) := by
  unfold ER embR; infer_instance
abbrev EC : UEmb Counters (MT nD τ sig Unit (Elt F) ℕ UU ℕ) := countersEmb

variable (m : (ℓ : Loc nD τ sig) → Buf (Elt F) ℓ) (ρ : Dev nD → PrngReg)

def s₀ : MemSt nD τ sig (Elt F) := ⟨m, fun _ => 0, ρ⟩

/-! ## Memrefs -/

abbrev aM : Memref sig .tc .vmem S1536x768 .bf16 := Memref.whole cc0_stg0_0
abbrev bM : Memref sig .tc .vmem S768x1536 .bf16 := Memref.whole cc0_stg1_0
abbrev oM : Memref sig .tc .hbm S24576x1536 .bf16 := Memref.whole main_v1
abbrev cM : Memref sig .tc .vmem S16x1536x768 .bf16 := Memref.whole cc0_scratch0
abbrev sM : Memref sig .tc .vmem S2x1536x1536 .bf16 := Memref.whole cc0_scratch1
abbrev wM : Memref sig .tc .vmem S768x1536 .bf16 := Memref.whole cc0_scratch2

/-- A block of the communication buffer at offsets `off`, as the kernel's transfers name it; half a block. -/
abbrev blkM (off : Fin 3 → ℕ) (h : ∀ a, off a + S1x1536x768.size a ≤ S16x1536x768.size a) : Memref sig .tc .vmem S1536x768 .bf16 :=
  (cM.slice (Rect.unit (s := S16x1536x768) off S1x1536x768.size h) (fun _ => rfl)).squeeze S1536x768 squeezes_S1x1536x768_S1536x768
abbrev halfM (off : Fin 3 → ℕ) (h : ∀ a, off a + S1x768x768.size a ≤ S16x1536x768.size a) : Memref sig .tc .vmem S768x768 .bf16 :=
  (cM.slice (Rect.unit (s := S16x1536x768) off S1x768x768.size h) (fun _ => rfl)).squeeze S768x768 squeezes_S1x768x768_S768x768

/-- What a whole block's transfer counts for on its semaphores, and half a block's. -/
def NF : ℕ := (blkM ![0, 0, 0] (by decide)).view.dmaCredit
def NH : ℕ := (halfM ![0, 0, 0] (by decide)).view.dmaCredit
theorem NF_pos : 0 < NF := View.dmaCredit_pos _ (by decide)
theorem NH_pos : 0 < NH := View.dmaCredit_pos _ (by decide)
theorem blk_credit (off) (h) : (blkM off h).view.dmaCredit = NF := rfl
theorem half_credit (off) (h) : (halfM off h).view.dmaCredit = NH := rfl
/-- What transfer `j` counts for. -/
def NN (j : Fin 20) : ℕ := if isHalf j then NH else NF
theorem NN_pos (j : Fin 20) : 0 < NN j := by unfold NN; split; exacts [NH_pos, NF_pos]
theorem NN_rix (c : Dev nD) (j : Fin 20) : NN (rix c j) = NN j := by unfold NN; rw [isHalf_rix]

/-! ## Regions -/

/-- The elements of block `o` in the rows of transfer `j`. -/
def reg (o : Fin 16) (j : Fin 20) : Finset S16x1536x768.Idx := Finset.univ.filter fun i => (i 0).val = o.val ∧ lo j ≤ (i 1).val ∧ (i 1).val < hi j
theorem mem_reg {o : Fin 16} {j : Fin 20} {i : S16x1536x768.Idx} : i ∈ reg o j ↔ (i 0).val = o.val ∧ lo j ≤ (i 1).val ∧ (i 1).val < hi j := by
  unfold reg; rw [Finset.mem_filter]; exact and_iff_right (Finset.mem_univ _)
/-- The elements of block `o`. -/
def blk (o : Fin 16) : Finset S16x1536x768.Idx := Finset.univ.filter fun i => (i 0).val = o.val
theorem mem_blk {o : Fin 16} {i : S16x1536x768.Idx} : i ∈ blk o ↔ (i 0).val = o.val := by
  unfold blk; rw [Finset.mem_filter]; exact and_iff_right (Finset.mem_univ _)

theorem reg_congr {o : Fin 16} {j j' : Fin 20} (h : lo j = lo j') (h' : hi j = hi j') : reg o j = reg o j' := by unfold reg; rw [h, h']
theorem reg_tgt (c : Dev nD) (j : Fin 20) : reg (rorg (tgt c j) (rix c j)) (rix c j) = reg (org c j) j := by
  rw [rorg_tgt]; exact reg_congr (lo_rix c j) (hi_rix c j)
theorem reg_disj (c : Dev nD) (r r' : Fin 20) (h : r ≠ r') : Disjoint (reg (rorg c r) r) (reg (rorg c r') r') := by
  rw [Finset.disjoint_left]; intro i hi hi'
  rw [mem_reg] at hi hi'
  rcases apart c r r' h with h | h | h
  · exact h (Fin.ext (hi.1.symm.trans hi'.1))
  · omega
  · omega
theorem blk_eq (c : Dev nD) (o : Fin 16) : blk o = (rdOf c o).biUnion fun r => reg (rorg c r) r := by
  ext i
  rw [mem_blk, Finset.mem_biUnion]
  constructor
  · intro h
    have hi := (i 1).isLt
    have hi' : (i 1).val < 1536 := hi
    rcases whole_or_halves c o with ⟨r, h1, h2, h3⟩ | ⟨r, r', h1, h1', h2, h3, h2', h3'⟩
    · exact ⟨r, Finset.mem_filter.mpr ⟨Finset.mem_univ _, h1⟩, mem_reg.mpr ⟨h1 ▸ h, by omega, by omega⟩⟩
    · by_cases hh : (i 1).val < 768
      · exact ⟨r, Finset.mem_filter.mpr ⟨Finset.mem_univ _, h1⟩, mem_reg.mpr ⟨h1 ▸ h, by omega, by omega⟩⟩
      · exact ⟨r', Finset.mem_filter.mpr ⟨Finset.mem_univ _, h1'⟩, mem_reg.mpr ⟨h1' ▸ h, by omega, by omega⟩⟩
  · rintro ⟨r, hr, hi⟩
    rw [(mem_reg.mp hi).1, (Finset.mem_filter.mp hr).2]
theorem regs_cover (c : Dev nD) : (Finset.univ : Finset (Fin 20)).biUnion (fun r => reg (rorg c r) r) = Finset.univ := by
  ext i
  refine ⟨fun _ => Finset.mem_univ _, fun _ => ?_⟩
  have : i ∈ blk ⟨(i 0).val, (i 0).isLt⟩ := mem_blk.mpr rfl
  rw [blk_eq c, Finset.mem_biUnion] at this
  obtain ⟨r, -, h⟩ := this
  exact Finset.mem_biUnion.mpr ⟨r, Finset.mem_univ _, h⟩
theorem reg_srcOf (c : Dev nD) (j : Fin 20) : reg (org c j) j ⊆ reg (rorg c (srcOf c j)) (srcOf c j) := fun i hi => by
  obtain ⟨h1, h2, h3⟩ := srcOf_rows c j
  rw [mem_reg] at hi ⊢; rw [h1]; omega

/-- A block's elements as the transfers' views have them. -/
theorem blkM_set {o : Fin 16} {j : Fin 20} {off} {h} (ho : off = ![o.val, 0, 0]) (hj : isHalf j = false) : (blkM off h).view.set = reg o j := by
  subst ho
  have hl := (half_iff j).2.2.mp hj
  refine (View.set_reshape _ _).trans ?_
  show ((View.whole cc0_scratch0).slice _).set = _
  rw [View.set_slice_whole]
  ext i
  rw [Rect.mem_set_unit, mem_reg, hl.1, hl.2]
  have hi1 : (i 1).val < 1536 := (i 1).isLt
  have hi2 : (i 2).val < 768 := (i 2).isLt
  constructor
  · intro hh
    have h0 : o.val ≤ (i 0).val ∧ (i 0).val < o.val + 1 := hh 0
    omega
  · rintro ⟨h0, -, -⟩ a
    fin_cases a
    · exact ⟨le_of_eq h0.symm, show (i 0).val < o.val + 1 by omega⟩
    · exact ⟨Nat.zero_le _, show (i 1).val < 0 + 1536 by omega⟩
    · exact ⟨Nat.zero_le _, show (i 2).val < 0 + 768 by omega⟩
theorem halfM_set {o : Fin 16} {j : Fin 20} {off} {h} (ho : off = ![o.val, lo j, 0]) (hj : isHalf j = true) : (halfM off h).view.set = reg o j := by
  subst ho
  have hl := (half_iff j).2.1.mp hj
  refine (View.set_reshape _ _).trans ?_
  show ((View.whole cc0_scratch0).slice _).set = _
  rw [View.set_slice_whole]
  ext i
  rw [Rect.mem_set_unit, mem_reg, hl]
  have hi2 : (i 2).val < 768 := (i 2).isLt
  constructor
  · intro hh
    have h0 : o.val ≤ (i 0).val ∧ (i 0).val < o.val + 1 := hh 0
    have h1 : lo j ≤ (i 1).val ∧ (i 1).val < lo j + 768 := hh 1
    omega
  · rintro ⟨h0, h1, h1'⟩ a
    fin_cases a
    · exact ⟨le_of_eq h0.symm, show (i 0).val < o.val + 1 by omega⟩
    · exact ⟨h1, h1'⟩
    · exact ⟨Nat.zero_le _, show (i 2).val < 0 + 768 by omega⟩

/-! ## Contents -/

/-- Device `c`'s block of the first operand, and its second operand, as its staging buffers hold them. -/
def xA (c : Dev nD) : (cc0_stg0_0 : Ref sig .tc).ty.Contents (Elt F) := (win0_0.blk (0 : Fin 1)).view.read (Elt F) ((s₀ m ρ).mem ((c : Thread nD τ).loc main_arg0))
def xB (c : Dev nD) : (cc0_stg1_0 : Ref sig .tc).ty.Contents (Elt F) := (win0_1.blk (0 : Fin 1)).view.read (Elt F) ((s₀ m ρ).mem ((c : Thread nD τ).loc main_arg1))
/-- Block `o` of the first operand, with the leading axis the communication buffer has. -/
def blkV (o : Fin 16) : FVec F S1x1536x768 .bf16 := k0_pay1 (xA m ρ o)
/-- An element's place in its block. -/
def inBlk (i : S16x1536x768.Idx) : S1x1536x768.Idx := fun a => match a with
  | ⟨0, _⟩ => (0 : Fin 1)
  | ⟨1, _⟩ => ⟨(i 1).val, (i 1).isLt⟩
  | ⟨2, _⟩ => ⟨(i 2).val, (i 2).isLt⟩
/-- The communication buffer with every block in place: the same on every device. -/
def CV : (cc0_scratch0 : Ref sig .tc).ty.Contents (Elt F) := fun (i : S16x1536x768.Idx) => blkV m ρ ⟨(i 0).val, (i 0).isLt⟩ (inBlk i)

/-- The rectangle of block `o` in the communication buffer. -/
abbrev rB (off : Fin 3 → ℕ) (h : ∀ a, off a + S1x1536x768.size a ≤ S16x1536x768.size a) : Rect S16x1536x768 := Rect.unit (s := S16x1536x768) off S1x1536x768.size h
theorem rB_emb {o : Fin 16} {h} (x : S1x1536x768.Idx) : (((rB ![o.val, 0, 0] h).emb x : S16x1536x768.Idx) 0).val = o.val ∧ inBlk ((rB ![o.val, 0, 0] h).emb x) = x := by
  have hx0 : (x 0).val = 0 := by have : (x 0).val < 1 := (x 0).isLt; omega
  refine ⟨?_, funext fun a => Fin.ext ?_⟩
  · show o.val + 1 * (x 0).val = o.val; omega
  · fin_cases a
    · show 0 = (x 0).val; omega
    · show 0 + 1 * (x 1).val = (x 1).val; omega
    · show 0 + 1 * (x 2).val = (x 2).val; omega
theorem rB_set {o : Fin 16} {off} {h} (ho : off = ![o.val, 0, 0]) : (cM.view.slice (rB off h)).set = blk o := by
  subst ho
  show ((View.whole cc0_scratch0).slice _).set = _
  rw [View.set_slice_whole]
  ext i
  rw [Rect.mem_set_unit, mem_blk]
  have hi1 : (i 1).val < 1536 := (i 1).isLt
  have hi2 : (i 2).val < 768 := (i 2).isLt
  constructor
  · intro hh
    have h0 : o.val ≤ (i 0).val ∧ (i 0).val < o.val + 1 := hh 0
    omega
  · rintro h0 a
    fin_cases a
    · exact ⟨le_of_eq h0.symm, show (i 0).val < o.val + 1 by omega⟩
    · exact ⟨Nat.zero_le _, show (i 1).val < 0 + 1536 by omega⟩
    · exact ⟨Nat.zero_le _, show (i 2).val < 0 + 768 by omega⟩
/-- A product's load of block `o` reads that block. -/
theorem read_blk {o : Fin 16} {off} {h} (ho : off = ![o.val, 0, 0]) : cM.view.readAt (Elt F) (rB off h).toLoadRect (CV m ρ) = blkV m ρ o := by
  subst ho
  funext x
  show CV m ρ ((rB ![o.val, 0, 0] h).emb x) = _
  have he := rB_emb (o := o) (h := h) x
  show blkV m ρ ⟨_, _⟩ (inBlk _) = _
  rw [he.2]
  exact congrArg (fun o' => blkV m ρ o' x) (Fin.ext he.1)
/-- Storing block `o` puts it in place. -/
theorem write_blk {o : Fin 16} {off} {h} (ho : off = ![o.val, 0, 0]) (f : (cc0_scratch0 : Ref sig .tc).ty.Contents (Elt F)) :
    ∀ i ∈ blk o, ((cM.access (rB off h) : View sig .tc _ _ _).write (Elt F) f (blkV m ρ o) Finset.univ) i = CV m ρ i := by
  intro i hi
  rw [← rB_set (h := h) ho] at hi
  have hr := read_blk m ρ (h := h) ho
  rw [View.readAt_rect] at hr
  rw [← hr]
  show (cM.view.slice (rB off h)).write (Elt F) f ((cM.view.slice (rB off h)).read (Elt F) (CV m ρ)) Finset.univ i = _
  rw [View.write_read_eq_piecewise]
  exact Finset.piecewise_eq_of_mem _ _ _ hi

end Cert.Exchange

end
-- ==== Proof.Shares.lean ====
/-
How a landing's rows are shared out: one part of the share for each kind of transfer that may read them, one for the
products. Each transfer of a landing's rows takes the part of its kind of the rows it reads; the rest stays with the
landing, ready to take them back.
-/
module

public import proofs.«01_k».proof.Proof.Regions

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Small facts of the logic -/

omit [FloatOps F] in
theorem eq_of_le {P Q : sProp 𝕄} (h : P ⊢ Q) (h' : Q ⊢ P) : P = Q := BI.Entails.antisymm h h'
omit [FloatOps F] in
theorem eq_of_bi {P Q : sProp 𝕄} (h : P ⊣⊢ Q) : P = Q := BI.Entails.antisymm h.1 h.2
omit [FloatOps F] in
theorem le_of_eq' {P Q : sProp 𝕄} (h : P = Q) : P ⊢ Q := h ▸ .rfl
omit [FloatOps F] in
theorem sep_all_mono {I : Type} {s : Finset I} {Φ Ψ : I → sProp 𝕄} (h : ∀ i ∈ s, Φ i ⊢ Ψ i) : bigSep s Φ ⊢ bigSep s Ψ := BI.bigSep_mono h

omit [FloatOps F] in
theorem sep_all_split {I : Type} {s : Finset I} {Φ Ψ : I → sProp 𝕄} : bigSep s (fun i => iprop(Φ i ∗ Ψ i)) ⊢ iprop(bigSep s Φ ∗ bigSep s Ψ) := le_of_eq' (BI.bigSep_sep' s Φ Ψ)
omit [FloatOps F] in
theorem sep_all_join {I : Type} {s : Finset I} {Φ Ψ : I → sProp 𝕄} : iprop(bigSep s Φ ∗ bigSep s Ψ) ⊢ bigSep s (fun i => iprop(Φ i ∗ Ψ i)) := le_of_eq' (BI.bigSep_sep' s Φ Ψ).symm
omit [FloatOps F] in
theorem sep_sub {I : Type} [DecidableEq I] {s t : Finset I} (h : t ⊆ s) (Φ : I → sProp 𝕄) : bigSep s Φ = iprop(bigSep t Φ ∗ bigSep (s \ t) Φ) := BI.bigSep_sdiff_split h
omit [FloatOps F] in
theorem sep_ins {I : Type} [DecidableEq I] {s : Finset I} {i : I} (h : i ∉ s) (Φ : I → sProp 𝕄) : bigSep (insert i s) Φ = iprop(Φ i ∗ bigSep s Φ) := BI.bigSep_insert h
omit [FloatOps F] in
theorem sep_un {I : Type} [DecidableEq I] {s t : Finset I} (h : Disjoint s t) (Φ : I → sProp 𝕄) : bigSep (s ∪ t) Φ = iprop(bigSep s Φ ∗ bigSep t Φ) := BI.bigSep_union h

/-- The kind of a transfer: `0 … 3` along the column, `4` to the right, `5` to the left. -/
def cls (j : Fin 20) : Fin 6 := if h : j.val < 4 then ⟨j.val, by omega⟩ else if j.val < 12 then 4 else 5
/-- The part of the share each kind reads with; the part the products read with. -/
def sq (k : Fin 6) : PosShare TreeShare := match k with
  | 0 => fullShare.right.right.left.left | 1 => fullShare.right.right.left.right
  | 2 => fullShare.right.right.right.left | 3 => fullShare.right.right.right.right
  | 4 => fullShare.left.left | 5 => fullShare.left.right
def sqK : PosShare TreeShare := fullShare.right.left

theorem share_split {ℓ : Loc nD τ sig} {I : Finset (Idx ℓ)} {f : Buf (Elt F) ℓ} :
    (ℓ ↦[I]{fullShare} f : sProp 𝕄) = iprop((ℓ ↦[I]{sqK} f) ∗ bigSep Finset.univ fun k : Fin 6 => ℓ ↦[I]{sq k} f) := by
  have e (q : PosShare TreeShare) : (ℓ ↦[I]{q} f : sProp 𝕄) = iprop((ℓ ↦[I]{q.left} f) ∗ ℓ ↦[I]{q.right} f) :=
    eq_of_bi (pointsTo_share (PosShare.mem_left_op_right q))
  rw [BI.bigSep_univ_eq_bigSepL [(0 : Fin 6), 1, 2, 3, 4, 5] (by decide) (by decide)]
  show _ = iprop((ℓ ↦[I]{sqK} f) ∗ ((ℓ ↦[I]{sq 0} f) ∗ (ℓ ↦[I]{sq 1} f) ∗ (ℓ ↦[I]{sq 2} f) ∗ (ℓ ↦[I]{sq 3} f) ∗ (ℓ ↦[I]{sq 4} f) ∗ (ℓ ↦[I]{sq 5} f)))
  rw [e fullShare, e fullShare.left, e fullShare.right, e fullShare.right.right, e fullShare.right.right.left, e fullShare.right.right.right]
  show iprop(((ℓ ↦[I]{sq 4} f) ∗ ℓ ↦[I]{sq 5} f) ∗ (ℓ ↦[I]{sqK} f) ∗ ((ℓ ↦[I]{sq 0} f) ∗ ℓ ↦[I]{sq 1} f) ∗ (ℓ ↦[I]{sq 2} f) ∗ ℓ ↦[I]{sq 3} f) = _
  generalize (ℓ ↦[I]{sq 0} f : sProp 𝕄) = P0, (ℓ ↦[I]{sq 1} f : sProp 𝕄) = P1, (ℓ ↦[I]{sq 2} f : sProp 𝕄) = P2,
    (ℓ ↦[I]{sq 3} f : sProp 𝕄) = P3, (ℓ ↦[I]{sq 4} f : sProp 𝕄) = P4, (ℓ ↦[I]{sq 5} f : sProp 𝕄) = P5, (ℓ ↦[I]{sqK} f : sProp 𝕄) = PK
  refine eq_of_le ?_ ?_
  · iintro ⟨⟨h4, h5⟩, hK, ⟨h0, h1⟩, h2, h3⟩
    isplitl [hK]; · iexact hK
    isplitl [h0]; · iexact h0
    isplitl [h1]; · iexact h1
    isplitl [h2]; · iexact h2
    isplitl [h3]; · iexact h3
    isplitl [h4]; · iexact h4
    iexact h5
  · iintro ⟨hK, h0, h1, h2, h3, h4, h5⟩
    isplitl [h4 h5]
    · isplitl [h4]; · iexact h4
      iexact h5
    isplitl [hK]; · iexact hK
    isplitl [h0 h1]
    · isplitl [h0]; · iexact h0
      iexact h1
    isplitl [h2]; · iexact h2
    iexact h3

/-! ## What moves -/

/-- The communication buffer of device `d`. -/
abbrev cL (d : Dev nD) : Loc nD τ sig := (d : Thread nD τ).loc cc0_scratch0

/-- The rows transfer `j` of `c` reads, with its part of the share; a landing's rows, in place; the rows transfer `j` of
    `c` writes on its target, at any contents. -/
def SrcRes (c : Dev nD) (j : Fin 20) : sProp 𝕄 := (cL c ↦[reg (org c j) j]{sq (cls j)} CV m ρ)
def Reg (c : Dev nD) (r : Fin 20) : sProp 𝕄 := (cL c ↦[reg (rorg c r) r]{fullShare} CV m ρ)
def Free (d : Dev nD) (r : Fin 20) : sProp 𝕄 := iprop(∃ f, cL d ↦[reg (rorg d r) r]{fullShare} f)
def Dst (c : Dev nD) (j : Fin 20) : sProp 𝕄 := Free (F := F) (tgt c j) (rix c j)

instance SrcRes_storable (c : Dev nD) (j : Fin 20) : BI.Storable (upEmb : UEmb _ 𝕄) (SrcRes m ρ c j) := by unfold SrcRes; infer_instance
instance Reg_storable (c : Dev nD) (r : Fin 20) : BI.Storable (upEmb : UEmb _ 𝕄) (Reg m ρ c r) := by unfold Reg; infer_instance
omit [FloatOps F] in
instance Dst_storable (c : Dev nD) (j : Fin 20) : BI.Storable (upEmb : UEmb _ 𝕄) (Dst (F := F) c j) := by unfold Dst Free; infer_instance

/-- The products' part of a landing's rows, and what takes back the transfers' parts. -/
def RdP (c : Dev nD) (r : Fin 20) : sProp 𝕄 := (cL c ↦[reg (rorg c r) r]{sqK} CV m ρ)
def Keep (c : Dev nD) (r : Fin 20) : sProp 𝕄 := iprop(RdP m ρ c r ∗ (RdP m ρ c r -∗ bigSep (srcs c r) (SrcRes m ρ c) -∗ Reg m ρ c r))

/-- At most one transfer of each kind reads a landing's rows. -/
theorem one_kind : ∀ (c : Dev nD) (r : Fin 20) (k : Fin 6), (srcs c r).filter (cls · = k) = ∅ ∨ ∃ j, (srcs c r).filter (cls · = k) = {j} := by
  decide +kernel

theorem bigSep_by {I J : Type} [DecidableEq I] [Fintype J] [DecidableEq J] (s : Finset I) (g : I → J) (Φ : I → sProp 𝕄) :
    bigSep s Φ = bigSep Finset.univ fun k => bigSep (s.filter fun i => g i = k) Φ := by
  have h : s = (Finset.univ : Finset J).biUnion fun k => s.filter fun i => g i = k := by
    ext i; simp only [Finset.mem_biUnion, Finset.mem_univ, true_and, Finset.mem_filter, exists_and_left, exists_eq', and_true]
  conv_lhs => rw [h]
  exact bigSep_biUnion_eq _ _ _ fun k _ k' _ hne => Finset.disjoint_filter.mpr fun i _ h1 h2 => hne (h1.symm.trans h2)

theorem kind_split (c : Dev nD) (r : Fin 20) (k : Fin 6) :
    (cL c ↦[reg (rorg c r) r]{sq k} CV m ρ : sProp 𝕄) ⊢
      iprop(bigSep ((srcs c r).filter (cls · = k)) (SrcRes m ρ c) ∗ (bigSep ((srcs c r).filter (cls · = k)) (SrcRes m ρ c) -∗ (cL c ↦[reg (rorg c r) r]{sq k} CV m ρ))) := by
  rcases one_kind c r k with h | ⟨j, h⟩
  · rw [h, BI.bigSep_empty]
    iintro H
    isplitr; · iempintro
    iintro -; iexact H
  · rw [h, BI.bigSep_singleton]
    have hj := Finset.mem_filter.mp (h ▸ Finset.mem_singleton_self j : j ∈ (srcs c r).filter (cls · = k))
    have hs : reg (org c j) j ⊆ reg (rorg c r) r := (Finset.mem_filter.mp hj.1).2 ▸ reg_srcOf c j
    unfold SrcRes
    rw [hj.2, eq_of_bi (pointsTo_split_subset hs)]
    iintro ⟨H, H'⟩
    isplitl [H]; · iexact H
    iintro H; isplitl [H]; · iexact H
    iexact H'

/-- A landing's rows are shared out. -/
theorem reg_share (c : Dev nD) (r : Fin 20) : Reg m ρ c r ⊢ iprop(Keep m ρ c r ∗ bigSep (srcs c r) (SrcRes m ρ c)) := by
  unfold Keep
  rw [bigSep_by (srcs c r) cls (SrcRes m ρ c)]
  unfold Reg RdP
  rw [share_split]
  iintro ⟨HK, HS⟩
  ihave HS := (sep_all_mono fun k _ => kind_split m ρ c r k) $$ HS
  ihave HS := sep_all_split $$ HS
  icases HS with ⟨HS, Hw⟩
  isplitl [HK Hw]
  · isplitl [HK]; · iexact HK
    iintro HK HS
    isplitl [HK]; · iexact HK
    icombine HS Hw as H
    ihave H := sep_all_join $$ H
    iapply (sep_all_mono fun k _ => ?_) $$ H
    iintro ⟨HS, Hw⟩
    iapply Hw $$ HS
  · iexact HS

/-- All landings whole again, once every transfer's part is back. -/
theorem regs_back (c : Dev nD) : iprop(bigSep Finset.univ (Keep m ρ c) ∗ bigSep Finset.univ (SrcRes m ρ c)) ⊢ (cL c ↦{fullShare} CV m ρ : sProp 𝕄) := by
  have hk : ∀ r, (Finset.univ.filter fun j => srcOf c j = r) = srcs c r := fun r => rfl
  rw [bigSep_by Finset.univ (srcOf c) (SrcRes m ρ c)]
  refine sep_all_join.trans ?_
  refine (sep_all_mono (Ψ := Reg m ρ c) fun r _ => ?_).trans ?_
  · rw [hk]; unfold Keep
    iintro ⟨⟨HK, Hw⟩, HS⟩
    iapply Hw $$ HK HS
  · refine le_of_eq' ?_
    have := pointsTo_biUnion (ℓ := cL c) (q := fullShare) (f := CV m ρ) (Ix := Unit) (Name := ℕ) (U := UU) (Lvl := ℕ) Finset.univ (fun r => reg (rorg c r) r) fun r _ r' _ h => reg_disj c r r' h
    rw [regs_cover] at this
    exact this.symm

/-- The whole buffer, at any contents, is its landings' rows. -/
theorem regs_free (c : Dev nD) (f : Buf (Elt F) (cL c)) : (cL c ↦{fullShare} f : sProp 𝕄) ⊢ bigSep Finset.univ (Free (F := F) c) := by
  have := pointsTo_biUnion (ℓ := cL c) (q := fullShare) (f := f) (Ix := Unit) (Name := ℕ) (U := UU) (Lvl := ℕ) Finset.univ (fun r => reg (rorg c r) r) fun r _ r' _ h => reg_disj c r r' h
  rw [regs_cover] at this
  refine (le_of_eq' this).trans (sep_all_mono fun r _ => ?_)
  unfold Free
  iintro H; iexists f; iexact H

/-- The products' part of block `o`, once its landings are had; and back. -/
theorem blk_read (c : Dev nD) (o : Fin 16) (s : Finset (Fin 20)) (h : rdOf c o ⊆ s) :
    bigSep s (Keep m ρ c) ⊢ iprop((cL c ↦[blk o]{sqK} CV m ρ) ∗ ((cL c ↦[blk o]{sqK} CV m ρ) -∗ bigSep s (Keep m ρ c))) := by
  have e : (cL c ↦[blk o]{sqK} CV m ρ : sProp 𝕄) = bigSep (rdOf c o) (RdP m ρ c) := by
    rw [blk_eq c o]
    exact pointsTo_biUnion (ℓ := cL c) (rdOf c o) (fun r => reg (rorg c r) r) fun r _ r' _ h => reg_disj c r r' h
  rw [e, sep_sub h]
  have e2 : bigSep (rdOf c o) (Keep m ρ c) = iprop(bigSep (rdOf c o) (RdP m ρ c) ∗ bigSep (rdOf c o) fun r => iprop(RdP m ρ c r -∗ bigSep (srcs c r) (SrcRes m ρ c) -∗ Reg m ρ c r)) := BI.bigSep_sep' _ _ _
  rw [e2]
  iintro ⟨⟨H1, H2⟩, H3⟩
  isplitl [H1]; · iexact H1
  iintro H1
  isplitl [H1 H2]
  · isplitl [H1]; · iexact H1
    iexact H2
  iexact H3

end Cert.Exchange

end
-- ==== Proof.Sched.lean ====
/-
The protocol as a schedule of rounds: for each semaphore what it is for, how much it counts and what each landing or
signal on it hands over; the levels the waits are taken at.
-/
module

public import proofs.«01_k».proof.Proof.Shares

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

abbrev barS : Sem sig := (SemArray.scalar (sig.barrier 0 rfl) : Sems sig S_).sem
abbrev barCell (c : Dev nD) : GSem nD τ sig := ((c : Thread nD τ), .reg barS)
abbrev sCell (c : Dev nD) (j : Fin 20) : GSem nD τ sig := ((c : Thread nD τ), .dma (sS j))
abbrev rCell (c : Dev nD) (r : Fin 20) : GSem nD τ sig := ((c : Thread nD τ), .dma (rS r))

/-- What a cell is for: a transfer's reading (`false`) or a landing (`true`), and which. -/
def role (q : DmaSem sig) : Option (Bool × Fin 20) :=
  (((List.finRange 20).map fun j => (false, j)) ++ ((List.finRange 20).map fun j => (true, j))).find? fun x => (if x.1 then rS x.2 else sS x.2) = q
theorem role_s : ∀ j : Fin 20, role (sS j) = some (false, j) := by decide +kernel
theorem role_r : ∀ r : Fin 20, role (rS r) = some (true, r) := by decide +kernel

/-! ## The schedule

Each cell is used for one round. The barrier cell of `c` has one duty a neighbour that signals it, which hands over the
rows on that neighbour that `c`'s transfers to it write; a transfer's own cell gives back the rows it read; a landing's
cell gives the rows landed, in place. -/

def barPay (c : Dev nD) (b : Fin 6) : sProp 𝕄 := bigSep (pk b) (Dst (F := F) c)
omit [FloatOps F] in
instance barPay_storable (c : Dev nD) (b : Fin 6) : BI.Storable (upEmb : UEmb _ 𝕄) (barPay (F := F) c b) := by unfold barPay; infer_instance

def dutyOf (c : Dev nD) : SemLoc sig → Finset (Fin 6)
  | .reg s => if s = barS then Finset.univ.erase (bz c) else ∅
  | .dma q => match role q with
    | some (_, j) => if j = zi c then ∅ else {0}
    | none => ∅
def amtOf : SemLoc sig → ℕ
  | .reg _ => 1
  | .dma q => match role q with
    | some (_, j) => NN j
    | none => 1
def payOf (c : Dev nD) (b : Fin 6) : SemLoc sig → sProp 𝕄
  | .reg _ => barPay (F := F) c b
  | .dma q => match role q with
    | some (false, j) => SrcRes m ρ c j
    | some (true, r) => Reg m ρ c r
    | none => iprop(emp)

def Rd : Rounds.Schedule (GSem nD τ sig) (Fin 6) 𝕄 where
  duties g r := if r = 0 ∧ g.1.2 = .tc then dutyOf g.1.1 g.2 else ∅
  unitless _ := False
  amount g _ _ := amtOf g.2
  payload g _ b := payOf m ρ g.1.1 b g.2
  amount_pos g _ _ _ := by
    unfold amtOf
    split
    · exact Nat.one_pos
    · split
      exacts [NN_pos _, Nat.one_pos]

instance Rd_storable (g : GSem nD τ sig) (r : ℕ) (d : Fin 6) : BI.Storable (upEmb : UEmb _ 𝕄) ((Rd (F := F) m ρ).payload g r d) := by
  show BI.Storable upEmb (payOf m ρ g.1.1 d g.2)
  unfold payOf
  (repeat' split) <;> infer_instance

section Facts
variable (c : Dev nD) (j : Fin 20)

theorem duties_zero (sm : SemLoc sig) : (Rd (F := F) m ρ).duties ((c : Thread nD τ), sm) 0 = dutyOf c sm := by dsimp only [Rd]; exact if_pos ⟨rfl, rfl⟩
theorem duties_bar : (Rd (F := F) m ρ).duties (barCell c) 0 = Finset.univ.erase (bz c) := by
  rw [duties_zero]; unfold dutyOf; exact if_pos rfl
theorem duties_s (hj : j ≠ zi c) : (Rd (F := F) m ρ).duties (sCell c j) 0 = {0} := by
  rw [duties_zero]; unfold dutyOf; simp only [role_s]; exact if_neg hj
theorem duties_r (hj : j ≠ zi c) : (Rd (F := F) m ρ).duties (rCell c j) 0 = {0} := by
  rw [duties_zero]; unfold dutyOf; simp only [role_r]; exact if_neg hj
theorem duties_s_zi : (Rd (F := F) m ρ).duties (sCell c (zi c)) 0 = ∅ := by
  rw [duties_zero]; unfold dutyOf; simp only [role_s, if_true]
theorem duties_r_zi : (Rd (F := F) m ρ).duties (rCell c (zi c)) 0 = ∅ := by
  rw [duties_zero]; unfold dutyOf; simp only [role_r, if_true]
theorem duties_later (g : GSem nD τ sig) : ∀ r, 1 ≤ r → (Rd (F := F) m ρ).duties g r = ∅ :=
  fun r hr => by dsimp only [Rd]; exact if_neg fun h => by omega

theorem amount_bar (b : Fin 6) : (Rd (F := F) m ρ).amount (barCell c) 0 b = 1 := rfl
theorem amount_s (b : Fin 6) : (Rd (F := F) m ρ).amount (sCell c j) 0 b = NN j := by
  show amtOf (.dma (sS j)) = _; unfold amtOf; simp only [role_s]
theorem amount_r (b : Fin 6) : (Rd (F := F) m ρ).amount (rCell c j) 0 b = NN j := by
  show amtOf (.dma (rS j)) = _; unfold amtOf; simp only [role_r]

theorem expect_bar : (Rd (F := F) m ρ).expect (barCell c) 0 = 5 := by
  unfold Schedule.expect Schedule.amountOf; rw [duties_bar]
  rw [Finset.sum_congr rfl fun b _ => amount_bar m ρ c b, Finset.sum_const, card_bz]; rfl
theorem expect_s (hj : j ≠ zi c) : (Rd (F := F) m ρ).expect (sCell c j) 0 = NN j := by
  unfold Schedule.expect Schedule.amountOf; rw [duties_s m ρ c j hj, Finset.sum_singleton, amount_s]
theorem expect_r (hj : j ≠ zi c) : (Rd (F := F) m ρ).expect (rCell c j) 0 = NN j := by
  unfold Schedule.expect Schedule.amountOf; rw [duties_r m ρ c j hj, Finset.sum_singleton, amount_r]

theorem payload_bar (b : Fin 6) : (Rd (F := F) m ρ).payload (barCell c) 0 b = barPay (F := F) c b := rfl
theorem payload_s (b : Fin 6) : (Rd (F := F) m ρ).payload (sCell c j) 0 b = SrcRes m ρ c j := by
  show payOf m ρ c b (.dma (sS j)) = _; unfold payOf; simp only [role_s]
theorem payload_r (b : Fin 6) : (Rd (F := F) m ρ).payload (rCell c j) 0 b = Reg m ρ c j := by
  show payOf m ρ c b (.dma (rS j)) = _; unfold payOf; simp only [role_r]

theorem rest_bar : bigSep ((Rd (F := F) m ρ).duties (barCell c) 0 \ ∅) (fun u => (Rd (F := F) m ρ).payload (barCell c) 0 u) = bigSep (Finset.univ.erase (zi c)) (Dst (F := F) c) := by
  rw [Finset.sdiff_empty, duties_bar, ← pk_union c]
  exact (bigSep_biUnion_eq _ _ _ fun b _ b' _ h => pk_disj b b' h).symm
theorem rest_s (hj : j ≠ zi c) : bigSep ((Rd (F := F) m ρ).duties (sCell c j) 0 \ ∅) (fun u => (Rd (F := F) m ρ).payload (sCell c j) 0 u) = SrcRes m ρ c j := by
  rw [Finset.sdiff_empty, duties_s m ρ c j hj, bigSep_singleton, payload_s]
theorem rest_r (hj : j ≠ zi c) : bigSep ((Rd (F := F) m ρ).duties (rCell c j) 0 \ ∅) (fun u => (Rd (F := F) m ρ).payload (rCell c j) 0 u) = Reg m ρ c j := by
  rw [Finset.sdiff_empty, duties_r m ρ c j hj, bigSep_singleton, payload_r]

end Facts

/-! ## Levels -/

def L (g : GSem nD τ sig) : Finset Unit := if g.1.2 = .tc then {()} else ∅
def lvS : SemLoc sig → ℕ
  | .reg _ => 1
  | .dma q => match role q with
    | some (true, r) => lvR r
    | _ => 0
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (r : Fin 20) : lv (rCell c r) () = lvR r := by show lvS (.dma (rS r)) = _; unfold lvS; simp only [role_r]
theorem lv_s (c : Dev nD) (j : Fin 20) : lv (sCell c j) () = 0 := by show lvS (.dma (sS j)) = _; unfold lvS; simp only [role_s]

/-- What a set of transfers, and a set of signals, of `c` are owed. -/
def oweT (c : Dev nD) (s : Finset (Fin 20)) : CellTallies nD τ sig Unit := ∑ j ∈ s, tallyAt (rCell (tgt c j) (rix c j)) () (NN j)
def oweB (c : Dev nD) (s : Finset (Fin 6)) : CellTallies nD τ sig Unit := ∑ b ∈ s, tallyAt (barCell (btgt c b)) () 1
def O₀ (c : Dev nD) : CellTallies nD τ sig Unit := oweB c (Finset.univ.erase (bz c)) + oweT c (Finset.univ.erase (zi c))

theorem oweT_pos {c : Dev nD} {s : Finset (Fin 20)} {g : GSem nD τ sig} {u : Unit} (h : 0 < oweT c s g u) : ∃ j ∈ s, g = rCell (tgt c j) (rix c j) := by
  by_contra hn; push Not at hn
  unfold oweT at h
  rw [Finset.sum_apply, Finsupp.finset_sum_apply, Finset.sum_eq_zero fun j hj => ?_] at h
  · exact Nat.lt_irrefl 0 h
  · rw [tallyAt_apply, if_neg fun h' => hn j hj h'.1]
theorem oweB_pos {c : Dev nD} {s : Finset (Fin 6)} {g : GSem nD τ sig} {u : Unit} (h : 0 < oweB c s g u) : ∃ b ∈ s, g = barCell (btgt c b) := by
  by_contra hn; push Not at hn
  unfold oweB at h
  rw [Finset.sum_apply, Finsupp.finset_sum_apply, Finset.sum_eq_zero fun j hj => ?_] at h
  · exact Nat.lt_irrefl 0 h
  · rw [tallyAt_apply, if_neg fun h' => hn j hj h'.1]

/-- A wait at a level below all that is owed. -/
theorem mayWait_of (c : Dev nD) (sm : SemLoc sig) (sB : Finset (Fin 6)) (sT : Finset (Fin 20)) (hB : ∀ b ∈ sB, lvS sm < 1) (hT : ∀ j ∈ sT, lvS sm < lvR (rix c j)) :
    (levAts L lv : sProp 𝕄) ⊢ MayWait (c : Thread nD τ) sm () (oweB c sB + oweT c sT) := by
  have hp {g : GSem nD τ sig} {u : Unit} (h : 0 < (oweB c sB + oweT c sT) g u) : (∃ b ∈ sB, g = barCell (btgt c b)) ∨ ∃ j ∈ sT, g = rCell (tgt c j) (rix c j) := by
    rw [Pi.add_apply, Finsupp.add_apply] at h
    rcases Nat.eq_zero_or_pos (oweB c sB g u) with h0 | h0
    · rw [h0, Nat.zero_add] at h; exact .inr (oweT_pos h)
    · exact .inl (oweB_pos h0)
  exact MayOwe.of_cut (L := L) (lev := lv) (lvS sm) (fun p hp => by rw [Finset.mem_singleton.mp hp, L_tc]; exact Finset.mem_singleton_self _)
    (fun g u hg => by
      rcases hp hg with ⟨b, -, rfl⟩ | ⟨j, -, rfl⟩ <;> exact Finset.mem_singleton_self _)
    (fun p hp => by rw [Finset.mem_singleton.mp hp]; exact le_refl _)
    (fun g u hg => by
      rcases hp hg with ⟨b, hb, rfl⟩ | ⟨j, hj, rfl⟩
      · exact hB b hb
      · rw [lv_r]; exact hT j hj)

theorem oweB_empty (c : Dev nD) : oweB c ∅ = 0 := Finset.sum_empty
theorem oweT_empty (c : Dev nD) : oweT c ∅ = 0 := Finset.sum_empty
theorem oweB_insert (c : Dev nD) {s : Finset (Fin 6)} {b : Fin 6} (h : b ∉ s) : oweB c (insert b s) = oweB c s + tallyAt (barCell (btgt c b)) () 1 := by
  unfold oweB; rw [Finset.sum_insert h, add_comm]
theorem oweT_insert (c : Dev nD) {s : Finset (Fin 20)} {j : Fin 20} (h : j ∉ s) : oweT c (insert j s) = oweT c s + tallyAt (rCell (tgt c j) (rix c j)) () (NN j) := by
  unfold oweT; rw [Finset.sum_insert h, add_comm]

end Cert.Exchange

end
-- ==== Proof.Steps.lean ====
/-
What a device holds of the exchange after its first `n` exchange operations, and one lemma for each kind of operation: a
transfer sent, a landing waited for, a transfer's own semaphore waited for, an operation the device leaves out.
-/
module

public import proofs.«01_k».proof.Proof.Sched

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program's specification on device `c`. -/
abbrev wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The exchange's cells on one device: the barrier, the transfers' own, the landings'. -/
abbrev KI : Type := Unit ⊕ (Fin 20 ⊕ Fin 20)
def cellAt (x : Dev nD × KI) : GSem nD τ sig := match x.2 with
  | .inl _ => barCell x.1
  | .inr (.inl j) => sCell x.1 j
  | .inr (.inr r) => rCell x.1 r

def recs (K : Dev nD × KI → ℕ) : sProp 𝕄 :=
  iprop(bigSep Finset.univ (fun x : Dev nD × KI => cellInv ER (Rd m ρ) (K x) (cellAt x)) ∗ bigSep Finset.univ (fun x : Dev nD × KI => reached ER (cellAt x) 0) ∗ levAts L lv)
instance recs_persistent (K : Dev nD × KI → ℕ) : BI.Persistent (recs m ρ K) := by unfold recs; infer_instance

theorem sep_at {I : Type} [DecidableEq I] {s : Finset I} {i : I} (hi : i ∈ s) (Φ : I → sProp 𝕄) : bigSep s Φ ⊢ Φ i := bigSep_elim hi

theorem recs_inv (K : Dev nD × KI → ℕ) (x : Dev nD × KI) : recs m ρ K ⊢ cellInv ER (Rd m ρ) (K x) (cellAt x) := by
  unfold recs; iintro ⟨H, -, -⟩; iapply (sep_at (Finset.mem_univ x) (fun x : Dev nD × KI => cellInv ER (Rd m ρ) (K x) (cellAt x))) $$ H
theorem recs_reached (K : Dev nD × KI → ℕ) (x : Dev nD × KI) : recs m ρ K ⊢ reached ER (cellAt x) 0 := by
  unfold recs; iintro ⟨-, H, -⟩; iapply (sep_at (Finset.mem_univ x) (fun x : Dev nD × KI => reached ER (cellAt x) 0)) $$ H
theorem recs_lev (K : Dev nD × KI → ℕ) : recs m ρ K ⊢ levAts L lv := by
  unfold recs; iintro ⟨-, -, H⟩; iexact H

/-! ## The exchange's state -/

/-- A transfer not yet sent; one in flight; a landing not yet waited for; a cell that is done with. -/
def sendR (c : Dev nD) (j : Fin 20) : sProp 𝕄 :=
  iprop(dutyTok ER (sCell c j) 0 0 ∗ dutyTok ER (rCell (tgt c j) (rix c j)) 0 0 ∗ Dst (F := F) c j ∗ atPos ER (sCell c j) 0 ∅ 0)
def sentR (c : Dev nD) (j : Fin 20) : sProp 𝕄 := iprop(cred (tallyAt (sCell c j) () (NN j)) ∗ atPos ER (sCell c j) 0 ∅ 0)
def waitR (c : Dev nD) (r : Fin 20) : sProp 𝕄 := iprop(cred (tallyAt (rCell c r) () (NN r)) ∗ atPos ER (rCell c r) 0 ∅ 0)
def doneC (g : GSem nD τ sig) : sProp 𝕄 := iprop(∃ R, ⌜∀ r, R ≤ r → (Rd (F := F) m ρ).duties g r = ∅⌝ ∗ atPos ER g R ∅ 0)

/-- What the device owes of the exchange, whatever has been waited for. -/
def owing (c : Dev nD) (n : ℕ) : sProp 𝕄 := iprop(∃ W : Waits sig Unit, owes (c : Thread nD τ) (oweT c (Un c n)) W)

/-- After the first `n` operations of the exchange. -/
def St (c : Dev nD) (n : ℕ) : sProp 𝕄 :=
  iprop(owing (F := F) c n ∗ bigSep (Un c n) (sendR (F := F) c) ∗ bigSep (Ha c n) (SrcRes m ρ c) ∗ bigSep (Se c n) (sentR (F := F) c)
    ∗ bigSep (Ba c n) (fun j => iprop(doneC m ρ (sCell c j) ∗ SrcRes m ρ c j))
    ∗ bigSep (Wt c n) (waitR (F := F) c) ∗ bigSep (Kp c n) (fun r => doneC m ρ (rCell c r)) ∗ bigSep (Kp c n) (Keep m ρ c))

/-- A part of the communication buffer, as the transfers name it. -/
abbrev cutM (r : Rect S16x1536x768) (h : ∀ a, r.stride a = 1) (s : Shape) (hs : r.shape.Squeezes s) : Memref sig .tc .vmem s .bf16 := (cM.slice r h).squeeze s hs

theorem no_recv_at_send (c : Dev nD) {j : Fin 20} (hj : j ≠ zi c) {n : ℕ} (hn : n = posS c j) : ∀ r, r ≠ zi c → posR c r ≠ n :=
  fun r hr h => posS_ne_posR c j r hj hr (hn.symm.trans h.symm)
theorem no_send_at_recv (c : Dev nD) {r : Fin 20} (hr : r ≠ zi c) {n : ℕ} (hn : n = posR c r) : ∀ j, j ≠ zi c → posS c j ≠ n :=
  fun j hj h => posS_ne_posR c j r hj hr (h.trans hn)
theorem no_wait_below (c : Dev nD) {n : ℕ} (hn : n < 48) : ∀ j, j ≠ zi c → posW j ≠ n := fun j _ h => by have := (posW_ge j).1; omega
theorem no_send_above (c : Dev nD) {n : ℕ} (hn : 48 ≤ n) : ∀ j, j ≠ zi c → posS c j ≠ n := fun j hj h => by have := posS_lt c j hj; omega
theorem no_recv_above (c : Dev nD) {n : ℕ} (hn : 48 ≤ n) : ∀ j, j ≠ zi c → posR c j ≠ n := fun j hj h => by have := posR_lt c j hj; omega

/-- What lands: the rows read, on the target. -/
theorem landed (c : Dev nD) (j : Fin 20) {r : Rect S16x1536x768} {h} {s : Shape} {hs} (hv : (cutM r h s hs).view.set = reg (org c j) j)
    (fd : Buf (Elt F) (cL (tgt c j))) :
    ((cutM r h s hs).view.loc (tgt c j : Thread nD τ) ↦[(cutM r h s hs).view.set]{fullShare} ((cutM r h s hs).view.write (Elt F) fd ((cutM r h s hs).view.read (Elt F) (CV m ρ)) Finset.univ) : sProp 𝕄)
      ⊢ Reg m ρ (tgt c j) (rix c j) := by
  unfold Reg
  rw [View.write_read_eq_piecewise, reg_tgt, ← hv]
  refine le_of_eq' (pointsTo_congr fun i hi => ?_)
  rw [View.setOn_univ, Finset.piecewise_eq_of_mem _ _ _ hi]

/-- Transfer `j` is sent. -/
theorem op_send (K : Dev nD × KI → ℕ) (c : Dev nD) (j : Fin 20) (hj : j ≠ zi c) (n : ℕ) (hn : n = posS c j) {d : Dev nD} (hd : d = tgt c j)
    {q₁ q₂ : DmaSem sig} (h₁ : q₁ = sS j) (h₂ : q₂ = rS (rix c j))
    {r : Rect S16x1536x768} {h} {s : Shape} {hs} (hv : (cutM r h s hs).view.set = reg (org c j) j) (hN : (cutM r h s hs).view.dmaCredit = NN j)
    {hsc : (cutM r h s hs : Memref sig (Dev.tc d : Thread nD τ).2.kind .vmem s .bf16).view.ref.isScScratch = false} {hsrc : (cutM r h s hs).view.WordExact} {hdst : (cutM r h s hs).view.WordExact}
    {hsem : DmaTarget.Typed .vmem (.dma q₂) (.remote (Dev.tc d : Thread nD τ) (cutM r h s hs) (.dma q₁) hsc)}
    {α : Type} {Q : α → sProp 𝕄} {k : PUnit → Prog (TpuEff nD τ sig (Elt F) Λ₀ .tc) α} :
    iprop(recs m ρ K ∗ St m ρ c n)
      ⊢ iprop((St m ρ c (n + 1) -∗ wpC c (k ⟨⟩) Q)
          -∗ wpC c (.op (.enqueueDma (cutM r h s hs) (.remote (Dev.tc d : Thread nD τ) (cutM r h s hs) (.dma q₁) hsc) (.dma q₂) hsrc hdst hsem) k) Q) := by
  subst hd; subst h₁; subst h₂
  have h48 : n < 48 := hn ▸ posS_lt c j hj
  obtain ⟨hU, hU'⟩ := Un_send hj hn
  obtain ⟨hH, hH'⟩ := Ha_send hj hn
  obtain ⟨hS, hS'⟩ := Se_send hj hn
  unfold St owing
  rw [hU, hH, hS, Ba_skip (no_wait_below c h48), Wt_skip (no_recv_at_send c hj hn), Kp_skip (no_recv_at_send c hj hn), oweT_insert c hU', sep_ins hU', sep_ins hH', sep_ins hS']
  iintro ⟨#HR, ⟨%W, HO⟩, ⟨Hs, HU⟩, ⟨Hsrc, HH⟩, HS, HB, HW, HK⟩ Hk
  unfold sendR Dst Free
  icases Hs with ⟨Ht₁, Ht₂, ⟨%fd, Hd⟩, Hat⟩
  ihave #HI₁ := (recs_inv m ρ K (c, .inr (.inl j))) $$ HR
  ihave #HI₂ := (recs_inv m ρ K (tgt c j, .inr (.inr (rix c j)))) $$ HR
  ihave #Hr₁ := (recs_reached m ρ K (c, .inr (.inl j))) $$ HR
  ihave #Hr₂ := (recs_reached m ρ K (tgt c j, .inr (.inr (rix c j)))) $$ HR
  ihave Hd := (le_of_eq' (show _ = ((cutM r h s hs).view.loc (tgt c j : Thread nD τ) ↦[(cutM r h s hs).view.set]{fullShare} fd : sProp 𝕄) by rw [hv, reg_tgt])) $$ Hd
  ihave Hsrc := (le_of_eq' (show SrcRes m ρ c j = ((cutM r h s hs).view.loc (c : Thread nD τ) ↦[(cutM r h s hs).view.set]{sq (cls j)} CV m ρ : sProp 𝕄) by rw [hv]; rfl)) $$ Hsrc
  iapply (Rounds.wp_send_pointsTo 𝒱₀ ER (Rd m ρ) (c : Thread nD τ) none (κ₁ := K (c, .inr (.inl j))) (κ₂ := K (tgt c j, .inr (.inr (rix c j))))
    (r₁ := 0) (r₂ := 0) (d₁ := 0) (d₂ := 0) (c' := (tgt c j : Thread nD τ)) (src := cutM r h s hs) (dst := cutM r h s hs) (sS := .dma (sS j)) (sem := .dma (rS (rix c j))) (fd := fd) (fs := CV m ρ) (q := sq (cls j))
    (by rw [duties_s m ρ c j hj]; exact Finset.mem_singleton_self _) (by rw [duties_r m ρ _ _ (act_rix c j hj)]; exact Finset.mem_singleton_self _)
    () () (NN j) hN (amount_s m ρ c j 0) ((amount_r m ρ _ _ 0).trans (NN_rix c j)) (oweT c (Un c (n + 1))) rfl (W := W)
    (by rw [payload_s, hv]; exact BI.Entails.refl _)
    (by rw [payload_r]; exact landed m ρ c j hv fd)) $$ [HO Ht₁ Ht₂ Hd Hsrc]
  · isplitr; · iexact HI₁
    isplitr; · iexact HI₂
    isplitl [Hsrc]; · iexact Hsrc
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  isplitl [HU]; · iexact HU
  isplitl [HH]; · iexact HH
  isplitl [Hc Hat HS]
  · isplitl [Hc Hat]
    · unfold sentR; isplitl [Hc]; · iexact Hc
      iexact Hat
    · iexact HS
  isplitl [HB]; · iexact HB
  isplitl [HW]; · iexact HW
  iexact HK

/-- A cell's one round taken. -/
theorem done_one (g : GSem nD τ sig) : atPos ER g (0 + 1) ∅ 0 ⊢ doneC m ρ g := by
  unfold doneC
  iintro H; iexists (0 + 1); isplitr; · ipureintro; exact duties_later m ρ g
  iexact H

/-- The landing `r` is waited for. -/
theorem op_recv (K : Dev nD × KI → ℕ) (c : Dev nD) (r : Fin 20) (hr : r ≠ zi c) (n : ℕ) (hn : n = posR c r)
    {q : DmaSem sig} (hq : q = rS r) {sp sp' : Space} {s s' : Shape} {e e' : EltTy} {κ' : Kind}
    {src : Memref sig .tc sp' s' e'} {dst : Memref sig κ' sp s e} (hN : dst.view.dmaCredit = NN r) {hsrc : src.view.WordExact} {hdst : dst.view.WordExact}
    {α : Type} {Q : α → sProp 𝕄} {k : PUnit → Prog (TpuEff nD τ sig (Elt F) Λ₀ .tc) α} :
    iprop(recs m ρ K ∗ St m ρ c n)
      ⊢ iprop((St m ρ c (n + 1) -∗ wpC c (k ⟨⟩) Q) -∗ wpC c (.op (.waitDma2 q src dst hsrc hdst) k) Q) := by
  subst hq
  have h48 : n < 48 := hn ▸ posR_lt c r hr
  obtain ⟨hW, hW'⟩ := Wt_recv hr hn
  obtain ⟨hK, hK'⟩ := Kp_recv hr hn
  obtain ⟨hH, hH'⟩ := Ha_recv hr hn
  have hlv : ∀ j ∈ Un c n, lvS (.dma (rS r)) < lvR (rix c j) := fun j hj => by
    obtain ⟨-, h1, h2⟩ := Finset.mem_filter.mp hj
    rw [show lvS (.dma (rS r)) = lvR r from lv_r c r]; exact levels c r j hr h1 (hn ▸ h2)
  unfold St owing
  rw [Un_skip (no_send_at_recv c hr hn), Se_skip (no_send_at_recv c hr hn) (no_wait_below c h48), Ba_skip (no_wait_below c h48), hH, hK, hW,
    sep_un hH', sep_ins hK', sep_ins hK', sep_ins hW']
  iintro ⟨#HR, ⟨%W, HO⟩, HU, HH, HS, HB, ⟨Hw, HW⟩, HK, HP⟩ Hk
  unfold waitR
  icases Hw with ⟨Hc, Hat⟩
  ihave #HI := (recs_inv m ρ K (c, .inr (.inr r))) $$ HR
  ihave #Hlev := (recs_lev m ρ K) $$ HR
  iapply (Rounds.wp_wait_rest_token 𝒱₀ ER (Rd m ρ) (c : Thread nD τ) none (κ := K (c, .inr (.inr r)))
      (wpE_waitDma2_eq 𝒱₀ (c : Thread nD τ) none Set.univ) (Set.mem_univ _) () (O := oweT c (Un c n)) (W := W) (R := 0) (m := 0) (T := ∅)
      (by rw [Nat.zero_add, expect_r m ρ c r hr, hN])) $$ [Hc HO Hat]
  · isplitr; · iexact HI
    isplitl [Hc]; · rw [hN]; iexact Hc
    isplitl [HO]; · iexact HO
    isplitr
    · ihave H := (mayWait_of (F := F) c (.dma (rS r)) ∅ (Un c n) (fun _ h => absurd h (Finset.notMem_empty _)) hlv) $$ Hlev
      rw [oweB_empty, zero_add]; iexact H
    iexact Hat
  iintro ⟨HO, Hat, -, Hpay⟩
  ihave Hpay := (le_of_eq' (rest_r m ρ c r hr)) $$ Hpay
  ihave Hpay := (reg_share m ρ c r) $$ Hpay
  icases Hpay with ⟨HKr, HSr⟩
  ihave Hat := (done_one m ρ (rCell c r)) $$ Hat
  iapply Hk
  isplitl [HO]; · iexists _; iexact HO
  isplitl [HU]; · iexact HU
  isplitl [HH HSr]
  · isplitl [HH]; · iexact HH
    iexact HSr
  isplitl [HS]; · iexact HS
  isplitl [HB]; · iexact HB
  isplitl [HW]; · iexact HW
  isplitl [Hat HK]
  · isplitl [Hat]; · iexact Hat
    iexact HK
  isplitl [HKr]; · iexact HKr
  iexact HP

/-- Transfer `j`'s own semaphore is waited for. -/
theorem op_done (K : Dev nD × KI → ℕ) (c : Dev nD) (j : Fin 20) (hj : j ≠ zi c) (n : ℕ) (hn : n = posW j)
    {q : DmaSem sig} (hq : q = sS j) {sp sp' : Space} {s s' : Shape} {e e' : EltTy} {κ' : Kind}
    {src : Memref sig .tc sp' s' e'} {dst : Memref sig κ' sp s e} (hN : dst.view.dmaCredit = NN j) {hsrc : src.view.WordExact} {hdst : dst.view.WordExact}
    {α : Type} {Q : α → sProp 𝕄} {k : PUnit → Prog (TpuEff nD τ sig (Elt F) Λ₀ .tc) α} :
    iprop(recs m ρ K ∗ St m ρ c n)
      ⊢ iprop((St m ρ c (n + 1) -∗ wpC c (k ⟨⟩) Q) -∗ wpC c (.op (.waitDma2 q src dst hsrc hdst) k) Q) := by
  subst hq
  have h48 : 48 ≤ n := hn ▸ (posW_ge j).1
  obtain ⟨hS, hS'⟩ := Se_wait hj hn
  obtain ⟨hB, hB'⟩ := Ba_wait hj hn
  have hUe : Un c n = ∅ := by
    have := (posW_ge j)
    have h := Un_48 c ⟨n - 48, by omega⟩
    rwa [show 48 + (⟨n - 48, by omega⟩ : Fin 20).val = n by show 48 + (n - 48) = n; omega] at h
  unfold St owing
  rw [Un_skip (no_send_above c h48), Ha_skip (no_send_above c h48) (no_recv_above c h48), Wt_skip (no_recv_above c h48), Kp_skip (no_recv_above c h48),
    hS, hB, sep_ins hS', sep_ins hB', hUe, oweT_empty]
  iintro ⟨#HR, ⟨%W, HO⟩, HU, HH, ⟨Hs, HS⟩, HB, HW⟩ Hk
  unfold sentR
  icases Hs with ⟨Hc, Hat⟩
  ihave #HI := (recs_inv m ρ K (c, .inr (.inl j))) $$ HR
  iapply (Rounds.wp_wait_rest_token 𝒱₀ ER (Rd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_s m ρ c j hj, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hpay := (le_of_eq' (rest_s m ρ c j hj)) $$ Hpay
  ihave Hat := (done_one m ρ (sCell c j)) $$ Hat
  iapply Hk
  isplitl [HO]; · iexists _; iexact HO
  isplitl [HU]; · iexact HU
  isplitl [HH]; · iexact HH
  isplitl [HS]; · iexact HS
  isplitl [Hat Hpay HB]
  · isplitl [Hat Hpay]
    · isplitl [Hat]; · iexact Hat
      iexact Hpay
    · iexact HB
  iexact HW

/-- An operation the device leaves out. -/
theorem op_skip (c : Dev nD) (n : ℕ) (hs : ∀ j, j ≠ zi c → posS c j ≠ n) (hr : ∀ r, r ≠ zi c → posR c r ≠ n) (hw : ∀ j, j ≠ zi c → posW j ≠ n) :
    St m ρ c n = St m ρ c (n + 1) := by
  unfold St owing
  rw [Un_skip hs, Ha_skip hs hr, Se_skip hs hw, Ba_skip hw, Wt_skip hr, Kp_skip hr]

/-- What is owed can be taken out, waits taken, and put back. -/
theorem St_owing (c : Dev nD) (n : ℕ) : St m ρ c n ⊢ iprop(owing (F := F) c n ∗ (owing (F := F) c n -∗ St m ρ c n)) := by
  conv_lhs => unfold St
  iintro ⟨HO, H⟩
  isplitl [HO]; · iexact HO
  iintro HO
  unfold St
  isplitl [HO]; · iexact HO
  iexact H

/-- The products' part of block `o` can be taken out once it is had, and put back. -/
theorem St_blk (c : Dev nD) (n : ℕ) (o : Fin 16) (h : rdOf c o ⊆ Kp c n) :
    St m ρ c n ⊢ iprop((cL c ↦[blk o]{sqK} CV m ρ) ∗ ((cL c ↦[blk o]{sqK} CV m ρ) -∗ St m ρ c n)) := by
  conv_lhs => unfold St
  iintro ⟨H1, H2, H3, H4, H5, H6, H7, HP⟩
  ihave HP := (blk_read m ρ c o _ h) $$ HP
  icases HP with ⟨HP, Hw⟩
  isplitl [HP]; · iexact HP
  iintro HP
  ihave HP := Hw $$ HP
  unfold St
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HP

end Cert.Exchange

end
-- ==== Proof.Barr.lean ====
/-
The barrier: the signals to the neighbours, each handing over the rows the neighbour will write, and the wait for theirs.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The signals of a device still to be given: the duty's token and the rows handed over with it. -/
def sigR (c : Dev nD) (b : Fin 6) : sProp 𝕄 := iprop(dutyTok ER (barCell (btgt c b)) 0 (bix c b) ∗ bigSep (pkr c b) (Free (F := F) c))

/-- Before signal `n`. -/
def Br (c : Dev nD) (n : ℕ) : sProp 𝕄 :=
  iprop((∃ W : Waits sig Unit, owes (c : Thread nD τ) (oweB c (Sg c n) + oweT c (Finset.univ.erase (zi c))) W) ∗ bigSep (Sg c n) (sigR (F := F) c))

theorem sig_pay (c : Dev nD) (b : Fin 6) : bigSep (pkr c b) (Free (F := F) c) ⊢ barPay (F := F) (btgt c b) (bix c b) := by
  unfold barPay pkr
  refine le_of_eq' ?_
  have h : bigSep (Finset.image (rix (btgt c b)) (pk (bix c b))) (Free (F := F) c) = bigSep (pk (bix c b)) fun j => Free (F := F) c (rix (btgt c b) j) :=
    Finset.fold_image (pkr_inj c b)
  refine h.trans (BI.bigSep_congr fun j hj => ?_)
  unfold Dst
  rw [pk_tgt c b j hj]

/-- A signal is given. -/
theorem op_signal (K : Dev nD × KI → ℕ) (c : Dev nD) (b : Fin 6) (hb : b ≠ bz c) {d : Dev nD} (hd : d = btgt c b) {w : ℤ} {k' : ℕ}
    {α : Type} {Q : α → sProp 𝕄} {k : PUnit → Prog (TpuEff nD τ sig (Elt F) Λ₀ .tc) α} (hw : k' = 1) :
    iprop(recs m ρ K ∗ Br (F := F) c b.val)
      ⊢ iprop((Br (F := F) c (b.val + 1) -∗ wpC c (k ⟨⟩) Q) -∗ wpC c (.op (.semSignal ((d, .tc) : Thread nD τ) barS k') k) Q) := by
  subst hd; subst hw
  obtain ⟨hS, hS'⟩ := Sg_step c b hb
  unfold Br
  rw [hS, oweB_insert c hS', sep_ins hS']
  iintro ⟨#HR, ⟨%W, HO⟩, Hb, HS⟩ Hk
  unfold sigR
  icases Hb with ⟨Ht, Hf⟩
  ihave #HI := (recs_inv m ρ K (btgt c b, .inl ())) $$ HR
  ihave #Hr := (recs_reached m ρ K (btgt c b, .inl ())) $$ HR
  iapply (Rounds.wp_signal 𝒱₀ ER (Rd m ρ) (c : Thread nD τ) none (dst := (btgt c b : Thread nD τ)) (κ := K (btgt c b, .inl ())) (r := 0) (d := bix c b)
      (by rw [duties_bar]; exact Finset.mem_erase.mpr ⟨bact c b hb, Finset.mem_univ _⟩) (amount_bar m ρ (btgt c b) (bix c b)) () (oweB c (Sg c (b.val + 1)) + oweT c (Finset.univ.erase (zi c)))
      (by rw [add_right_comm])) $$ [HO Ht Hf]
  · isplitr; · iexact HI
    isplitl [HO]; · iexact HO
    isplitl [Ht]; · iexact Ht
    isplitl [Hf]
    · rw [payload_bar]; iapply (sig_pay c b) $$ Hf
    · iexact Hr
  iintro HO
  iapply Hk
  isplitl [HO]; · iexists W; iexact HO
  iexact HS

/-- The wait for the neighbours' signals. -/
theorem op_barrier (K : Dev nD × KI → ℕ) (c : Dev nD) {k' : ℕ} (hk : k' = 5)
    {α : Type} {Q : α → sProp 𝕄} {k : PUnit → Prog (TpuEff nD τ sig (Elt F) Λ₀ .tc) α} :
    iprop(recs m ρ K ∗ Br (F := F) c 6 ∗ cred (tallyAt (barCell c) () 5) ∗ atPos ER (barCell c) 0 ∅ 0)
      ⊢ iprop(((owing (F := F) c 0 ∗ bigSep (Finset.univ.erase (zi c)) (Dst (F := F) c) ∗ doneC m ρ (barCell c)) -∗ wpC c (k ⟨⟩) Q)
          -∗ wpC c (.op (.semWait barS k') k) Q) := by
  subst hk
  unfold Br owing
  rw [Sg_six, Un_zero, oweB_empty, zero_add]
  iintro ⟨#HR, ⟨⟨%W, HO⟩, -⟩, Hc, Hat⟩ Hk
  ihave #HI := (recs_inv m ρ K (c, .inl ())) $$ HR
  ihave #Hlev := (recs_lev m ρ K) $$ HR
  iapply (Rounds.wp_wait_rest_token 𝒱₀ ER (Rd m ρ) (c : Thread nD τ) none (κ := K (c, .inl ()))
      (wpE_semWait_eq 𝒱₀ (c : Thread nD τ) none Set.univ) (Set.mem_univ _) () (O := oweT c (Finset.univ.erase (zi c))) (W := W) (R := 0) (m := 0) (T := ∅)
      (by rw [Nat.zero_add, expect_bar])) $$ [Hc HO Hat]
  · isplitr; · iexact HI
    isplitl [Hc]; · iexact Hc
    isplitl [HO]; · iexact HO
    isplitr
    · ihave H := (mayWait_of (F := F) c (.reg barS) ∅ (Finset.univ.erase (zi c)) (fun _ h => absurd h (Finset.notMem_empty _))
        (fun j _ => lt_of_lt_of_le (by decide : 1 < 2) (lvR_ge (rix c j)))) $$ Hlev
      rw [oweB_empty, zero_add]; iexact H
    iexact Hat
  iintro ⟨HO, Hat, -, Hpay⟩
  ihave Hpay := (le_of_eq' (rest_bar m ρ c)) $$ Hpay
  ihave Hat := (done_one m ρ (barCell c)) $$ Hat
  iapply Hk
  isplitl [HO]; · iexists _; iexact HO
  isplitl [Hpay]; · iexact Hpay
  iexact Hat

/-- The signal a device leaves out. -/
theorem op_nosignal (c : Dev nD) (b : Fin 6) (hb : b = bz c) : Br (F := F) c b.val ⊢ Br (F := F) c (b.val + 1) := by
  subst hb; unfold Br; rw [Sg_skip]

/-- A part of the program run under a condition: what it leaves when it is run, and when it is not. -/
theorem if_frag (c : Dev nD) {P : Prop} [Decidable P] {t : P → Prog (TpuEff nD τ sig (Elt F) Λ₀ .tc) PUnit} {A B : sProp 𝕄} {Q : PUnit → sProp 𝕄}
    (ht : ∀ p : P, A ⊢ iprop((B -∗ Q ⟨⟩) -∗ wpC c (t p) Q)) (he : ¬P → A ⊢ B) :
    A ⊢ iprop((B -∗ Q ⟨⟩) -∗ wpC c (if p : P then t p else .ret ⟨⟩) Q) := by
  by_cases h : P
  · rw [dif_pos h]; exact ht h
  · rw [dif_neg h]; unfold wpC; rw [wp_ret]
    iintro H Hk
    ihave H := (he h) $$ H
    imodintro
    iapply Hk $$ H

end Cert.Exchange

end
-- ==== Proof.Copies.lean ====
/-
The products' staging slots, the output's blocks of rows and the copies from the one to the other: contents, regions, and
what a copy in flight gives back.
-/
module

public import proofs.«01_k».proof.Proof.Barr
public import Idealize.ShloMosaic.Lib.Transfers

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Regions -/

abbrev outM (off : Fin 2 → ℕ) (h : ∀ a, off a + S1536x1536.size a ≤ S24576x1536.size a) : Memref sig .tc .hbm S1536x1536 .bf16 :=
  oM.slice (Rect.unit (s := S24576x1536) off S1536x1536.size h) (fun _ => rfl)
abbrev rT (off : Fin 3 → ℕ) (h : ∀ a, off a + S1x1536x1536.size a ≤ S2x1536x1536.size a) : Rect S2x1536x1536 := Rect.unit (s := S2x1536x1536) off S1x1536x1536.size h
abbrev slotM (off : Fin 3 → ℕ) (h : ∀ a, off a + S1x1536x1536.size a ≤ S2x1536x1536.size a) : Memref sig .tc .vmem S1536x1536 .bf16 :=
  (sM.slice (rT off h) (fun _ => rfl)).squeeze S1536x1536 squeezes_S1x1536x1536_S1536x1536

def NC : ℕ := (outM ![0, 0] (by decide)).view.dmaCredit
theorem NC_pos : 0 < NC := View.dmaCredit_pos _ (by decide)
theorem out_credit (off) (h) : (outM off h).view.dmaCredit = NC := rfl

def rows (o : Fin 16) : Finset S24576x1536.Idx := Finset.univ.filter fun i => (i 0).val / 1536 = o.val
theorem mem_rows {o : Fin 16} {i : S24576x1536.Idx} : i ∈ rows o ↔ (i 0).val / 1536 = o.val := by
  unfold rows; rw [Finset.mem_filter]; exact ⟨fun h => h.2, fun h => ⟨Finset.mem_univ _, h⟩⟩
def slot (s : Fin 2) : Finset S2x1536x1536.Idx := Finset.univ.filter fun i => (i 0).val = s.val
theorem mem_slot {s : Fin 2} {i : S2x1536x1536.Idx} : i ∈ slot s ↔ (i 0).val = s.val := by
  unfold slot; rw [Finset.mem_filter]; exact ⟨fun h => h.2, fun h => ⟨Finset.mem_univ _, h⟩⟩

theorem out_emb {o : Fin 16} {h} (x : S1536x1536.Idx) :
    (((outM ![1536 * o.val, 0] h).view.emb x : S24576x1536.Idx) 0).val = 1536 * o.val + (x 0).val ∧ (((outM ![1536 * o.val, 0] h).view.emb x : S24576x1536.Idx) 1).val = (x 1).val := by
  constructor
  · show (![1536 * o.val, 0] : Fin 2 → ℕ) 0 + 1 * (x 0).val = _; simp
  · show (![1536 * o.val, 0] : Fin 2 → ℕ) 1 + 1 * (x 1).val = _; simp

theorem outM_set {o : Fin 16} {off} {h} (ho : off = ![1536 * o.val, 0]) : (outM off h).view.set = rows o := by
  subst ho
  refine (View.set_slice_whole _ _).trans ?_
  ext i
  rw [Rect.mem_set_unit, mem_rows]
  have h0 : (i 0).val < 24576 := (i 0).isLt
  have h1 : (i 1).val < 1536 := (i 1).isLt
  have ho : o.val < 16 := o.isLt
  constructor
  · intro H
    have := H 0
    have h2 : 1536 * o.val ≤ (i 0).val ∧ (i 0).val < 1536 * o.val + 1536 := this
    omega
  · intro H a
    fin_cases a
    · show 1536 * o.val ≤ (i 0).val ∧ (i 0).val < 1536 * o.val + 1536
      omega
    · show 0 ≤ (i 1).val ∧ (i 1).val < 0 + 1536
      omega

theorem rT_set {s : Fin 2} {off} {h} (ho : off = ![s.val, 0, 0]) : (sM.view.slice (rT off h)).set = slot s := by
  subst ho
  refine (View.set_slice_whole _ _).trans ?_
  ext i
  rw [Rect.mem_set_unit, mem_slot]
  have h1 : (i 1).val < 1536 := (i 1).isLt
  have h2 : (i 2).val < 1536 := (i 2).isLt
  constructor
  · intro H
    have h2 : s.val ≤ (i 0).val ∧ (i 0).val < s.val + 1 := H 0
    omega
  · intro H a
    fin_cases a
    · show s.val ≤ (i 0).val ∧ (i 0).val < s.val + 1
      omega
    · show 0 ≤ (i 1).val ∧ (i 1).val < 0 + 1536
      omega
    · show 0 ≤ (i 2).val ∧ (i 2).val < 0 + 1536
      omega

theorem slotM_set {s : Fin 2} {off} {h} (ho : off = ![s.val, 0, 0]) : (slotM off h).view.set = slot s := by
  refine (View.set_reshape _ _).trans ?_
  show (sM.view.slice (rT off h)).set = _
  exact rT_set ho

/-! ## Contents -/

/-- The second operand, as the products read it. -/
def BV (c : Dev nD) : (cc0_scratch2 : Ref sig .tc).ty.Contents (Elt F) := k0_pay2 (xB m ρ c)
/-- The product of block `o` with it. -/
def TV (c : Dev nD) (o : Fin 16) : FVec F S1536x1536 .bf16 := k0_pay11 (blkV m ρ o) (BV m ρ c)

def inRows (i : S24576x1536.Idx) : S1536x1536.Idx := fun a => match a with
  | ⟨0, _⟩ => ⟨(i 0).val % 1536, Nat.mod_lt _ (by decide)⟩
  | ⟨1, _⟩ => ⟨(i 1).val, (i 1).isLt⟩
def rowBlk (i : S24576x1536.Idx) : Fin 16 := ⟨(i 0).val / 1536, by have : (i 0).val < 24576 := (i 0).isLt; omega⟩
/-- The whole output on device `c`. -/
def OV (c : Dev nD) : (main_v1 : Ref sig .tc).ty.Contents (Elt F) := fun (i : S24576x1536.Idx) => TV m ρ c (rowBlk i) (inRows i)

theorem OV_emb (c : Dev nD) {o : Fin 16} {off} {h} (ho : off = ![1536 * o.val, 0]) (x : S1536x1536.Idx) : OV m ρ c ((outM off h).view.emb x) = TV m ρ c o x := by
  subst ho
  obtain ⟨h0, h1⟩ := out_emb (o := o) (h := h) x
  have hx : (x 0).val < 1536 := (x 0).isLt
  have e1 : rowBlk ((outM ![1536 * o.val, 0] h).view.emb x : S24576x1536.Idx) = o := Fin.ext (by
    show (((outM ![1536 * o.val, 0] h).view.emb x : S24576x1536.Idx) 0).val / 1536 = _
    rw [h0]; omega)
  have e2 : inRows ((outM ![1536 * o.val, 0] h).view.emb x : S24576x1536.Idx) = x := funext fun a => by
    fin_cases a
    · refine Fin.ext ?_
      show (((outM ![1536 * o.val, 0] h).view.emb x : S24576x1536.Idx) 0).val % 1536 = _
      rw [h0]; show _ = (x 0).val; omega
    · exact Fin.ext h1
  show TV m ρ c (rowBlk _) (inRows _) = _
  rw [e1, e2]

/-- What a store of the product leaves for the copy to read. -/
theorem slot_read (off) (h) (f : (cc0_scratch1 : Ref sig .tc).ty.Contents (Elt F)) (t : FVec F S1536x1536 .bf16) :
    (slotM off h).view.read (Elt F) ((sM.access (rT off h)).write (Elt F) f (k0_pay12 t) Finset.univ) = t := by
  have e : (sM.view.slice (rT off h)).read (Elt F) ((sM.view.slice (rT off h)).write (Elt F) f (k0_pay12 t) Finset.univ) = k0_pay12 t := View.read_write_univ _ _
  funext x
  have := congrFun e (Shape.reshapeEquiv (squeezes_S1x1536x1536_S1536x1536 : S1x1536x1536.Squeezes S1536x1536).numel_eq x)
  refine Eq.trans (b := (sM.view.slice (rT off h)).read (Elt F) ((sM.view.slice (rT off h)).write (Elt F) f (k0_pay12 t) Finset.univ) (Shape.reshapeEquiv (squeezes_S1x1536x1536_S1536x1536 : S1x1536x1536.Squeezes S1536x1536).numel_eq x)) rfl (this.trans ?_)
  show t (Shape.reshapeEquiv _ (Shape.reshapeEquiv _ x)) = _
  rw [Shape.reshapeEquiv_reshapeEquiv, Shape.reshapeEquiv_self]

/-! ## Resources -/

abbrev oL (c : Dev nD) : Loc nD τ sig := (c : Thread nD τ).loc main_v1
abbrev sL (c : Dev nD) : Loc nD τ sig := (c : Thread nD τ).loc cc0_scratch1
abbrev wL (c : Dev nD) : Loc nD τ sig := (c : Thread nD τ).loc cc0_scratch2
def wPts (c : Dev nD) : sProp 𝕄 := (wL c ↦{fullShare} BV m ρ c)
theorem inbT : ∀ (s : Fin 2) (a), (![s.val, 0, 0] : Fin 3 → ℕ) a + S1x1536x1536.size a ≤ S2x1536x1536.size a := by decide +kernel
def slotP (c : Dev nD) (s : Fin 2) : sProp 𝕄 := iprop(∃ f, sL c ↦[slot s]{fullShare} f)
def slotF (c : Dev nD) (s : Fin 2) (o : Fin 16) : sProp 𝕄 :=
  iprop(∃ f : Buf (Elt F) (sL c), ⌜(slotM ![s.val, 0, 0] (inbT s)).view.read (Elt F) f = TV m ρ c o⌝ ∗ (sL c ↦[slot s]{fullShare} f))
def rowsV (c : Dev nD) (o : Fin 16) : sProp 𝕄 := (oL c ↦[rows o]{fullShare} OV m ρ c)
def outP (c : Dev nD) (k : ℕ) (o : Fin 16) : sProp 𝕄 :=
  iprop(∃ f : Buf (Elt F) (oL c), ⌜(∃ i : Fin 19, i.val < k ∧ og c i.val = o) → f = OV m ρ c⌝ ∗ (oL c ↦[rows o]{fullShare} f))
instance slotP_storable (c : Dev nD) (s : Fin 2) : BI.Storable (upEmb : UEmb _ 𝕄) (slotP (F := F) c s) := by unfold slotP; infer_instance
instance rowsV_storable (c : Dev nD) (o : Fin 16) : BI.Storable (upEmb : UEmb _ 𝕄) (rowsV m ρ c o) := by unfold rowsV; infer_instance

theorem outP_step (c : Dev nD) (k : ℕ) (o : Fin 16) (h : og c k ≠ o) : outP m ρ c k o ⊢ outP m ρ c (k + 1) o := by
  unfold outP
  iintro ⟨%f, %hf, H⟩
  iexists f; isplitr
  · ipureintro; rintro ⟨i, hi, ho⟩
    refine hf ⟨i, ?_, ho⟩
    rcases Nat.lt_succ_iff_lt_or_eq.mp hi with h' | h'
    · exact h'
    · rw [h'] at ho; exact absurd ho h
  iexact H
theorem rowsV_outP (c : Dev nD) (k : ℕ) (o : Fin 16) : rowsV m ρ c o ⊢ outP m ρ c k o := by
  unfold outP rowsV
  iintro H
  iexists OV m ρ c; isplitr; · ipureintro; exact fun _ => rfl
  iexact H

theorem rows_disj (o o' : Fin 16) (h : o ≠ o') : Disjoint (rows o) (rows o') := Finset.disjoint_left.mpr fun i hi hi' => h (Fin.ext ((mem_rows.mp hi).symm.trans (mem_rows.mp hi')))
theorem rows_all : (Finset.univ : Finset (Fin 16)).biUnion rows = Finset.univ := by
  ext i; rw [Finset.mem_biUnion]; exact ⟨fun _ => Finset.mem_univ _, fun _ => ⟨rowBlk i, Finset.mem_univ _, mem_rows.mpr rfl⟩⟩
theorem rows_split (c : Dev nD) (f : Buf (Elt F) (oL c)) : (oL c ↦{fullShare} f : sProp 𝕄) = bigSep Finset.univ fun o => (oL c ↦[rows o]{fullShare} f) := by
  have := pointsTo_biUnion (ℓ := oL c) (q := fullShare) (f := f) (Ix := Unit) (Name := ℕ) (U := UU) (Lvl := ℕ) Finset.univ rows fun r _ r' _ h => rows_disj r r' h
  rw [rows_all] at this
  exact this
theorem out_start (c : Dev nD) (f : Buf (Elt F) (oL c)) : (oL c ↦{fullShare} f : sProp 𝕄) ⊢ bigSep Finset.univ (outP m ρ c 0) := by
  rw [rows_split]
  refine sep_all_mono fun o _ => ?_
  unfold outP
  iintro H; iexists f; isplitr
  · ipureintro; rintro ⟨i, hi, -⟩; exact absurd hi (Nat.not_lt_zero _)
  iexact H
theorem out_end (c : Dev nD) : bigSep Finset.univ (outP m ρ c 19) ⊢ (oL c ↦{fullShare} OV m ρ c : sProp 𝕄) := by
  rw [rows_split]
  refine sep_all_mono fun o _ => ?_
  unfold outP
  iintro ⟨%f, %hf, H⟩
  obtain ⟨k, hk⟩ := og_onto c o
  obtain rfl := hf ⟨k, k.isLt, hk⟩
  iexact H

theorem slot_disj (o o' : Fin 2) (h : o ≠ o') : Disjoint (slot o) (slot o') := Finset.disjoint_left.mpr fun i hi hi' => h (Fin.ext ((mem_slot.mp hi).symm.trans (mem_slot.mp hi')))
theorem slots_split (c : Dev nD) (f : Buf (Elt F) (sL c)) : (sL c ↦{fullShare} f : sProp 𝕄) = bigSep Finset.univ fun o => (sL c ↦[slot o]{fullShare} f) := by
  have := pointsTo_biUnion (ℓ := sL c) (q := fullShare) (f := f) (Ix := Unit) (Name := ℕ) (U := UU) (Lvl := ℕ) Finset.univ slot fun r _ r' _ h => slot_disj r r' h
  have e : (Finset.univ : Finset (Fin 2)).biUnion slot = Finset.univ := by
    ext i; rw [Finset.mem_biUnion]; exact ⟨fun _ => Finset.mem_univ _, fun _ => ⟨⟨(i 0).val, (i 0).isLt⟩, Finset.mem_univ _, mem_slot.mpr rfl⟩⟩
  rw [e] at this
  exact this
theorem slots_start (c : Dev nD) (f : Buf (Elt F) (sL c)) : (sL c ↦{fullShare} f : sProp 𝕄) ⊢ iprop(slotP (F := F) c 0 ∗ slotP (F := F) c 1) := by
  rw [slots_split, BI.bigSep_univ_eq_bigSepL [(0 : Fin 2), 1] (by decide) (by decide)]
  unfold slotP
  show iprop((sL c ↦[slot 0]{fullShare} f) ∗ (sL c ↦[slot 1]{fullShare} f)) ⊢ _
  iintro ⟨H, H'⟩
  isplitl [H]
  · iexists f; iexact H
  · iexists f
    iexact H'

/-! ## A copy in flight -/

abbrev flt (c : Dev nD) (s : Fin 2) (D : sProp 𝕄) : sProp 𝕄 := Transfers.Flight (EC (F := F)) (c : Thread nD τ) (.dma (cS s)) () NC D

theorem flt_frame (c : Dev nD) (s : Fin 2) (D P : sProp 𝕄) : iprop(flt (F := F) c s D ∗ P) ⊢ flt (F := F) c s iprop(D ∗ P) := by
  unfold flt Transfers.Flight
  iintro ⟨⟨⟨%R, HR, %h1, %h2⟩, Hc⟩, HP⟩
  isplitl [HR HP]
  · iexists iprop(R ∗ P)
    isplitl [HR HP]
    · isplitl [HR]; · iexact HR
      iexact HP
    isplit
    · ipureintro; intro K
      refine BIBase.Entails.trans ?_ (h1 K)
      iintro ⟨⟨HR, HP⟩, HK⟩
      isplitl [HR]; · iexact HR
      iintro ⟨Hv, HD⟩
      iapply HK
      isplitl [Hv]; · iexact Hv
      isplitl [HD]; · iexact HD
      iexact HP
    · ipureintro; intro K
      refine BIBase.Entails.trans ?_ (h2 K)
      iintro ⟨⟨HR, HP⟩, HK⟩
      isplitl [HR]; · iexact HR
      iintro HR
      iapply HK
      isplitl [HR]; · iexact HR
      iexact HP
  · iexact Hc

/-- The copy of block `o` from slot `s`, in flight. -/
def Fly (c : Dev nD) (s : Fin 2) (o : Fin 16) : sProp 𝕄 :=
  iprop(∃ D : sProp 𝕄, ⌜D ⊢ iprop(|={Set.univ}=> (rowsV m ρ c o ∗ slotP (F := F) c s))⌝ ∗ flt (F := F) c s D)

/-! ## Two copies of the same rows in flight -/

def enc (D : Finset S1536x1536.Idx) : ℕ := (Fintype.equivFin (Finset S1536x1536.Idx) D).val
theorem enc_inj {D D' : Finset S1536x1536.Idx} (h : enc D = enc D') : D = D' := (Fintype.equivFin (Finset S1536x1536.Idx)).injective (Fin.ext h)

theorem inbO : ∀ (o : Fin 16) (a), (![1536 * o.val, 0] : Fin 2 → ℕ) a + S1536x1536.size a ≤ S24576x1536.size a := by decide +kernel
/-- The rows of block `o`, shared by two copies that write the same there: the first copy's progress is counted at `γ`;
    both done, the rows have been taken out. -/
def shB (c : Dev nD) (o : Fin 16) (γ δ : ℕ) : sProp 𝕄 :=
  iprop((∃ (f : Buf (Elt F) (oL c)) (D : Finset S1536x1536.Idx), (oL c ↦[rows o]{fullShare} f) ∗ countAuth (EC (F := F)) γ (enc D)
      ∗ ⌜∀ x ∈ D, f ((outM ![1536 * o.val, 0] (inbO o)).view.emb x) = OV m ρ c ((outM ![1536 * o.val, 0] (inbO o)).view.emb x)⌝)
    ∨ (count (EC (F := F)) γ (enc Finset.univ) ∗ count (EC (F := F)) δ 0))
instance shB_storable (c : Dev nD) (o : Fin 16) (γ δ : ℕ) : BI.Storable (upEmb : UEmb _ 𝕄) (shB m ρ c o γ δ) := by unfold shB count countAuth; infer_instance

theorem shB_take (c : Dev nD) (o : Fin 16) (γ δ : ℕ) (ι : ℕ) :
    iprop(inv ι (shB m ρ c o γ δ) ∗ count (EC (F := F)) γ (enc Finset.univ) ∗ count (EC (F := F)) δ 0) ⊢ iprop(|={Set.univ}=> rowsV m ρ c o) := by
  iintro ⟨#Hinv, Hγ, Hδ⟩
  imod (inv_acc (Set.mem_univ ι)) $$ Hinv with ⟨Hb, Hclose⟩
  unfold shB
  icases Hb with (⟨%f, %D, Hf, Hγa, %hf⟩ | ⟨-, Hδ'⟩)
  · icombine Hγa Hγ gives %hD
    obtain rfl := enc_inj hD
    ihave Hc := Hclose $$ [Hγ Hδ]
    · iright; isplitl [Hγ]; · iexact Hγ
      iexact Hδ
    imod Hc
    imodintro
    unfold rowsV
    have e : (oL c ↦[rows o]{fullShare} f : sProp 𝕄) = (oL c ↦[rows o]{fullShare} OV m ρ c) := pointsTo_congr fun i hi => by
      rw [← outM_set (o := o) (h := inbO o) rfl] at hi
      obtain ⟨x, -, rfl⟩ := Finset.mem_map.mp hi
      exact hf x (Finset.mem_univ x)
    ihave Hf := (le_of_eq' e) $$ Hf
    iexact Hf
  · iexfalso; iapply (count_count_false (EC (F := F))); isplitl [Hδ'] <;> iassumption

theorem write_at (c : Dev nD) (o : Fin 16) (f : Buf (Elt F) (oL c)) (M : Finset S1536x1536.Idx) (x : S1536x1536.Idx)
    (h : x ∈ M ∨ f ((outM ![1536 * o.val, 0] (inbO o)).view.emb x) = OV m ρ c ((outM ![1536 * o.val, 0] (inbO o)).view.emb x)) :
    ((outM ![1536 * o.val, 0] (inbO o)).view.write (Elt F) f (TV m ρ c o) M) ((outM ![1536 * o.val, 0] (inbO o)).view.emb x) = OV m ρ c ((outM ![1536 * o.val, 0] (inbO o)).view.emb x) := by
  by_cases hx : x ∈ M
  · refine (View.write_emb _ _ _ _).trans ?_
    rw [if_pos hx, OV_emb m ρ c rfl]
    rfl
  · refine (View.write_emb _ _ _ _).trans ?_
    rw [if_neg hx]
    exact h.resolve_left hx

theorem sh_first (c : Dev nD) (o : Fin 16) (γ δ : ℕ) (ι : ℕ) :
    iprop(inv ι (shB m ρ c o γ δ) ∗ count (EC (F := F)) γ (enc ∅)) ⊢ writeUpdate (c : Thread nD τ) (outM ![1536 * o.val, 0] (inbO o)).view (TV m ρ c o) (count (EC (F := F)) γ (enc Finset.univ)) := by
  rw [writeUpdate, writeUpdateFrom_def]
  iintro ⟨#Hinv, Hγ⟩
  iexists fun M => count (EC (F := F)) γ (enc M)
  isplitl [Hγ]; · iexact Hγ
  isplitr
  · rw [writeSteps_def]
    imodintro
    iintro %M %M' Hγ
    imod (inv_acc (Set.mem_univ ι)) $$ Hinv with ⟨Hb, Hclose⟩
    unfold shB
    icases Hb with (⟨%f, %D, Hf, Hγa, %hf⟩ | ⟨Hγ', -⟩)
    · icombine Hγa Hγ gives %hD
      obtain rfl := enc_inj hD
      imodintro
      rw [storeSpec_apply]
      iexists rows o, f
      isplitl [Hf]; · iexact Hf
      isplitr
      · ipureintro
        rw [← outM_set (o := o) (h := inbO o) rfl]
        exact View.setOn_subset_set _ _
      iintro Hf
      imod (countAuth_count_update (EC (F := F)) (enc (M ∪ M'))) $$ [Hγa Hγ] with ⟨Hγa, Hγ⟩; · isplitl [Hγa] <;> iassumption
      ihave Hc := Hclose $$ [Hf Hγa]
      · ileft
        iexists _, (M ∪ M')
        isplitl [Hf]; · iexact Hf
        isplitl [Hγa]; · iexact Hγa
        ipureintro
        exact fun x hx => write_at m ρ c o f M' x ((Finset.mem_union.mp hx).symm.imp_right (hf x))
      imod Hc
      imodintro
      iexact Hγ
    · iexfalso; iapply (count_count_false (EC (F := F))); isplitl [Hγ'] <;> iassumption
  · iintro H; iexact H

theorem sh_second (c : Dev nD) (o : Fin 16) (γ δ : ℕ) (ι : ℕ) :
    iprop(inv ι (shB m ρ c o γ δ) ∗ count (EC (F := F)) δ 0) ⊢ writeUpdate (c : Thread nD τ) (outM ![1536 * o.val, 0] (inbO o)).view (TV m ρ c o) (count (EC (F := F)) δ 0) := by
  rw [writeUpdate, writeUpdateFrom_def]
  iintro ⟨#Hinv, Hγ⟩
  iexists fun _ => count (EC (F := F)) δ 0
  isplitl [Hγ]; · iexact Hγ
  isplitr
  · rw [writeSteps_def]
    imodintro
    iintro %M %M' Hγ
    imod (inv_acc (Set.mem_univ ι)) $$ Hinv with ⟨Hb, Hclose⟩
    unfold shB
    icases Hb with (⟨%f, %D, Hf, Hγa, %hf⟩ | ⟨-, Hγ'⟩)
    · imodintro
      rw [storeSpec_apply]
      iexists rows o, f
      isplitl [Hf]; · iexact Hf
      isplitr
      · ipureintro
        rw [← outM_set (o := o) (h := inbO o) rfl]
        exact View.setOn_subset_set _ _
      iintro Hf
      ihave Hc := Hclose $$ [Hf Hγa]
      · ileft
        iexists _, D
        isplitl [Hf]; · iexact Hf
        isplitl [Hγa]; · iexact Hγa
        ipureintro
        exact fun x hx => write_at m ρ c o f M' x (.inr (hf x hx))
      imod Hc
      imodintro
      iexact Hγ
    · iexfalso; iapply (count_count_false (EC (F := F))); isplitl [Hγ'] <;> iassumption
  · iintro H; iexact H

/-- The two shared copies' rows become shared. -/
theorem sh_alloc (c : Dev nD) (o : Fin 16) : outP m ρ c 0 o
    ⊢ iprop(|={Set.univ}=> ∃ γ δ ι, inv ι (shB m ρ c o γ δ) ∗ count (EC (F := F)) γ (enc ∅) ∗ count (EC (F := F)) δ 0) := by
  unfold outP
  iintro ⟨%f, -, Hf⟩
  imod (count_alloc (EC (F := F)) ∅) $$ [] with ⟨%γ, -, Hγa, Hγ⟩; · iempintro
  imod (count_alloc (EC (F := F)) ∅) $$ [] with ⟨%δ, -, -, Hδ⟩; · iempintro
  imod (countAuth_count_update (EC (F := F)) (enc ∅)) $$ [Hγa Hγ] with ⟨Hγa, Hγ⟩; · isplitl [Hγa] <;> iassumption
  imod (inv_alloc (P := shB m ρ c o γ δ) (E := Set.univ)) $$ [Hf Hγa] with ⟨%ι, #Hinv⟩
  · unfold shB
    ileft
    iexists f, ∅
    isplitl [Hf]; · iexact Hf
    isplitl [Hγa]; · iexact Hγa
    ipureintro
    intro x hx; exact absurd hx (Finset.notMem_empty x)
  imodintro
  iexists γ, δ, ι
  isplitr; · iexact Hinv
  isplitl [Hγ]; · iexact Hγ
  iexact Hδ

/-- The copy of a filled slot to the rows it belongs to is started. -/
theorem copy_core (c : Dev nD) (s : Fin 2) (o : Fin 16) {soff ooff hs ho} {q : DmaSem sig} (h₁ : soff = ![s.val, 0, 0]) (h₂ : ooff = ![1536 * o.val, 0]) (hq : q = cS s)
    {Rx : sProp 𝕄} [BI.Storable (upEmb : UEmb _ 𝕄) Rx] {hsrc : (slotM soff hs).view.WordExact} {hdst : (outM ooff ho).view.WordExact} {hsem}
    {α : Type} {Q : α → sProp 𝕄} {k : PUnit → Prog (TpuEff nD τ sig (Elt F) Λ₀ .tc) α} :
    iprop(slotF m ρ c s o ∗ semVal ((c : Thread nD τ), SemLoc.dma (cS s)) 0 ∗ writeUpdate (c : Thread nD τ) (outM ![1536 * o.val, 0] (inbO o)).view (TV m ρ c o) Rx)
      ⊢ iprop((flt (F := F) c s iprop(Rx ∗ slotP (F := F) c s) -∗ wpC (F := F) c (k ⟨⟩) Q)
          -∗ wpC (F := F) c (.op (.enqueueDma (slotM soff hs) (.here (outM ooff ho)) (.dma q) hsrc hdst hsem) k) Q) := by
  subst h₁ h₂ hq
  unfold slotF
  iintro ⟨⟨%f, %hf, Hf⟩, Hv, Hw⟩ Hk
  imod (Transfers.flight_alloc (EC (F := F)) NC_pos iprop(Rx ∗ slotP (F := F) c s) (g := ((c : Thread nD τ), SemLoc.dma (cS s)))) $$ Hv with ⟨%γ, %δ, %κ, #Hinv, Hγ, Hδ⟩
  ihave Hf := (le_of_eq' (show (sL c ↦[slot s]{fullShare} f : sProp 𝕄) = ((slotM ![s.val, 0, 0] hs).view.loc (c : Thread nD τ) ↦[(slotM ![s.val, 0, 0] hs).view.set]{fullShare} f) by rw [slotM_set (s := s) rfl])) $$ Hf
  ihave Hw := (le_of_eq' (show writeUpdate (c : Thread nD τ) (outM ![1536 * o.val, 0] (inbO o)).view (TV m ρ c o) Rx
    = writeUpdate (c : Thread nD τ) (outM ![1536 * o.val, 0] (inbO o)).view ((slotM ![s.val, 0, 0] hs).view.read (Elt F) f) Rx by rw [hf])) $$ Hw
  iapply (wp_enqueueDma 𝒱₀ (c : Thread nD τ) none Set.univ (src := slotM ![s.val, 0, 0] hs) (dst := outM ![1536 * o.val, 0] ho) (sem := .dma (cS s)) (fs := f) (q := fullShare) (R := Rx) () NC (out_credit _ _)) $$ [Hf Hw] [Hγ]
  · isplitl [Hf]; · iexact Hf
    iexact Hw
  · iapply (Transfers.creditUpdate_anti (R := iprop(Rx ∗ slotP (F := F) c s)) (R' := iprop(Rx ∗ ((slotM ![s.val, 0, 0] hs).view.loc (c : Thread nD τ) ↦[(slotM ![s.val, 0, 0] hs).view.set]{fullShare} f))) (by
      iintro ⟨H, Hf⟩
      isplitl [H]; · iexact H
      unfold slotP
      iexists f
      ihave Hf := (le_of_eq' (show ((slotM ![s.val, 0, 0] hs).view.loc (c : Thread nD τ) ↦[(slotM ![s.val, 0, 0] hs).view.set]{fullShare} f : sProp 𝕄) = (sL c ↦[slot s]{fullShare} f) by rw [slotM_set (s := s) rfl])) $$ Hf
      iexact Hf))
    iapply (Transfers.flight_creditUpdate (EC (F := F)) (δ := δ))
    isplitr; · iexact Hinv
    iexact Hγ
  iintro Hcred
  iapply Hk
  unfold flt
  iapply (Transfers.flight_intro (EC (F := F)) (c : Thread nD τ) (κ := κ))
  isplitr; · iexact Hinv
  isplitl [Hδ] <;> iassumption

end Cert.Exchange

end
-- ==== Proof.Stage.lean ====
/-
The products one after another: what a device holds of the slots, the output and the copies in flight before and after each
product, and the operations that lead from the one to the other.
-/
module

public import proofs.«01_k».proof.Proof.Copies

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The slot that product `k` is put in. -/
def sl (k : ℕ) : Fin 2 := ⟨k % 2, Nat.mod_lt _ (by decide)⟩
theorem sl_two (k : ℕ) : sl (k + 2) = sl k := Fin.ext (Nat.add_mod_right k 2)
theorem og_ne : ∀ (c : Dev nD) (k : Fin 18), ¬ (k.val = 0 ∧ c.val < 4) → og c (k.val + 1) ≠ og c k.val := by decide +kernel
theorem og_same : ∀ (c : Dev nD), c.val < 4 → og c 1 = og c 0 := by decide +kernel

/-! ## Before and after a product -/

def Sh1 (c : Dev nD) : sProp 𝕄 :=
  iprop(∃ γ δ ι, inv ι (shB m ρ c (og c 0) γ δ) ∗ count (EC (F := F)) δ 0 ∗ flt (F := F) c 0 iprop(count (EC (F := F)) γ (enc Finset.univ) ∗ slotP (F := F) c 0)
    ∗ bigSep (Finset.univ.erase (og c 0)) (outP m ρ c 1))
def Sh2 (c : Dev nD) : sProp 𝕄 :=
  iprop(∃ γ δ ι, inv ι (shB m ρ c (og c 0) γ δ) ∗ flt (F := F) c 0 iprop(count (EC (F := F)) γ (enc Finset.univ) ∗ slotP (F := F) c 0)
    ∗ flt (F := F) c 1 iprop(count (EC (F := F)) δ 0 ∗ slotP (F := F) c 1) ∗ bigSep (Finset.univ.erase (og c 0)) (outP m ρ c 2))
def Rst (c : Dev nD) : ℕ → sProp 𝕄
  | 0 => iprop(slotP (F := F) c 1 ∗ semVal ((c : Thread nD τ), SemLoc.dma (cS 1)) 0 ∗ bigSep Finset.univ (outP m ρ c 0))
  | k + 1 => if k = 0 ∧ c.val < 4 then Sh1 m ρ c else iprop(Fly m ρ c (sl k) (og c k) ∗ bigSep (Finset.univ.erase (og c k)) (outP m ρ c (k + 1)))
/-- Before product `k` is put in its slot. -/
def Mid (c : Dev nD) (k : ℕ) : sProp 𝕄 := iprop(slotP (F := F) c (sl k) ∗ semVal ((c : Thread nD τ), SemLoc.dma (cS (sl k))) 0 ∗ Rst m ρ c k)
/-- After its copy is started. -/
def Aft (c : Dev nD) : ℕ → sProp 𝕄
  | 0 => Mid m ρ c 1
  | k + 1 => if k = 0 ∧ c.val < 4 then Sh2 m ρ c
    else iprop(Fly m ρ c (sl (k + 1)) (og c (k + 1)) ∗ Fly m ρ c (sl k) (og c k) ∗ bigSep ((Finset.univ.erase (og c (k + 1))).erase (og c k)) (outP m ρ c (k + 2)))

theorem Rst_zero (c : Dev nD) : Rst m ρ c 0 = iprop(slotP (F := F) c 1 ∗ semVal ((c : Thread nD τ), SemLoc.dma (cS 1)) 0 ∗ bigSep Finset.univ (outP m ρ c 0)) := rfl
theorem Rst_sh {c : Dev nD} (h : c.val < 4) : Rst m ρ c (0 + 1) = Sh1 m ρ c := if_pos ⟨rfl, h⟩
theorem Rst_fly {c : Dev nD} {k : ℕ} (h : ¬ (k = 0 ∧ c.val < 4)) :
    Rst m ρ c (k + 1) = iprop(Fly m ρ c (sl k) (og c k) ∗ bigSep (Finset.univ.erase (og c k)) (outP m ρ c (k + 1))) := if_neg h
theorem Aft_zero (c : Dev nD) : Aft m ρ c 0 = iprop(slotP (F := F) c 1 ∗ semVal ((c : Thread nD τ), SemLoc.dma (cS 1)) 0 ∗ Rst m ρ c (0 + 1)) := rfl
theorem Aft_sh {c : Dev nD} (h : c.val < 4) : Aft m ρ c (0 + 1) = Sh2 m ρ c := if_pos ⟨rfl, h⟩
theorem Aft_fly {c : Dev nD} {k : ℕ} (h : ¬ (k = 0 ∧ c.val < 4)) : Aft m ρ c (k + 1) =
    iprop(Fly m ρ c (sl (k + 1)) (og c (k + 1)) ∗ Fly m ρ c (sl k) (og c k) ∗ bigSep ((Finset.univ.erase (og c (k + 1))).erase (og c k)) (outP m ρ c (k + 2))) := if_neg h

theorem outs_step (c : Dev nD) (k : ℕ) (s : Finset (Fin 16)) (h : og c k ∉ s) : bigSep s (outP m ρ c k) ⊢ bigSep s (outP m ρ c (k + 1)) :=
  sep_all_mono fun o ho => outP_step m ρ c k o fun e => h (e ▸ ho)

/-! ## Starting a copy -/

theorem op_fly (c : Dev nD) (n : ℕ) (s : Fin 2) (o : Fin 16) {soff ooff hs ho} {q : DmaSem sig} (h₁ : soff = ![s.val, 0, 0]) (h₂ : ooff = ![1536 * o.val, 0]) (hq : q = cS s)
    {hsrc : (slotM soff hs).view.WordExact} {hdst : (outM ooff ho).view.WordExact} {hsem}
    {α : Type} {Q : α → sProp 𝕄} {k : PUnit → Prog (TpuEff nD τ sig (Elt F) Λ₀ .tc) α} :
    iprop(slotF m ρ c s o ∗ semVal ((c : Thread nD τ), SemLoc.dma (cS s)) 0 ∗ outP m ρ c n o)
      ⊢ iprop((Fly m ρ c s o -∗ wpC (F := F) c (k ⟨⟩) Q)
          -∗ wpC (F := F) c (.op (.enqueueDma (slotM soff hs) (.here (outM ooff ho)) (.dma q) hsrc hdst hsem) k) Q) := by
  iintro ⟨Hs, Hv, Ho⟩ Hk
  unfold outP
  icases Ho with ⟨%f, -, Ho⟩
  have e : (oL c ↦[rows o]{fullShare} (outM ![1536 * o.val, 0] (inbO o)).view.write (Elt F) f (TV m ρ c o) Finset.univ : sProp 𝕄) = rowsV m ρ c o := by
    unfold rowsV
    refine pointsTo_congr fun i hi => ?_
    rw [← outM_set (o := o) (h := inbO o) rfl] at hi
    obtain ⟨x, -, rfl⟩ := Finset.mem_map.mp hi
    exact write_at m ρ c o f Finset.univ x (.inl (Finset.mem_univ x))
  iapply (copy_core m ρ c s o (Rx := (oL c ↦[rows o]{fullShare} (outM ![1536 * o.val, 0] (inbO o)).view.write (Elt F) f (TV m ρ c o) Finset.univ)) h₁ h₂ hq) $$ [Hs Hv Ho]
  · isplitl [Hs]; · iexact Hs
    isplitl [Hv]; · iexact Hv
    iapply (pointsTo_writeUpdate (c : Thread nD τ) (v := (outM ![1536 * o.val, 0] (inbO o)).view) (S := rows o) (fd := f) (by rw [outM_set (o := o) rfl])) $$ Ho
  iintro H
  iapply Hk
  unfold Fly
  iexists _
  isplitr
  swap; · iexact H
  ipureintro
  rw [e]
  iintro H; imodintro; iexact H

/-- The copy of product `k` is started. -/
theorem op_copy (c : Dev nD) (k : ℕ) (hk : k < 19) {soff ooff hs ho} {q : DmaSem sig} (h₁ : soff = ![(sl k).val, 0, 0]) (h₂ : ooff = ![1536 * (og c k).val, 0]) (hq : q = cS (sl k))
    {hsrc : (slotM soff hs).view.WordExact} {hdst : (outM ooff ho).view.WordExact} {hsem}
    {α : Type} {Q : α → sProp 𝕄} {k' : PUnit → Prog (TpuEff nD τ sig (Elt F) Λ₀ .tc) α} :
    iprop(slotF m ρ c (sl k) (og c k) ∗ semVal ((c : Thread nD τ), SemLoc.dma (cS (sl k))) 0 ∗ Rst m ρ c k)
      ⊢ iprop((Aft m ρ c k -∗ wpC (F := F) c (k' ⟨⟩) Q)
          -∗ wpC (F := F) c (.op (.enqueueDma (slotM soff hs) (.here (outM ooff ho)) (.dma q) hsrc hdst hsem) k') Q) := by
  rcases k with _ | k
  · rw [Rst_zero, Aft_zero]
    rw [← Finset.insert_erase (Finset.mem_univ (og c 0)), sep_ins (Finset.notMem_erase _ _)]
    iintro ⟨Hs, Hv, H1, Hv1, Ho, HO⟩ Hk
    ihave HO := (outs_step m ρ c 0 (Finset.univ.erase (og c 0)) (Finset.notMem_erase _ _)) $$ HO
    by_cases hc : c.val < 4
    · imod (sh_alloc m ρ c (og c 0)) $$ Ho with ⟨%γ, %δ, %ι, #Hinv, Hγ, Hδ⟩
      iapply (copy_core m ρ c (sl 0) (og c 0) (Rx := count (EC (F := F)) γ (enc Finset.univ)) h₁ h₂ hq) $$ [Hs Hv Hγ]
      · isplitl [Hs]; · iexact Hs
        isplitl [Hv]; · iexact Hv
        iapply (sh_first m ρ c (og c 0) γ δ ι)
        isplitr; · iexact Hinv
        iexact Hγ
      iintro H
      iapply Hk
      rw [Rst_sh m ρ hc]
      isplitl [H1]; · iexact H1
      isplitl [Hv1]; · iexact Hv1
      unfold Sh1
      iexists γ, δ, ι
      isplitr; · iexact Hinv
      isplitl [Hδ]; · iexact Hδ
      isplitl [H]; · iexact H
      iexact HO
    · iapply (op_fly m ρ c 0 (sl 0) (og c 0) h₁ h₂ hq) $$ [Hs Hv Ho]
      · isplitl [Hs]; · iexact Hs
        isplitl [Hv]; · iexact Hv
        iexact Ho
      iintro H
      iapply Hk
      rw [Rst_fly m ρ fun h => hc h.2]
      isplitl [H1]; · iexact H1
      isplitl [Hv1]; · iexact Hv1
      isplitl [H]; · iexact H
      iexact HO
  · by_cases hc : k = 0 ∧ c.val < 4
    · obtain ⟨rfl, hc⟩ := hc
      rw [Rst_sh m ρ hc, Aft_sh m ρ hc]
      rw [show og c (0 + 1) = og c 0 from og_same c hc] at h₂ ⊢
      unfold Sh1
      iintro ⟨Hs, Hv, ⟨%γ, %δ, %ι, #Hinv, Hδ, H0, HO⟩⟩ Hk
      ihave HO := (outs_step m ρ c 1 (Finset.univ.erase (og c 0)) (by rw [og_same c hc]; exact Finset.notMem_erase _ _)) $$ HO
      iapply (copy_core m ρ c (sl (0 + 1)) (og c 0) (Rx := count (EC (F := F)) δ 0) h₁ h₂ hq) $$ [Hs Hv Hδ]
      · isplitl [Hs]; · iexact Hs
        isplitl [Hv]; · iexact Hv
        iapply (sh_second m ρ c (og c 0) γ δ ι)
        isplitr; · iexact Hinv
        iexact Hδ
      iintro H
      iapply Hk
      unfold Sh2
      iexists γ, δ, ι
      isplitr; · iexact Hinv
      isplitl [H0]; · iexact H0
      isplitl [H]; · iexact H
      iexact HO
    · have hne : og c (k + 1) ≠ og c k := og_ne c ⟨k, by omega⟩ hc
      rw [Rst_fly m ρ hc, Aft_fly m ρ hc]
      rw [← Finset.insert_erase (Finset.mem_erase.mpr ⟨hne, Finset.mem_univ _⟩ : og c (k + 1) ∈ Finset.univ.erase (og c k)), sep_ins (Finset.notMem_erase _ _),
        Finset.erase_right_comm]
      iintro ⟨Hs, Hv, H1, Ho, HO⟩ Hk
      ihave HO := (outs_step m ρ c (k + 1) _ (fun h => Finset.notMem_erase _ _ (Finset.mem_of_mem_erase h))) $$ HO
      iapply (op_fly m ρ c (k + 1) (sl (k + 1)) (og c (k + 1)) h₁ h₂ hq) $$ [Hs Hv Ho]
      · isplitl [Hs]; · iexact Hs
        isplitl [Hv]; · iexact Hv
        iexact Ho
      iintro H
      iapply Hk
      isplitl [H]; · iexact H
      isplitl [H1]; · iexact H1
      iexact HO

/-! ## Waiting for one -/

theorem lvS_c : ∀ s : Fin 2, role (cS s) = none := by decide +kernel

theorem op_flt (K : Dev nD × KI → ℕ) (c : Dev nD) (n : ℕ) (s : Fin 2) (D : sProp 𝕄) {q : DmaSem sig} (hq : q = cS s) {sp sp' : Space} {s₁ s' : Shape} {e e' : EltTy} {κ' : Kind}
    {src : Memref sig .tc sp' s' e'} {dst : Memref sig κ' sp s₁ e} (hN : dst.view.dmaCredit = NC) {hsrc : src.view.WordExact} {hdst : dst.view.WordExact}
    {α : Type} {Q : α → sProp 𝕄} {k : PUnit → Prog (TpuEff nD τ sig (Elt F) Λ₀ .tc) α} :
    iprop(recs m ρ K ∗ owing (F := F) c n ∗ flt (F := F) c s D)
      ⊢ iprop((iprop(owing (F := F) c n ∗ D ∗ semVal ((c : Thread nD τ), SemLoc.dma (cS s)) 0) -∗ wpC c (k ⟨⟩) Q) -∗ wpC c (.op (.waitDma2 q src dst hsrc hdst) k) Q) := by
  subst hq
  unfold owing
  iintro ⟨#HR, ⟨%W, HO⟩, H⟩ Hk
  ihave #Hlev := (recs_lev m ρ K) $$ HR
  iapply (Transfers.wp_waitLocalO (EC (F := F)) 𝒱₀ (c : Thread nD τ) none () hN (D := D) (O := oweT c (Un c n)) (W := W)) $$ [HO H]
  · isplitl [H]; · iexact H
    isplitl [HO]; · iexact HO
    ihave H := (mayWait_of (F := F) c (.dma (cS s)) ∅ (Un c n) (fun _ h => absurd h (Finset.notMem_empty _)) (fun j _ => by
      rw [show lvS (.dma (cS s)) = 0 by unfold lvS; simp only [lvS_c]]
      exact Nat.lt_of_lt_of_le (by decide) (lvR_ge _))) $$ Hlev
    rw [oweB_empty, zero_add]; iexact H
  iintro ⟨HD, Hv, HO⟩
  iapply Hk
  isplitl [HO]; · iexists _; iexact HO
  isplitl [HD]; · iexact HD
  iexact Hv

theorem op_land (K : Dev nD × KI → ℕ) (c : Dev nD) (n : ℕ) (s : Fin 2) (o : Fin 16) {q : DmaSem sig} (hq : q = cS s) {sp sp' : Space} {s₁ s' : Shape} {e e' : EltTy} {κ' : Kind}
    {src : Memref sig .tc sp' s' e'} {dst : Memref sig κ' sp s₁ e} (hN : dst.view.dmaCredit = NC) {hsrc : src.view.WordExact} {hdst : dst.view.WordExact}
    {α : Type} {Q : α → sProp 𝕄} {k : PUnit → Prog (TpuEff nD τ sig (Elt F) Λ₀ .tc) α} :
    iprop(recs m ρ K ∗ owing (F := F) c n ∗ Fly m ρ c s o)
      ⊢ iprop((iprop(owing (F := F) c n ∗ rowsV m ρ c o ∗ slotP (F := F) c s ∗ semVal ((c : Thread nD τ), SemLoc.dma (cS s)) 0) -∗ wpC c (k ⟨⟩) Q)
          -∗ wpC c (.op (.waitDma2 q src dst hsrc hdst) k) Q) := by
  unfold Fly
  iintro ⟨#HR, HO, ⟨%D, %hD, H⟩⟩ Hk
  iapply (op_flt m ρ K c n s D hq hN) $$ [HO H]
  · isplitr; · iexact HR
    isplitl [HO]; · iexact HO
    iexact H
  iintro ⟨HO, HD, Hv⟩
  ihave HD := hD $$ HD
  imod HD with ⟨Hr, Hs⟩
  iapply Hk
  isplitl [HO]; · iexact HO
  isplitl [Hr]; · iexact Hr
  isplitl [Hs]; · iexact Hs
  iexact Hv

/-- The copy before the last started is waited for. -/
theorem op_next (K : Dev nD × KI → ℕ) (c : Dev nD) (n : ℕ) (i : ℕ) (hi : i < 18) {q : DmaSem sig} (hq : q = cS (sl i)) {sp sp' : Space} {s₁ s' : Shape} {e e' : EltTy} {κ' : Kind}
    {src : Memref sig .tc sp' s' e'} {dst : Memref sig κ' sp s₁ e} (hN : dst.view.dmaCredit = NC) {hsrc : src.view.WordExact} {hdst : dst.view.WordExact}
    {α : Type} {Q : α → sProp 𝕄} {k : PUnit → Prog (TpuEff nD τ sig (Elt F) Λ₀ .tc) α} :
    iprop(recs m ρ K ∗ owing (F := F) c n ∗ Aft m ρ c (i + 1))
      ⊢ iprop((iprop(owing (F := F) c n ∗ Mid m ρ c (i + 2)) -∗ wpC c (k ⟨⟩) Q) -∗ wpC c (.op (.waitDma2 q src dst hsrc hdst) k) Q) := by
  unfold Mid
  rw [sl_two, show i + 2 = (i + 1) + 1 from rfl, Rst_fly m ρ (k := i + 1) (show ¬ (i + 1 = 0 ∧ c.val < 4) from fun h => absurd h.1 (Nat.succ_ne_zero _))]
  by_cases hc : i = 0 ∧ c.val < 4
  · obtain ⟨rfl, hc⟩ := hc
    rw [Aft_sh m ρ hc, show og c (0 + 1) = og c 0 from og_same c hc]
    unfold Sh2
    iintro ⟨#HR, HO, ⟨%γ, %δ, %ι, #Hinv, H0, H1, HP⟩⟩ Hk
    iapply (op_flt m ρ K c n (sl 0) _ hq hN) $$ [HO H0]
    · isplitr; · iexact HR
      isplitl [HO]; · iexact HO
      iexact H0
    iintro ⟨HO, ⟨Hγ, Hs⟩, Hv⟩
    ihave H1 := (flt_frame (F := F) c 1 iprop(count (EC (F := F)) δ 0 ∗ slotP (F := F) c 1) iprop(inv ι (shB m ρ c (og c 0) γ δ) ∗ count (EC (F := F)) γ (enc Finset.univ))) $$ [H1 Hγ]
    · isplitl [H1]; · iexact H1
      isplitr; · iexact Hinv
      iexact Hγ
    iapply Hk
    isplitl [HO]; · iexact HO
    isplitl [Hs]; · iexact Hs
    isplitl [Hv]; · iexact Hv
    isplitl [H1]
    · unfold Fly
      iexists _
      isplitr
      swap; · iexact H1
      ipureintro
      iintro ⟨⟨Hδ, Hs⟩, Hi, Hγ⟩
      imod (shB_take m ρ c (og c 0) γ δ ι) $$ [Hδ Hi Hγ] with H
      · isplitl [Hi]; · iexact Hi
        isplitl [Hγ]; · iexact Hγ
        iexact Hδ
      imodintro
      isplitl [H]; · iexact H
      iexact Hs
    iexact HP
  · rw [Aft_fly m ρ hc]
    have hne : og c (i + 1) ≠ og c i := og_ne c ⟨i, by omega⟩ hc
    rw [← Finset.insert_erase (Finset.mem_erase.mpr ⟨hne.symm, Finset.mem_univ _⟩ : og c i ∈ Finset.univ.erase (og c (i + 1))), Finset.erase_insert (Finset.notMem_erase _ _),
      sep_ins (Finset.notMem_erase _ _)]
    iintro ⟨#HR, HO, H1, H0, HP⟩ Hk
    iapply (op_land m ρ K c n (sl i) (og c i) hq hN) $$ [HO H0]
    · isplitr; · iexact HR
      isplitl [HO]; · iexact HO
      iexact H0
    iintro ⟨HO, Hr, Hs, Hv⟩
    iapply Hk
    isplitl [HO]; · iexact HO
    isplitl [Hs]; · iexact Hs
    isplitl [Hv]; · iexact Hv
    isplitl [H1]; · iexact H1
    isplitl [Hr]; · iapply (rowsV_outP m ρ c _ _) $$ Hr
    iexact HP

/-! ## Reading the operands, writing the product -/

/-- The two operands of a product are read. -/
theorem op_read (c : Dev nD) (n : ℕ) (o : Fin 16) (h : rdOf c o ⊆ Kp c n) {off} {hb} (ho : off = ![o.val, 0, 0])
    {off' : Fin 2 → ℕ} {hb' : ∀ a, off' a + S768x1536.size a ≤ S768x1536.size a} (ho' : off' = ![0, 0]) {hl hl'}
    {α : Type} {Q : α → sProp 𝕄} {k : Vec F S1x1536x768 .bf16 → Vec F S768x1536 .bf16 → Prog (TpuEff nD τ sig (Elt F) Λ₀ .tc) α} :
    iprop(St m ρ c n ∗ wPts m ρ c)
      ⊢ iprop((iprop(St m ρ c n ∗ wPts m ρ c) -∗ wpC c (k (blkV m ρ o) (BV m ρ c)) Q)
          -∗ wpC c (.op (.load cM (rB off hb).toLoadRect hl : TpuEff nD τ sig (Elt F) Λ₀ .tc (Vec F S1x1536x768 .bf16)) fun v => .op (.load wM (Rect.unit (s := S768x1536) off' S768x1536.size hb').toLoadRect hl' : TpuEff nD τ sig (Elt F) Λ₀ .tc (Vec F S768x1536 .bf16)) fun v' => k v v') Q) := by
  subst ho'
  iintro ⟨HS, HW⟩ Hk
  ihave HS := (St_blk m ρ c n o h) $$ HS
  icases HS with ⟨Hb, HS⟩
  iapply (wp_load_rect 𝒱₀ (c : Thread nD τ) none Set.univ (m := cM) (r := rB off hb) (S := blk o) (le_of_eq (rB_set ho))) $$ Hb
  iintro Hb
  ihave HS := HS $$ Hb
  rw [show (cM.access (rB off hb)).read (Elt F) (CV m ρ) = blkV m ρ o from (View.readAt_rect _ _).symm.trans (read_blk m ρ ho)]
  unfold wPts
  iapply (wp_load 𝒱₀ (c : Thread nD τ) none Set.univ (m := wM) (Finset.subset_univ _)) $$ HW
  iintro HW
  rw [show wM.view.readAt (Elt F) (Rect.unit (s := S768x1536) ![0, 0] S768x1536.size hb').toLoadRect (BV m ρ c) = BV m ρ c from
    Memref.readAt_unit_zero (Elt F) cc0_scratch2 (show (![0, 0] : Fin 2 → Nat) = fun _ => 0 from funext fun a => by fin_cases a <;> rfl) _ (BV m ρ c)]
  iapply Hk
  isplitl [HS]; · iexact HS
  iexact HW

/-- A product in its slot, its copy not started. -/
def Put (c : Dev nD) (k : ℕ) : sProp 𝕄 := iprop(slotF m ρ c (sl k) (og c k) ∗ semVal ((c : Thread nD τ), SemLoc.dma (cS (sl k))) 0 ∗ Rst m ρ c k)

/-- The product is put in its slot. -/
theorem op_store (c : Dev nD) (k : ℕ) {soff hs} (h₁ : soff = ![(sl k).val, 0, 0])
    {w : FVec F S1x1536x1536 .bf16} (hw : w = k0_pay12 (TV m ρ c (og c k))) {hl hx hm}
    {α : Type} {Q : α → sProp 𝕄} {k' : PUnit → Prog (TpuEff nD τ sig (Elt F) Λ₀ .tc) α} :
    Mid m ρ c k
      ⊢ iprop((Put m ρ c k -∗ wpC (F := F) c (k' ⟨⟩) Q)
          -∗ wpC (F := F) c (.op (.load sM (rT soff hs).toLoadRect hl) fun _ => .op (.store sM (rT soff hs) w Finset.univ hx hm) k') Q) := by
  unfold Mid slotP
  iintro ⟨⟨%f, Hf⟩, Hv, HR⟩ Hk
  iapply (wp_load_rect 𝒱₀ (c : Thread nD τ) none Set.univ (m := sM) (r := rT soff hs) (S := slot (sl k)) (le_of_eq (rT_set h₁))) $$ Hf
  iintro Hf
  iapply (wp_store 𝒱₀ (c : Thread nD τ) none Set.univ (m := sM) (r := rT soff hs) (Mk := Finset.univ) (S := slot (sl k)) (le_of_eq (rT_set h₁))) $$ Hf
  iintro Hf
  iapply Hk
  unfold Put
  isplitl [Hf]
  · unfold slotF
    iexists _
    isplitr
    swap; · iexact Hf
    ipureintro
    subst h₁ hw
    exact slot_read _ _ f _
  isplitl [Hv]; · iexact Hv
  iexact HR

end Cert.Exchange

end
-- ==== Proof.Run.lean ====
/-
All that a device holds between two operations of the kernel, and the operations over it.
-/
module

public import proofs.«01_k».proof.Proof.Stage

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Numbers -/

theorem z_facts : ∀ (c : Dev nD) (j : Fin 4), posS c ⟨j.val, by omega⟩ = j.val ∧ org c ⟨j.val, by omega⟩ = c ∧ tgt c ⟨j.val, by omega⟩ = col c j.val
    ∧ rix c ⟨j.val, by omega⟩ = zi c ∧ posW ⟨j.val, by omega⟩ = 48 + j.val := by decide +kernel
theorem p_facts : ∀ (c : Dev nD) (q : Fin 4), posR c ⟨4 + q.val, by omega⟩ = 24 + 4 * q.val ∧ posS c ⟨8 + q.val, by omega⟩ = 25 + 4 * q.val
    ∧ posR c ⟨12 + q.val, by omega⟩ = 26 + 4 * q.val ∧ posS c ⟨16 + q.val, by omega⟩ = 27 + 4 * q.val
    ∧ posR c ⟨8 + q.val, by omega⟩ = 40 + 2 * q.val ∧ posR c ⟨16 + q.val, by omega⟩ = 41 + 2 * q.val := by decide +kernel
theorem t_facts : ∀ (c : Dev nD) (q : Fin 4), tgt c ⟨8 + q.val, by omega⟩ = pr c ∧ tgt c ⟨16 + q.val, by omega⟩ = pl c := by decide +kernel
theorem w_facts : ∀ i : Fin 4, posW ⟨4 + i.val, by omega⟩ = 52 + 2 * i.val ∧ posW ⟨12 + i.val, by omega⟩ = 53 + 2 * i.val
    ∧ posW ⟨8 + i.val, by omega⟩ = 60 + 2 * i.val ∧ posW ⟨16 + i.val, by omega⟩ = 61 + 2 * i.val := by decide +kernel
theorem h_facts : ∀ i : Fin 4, isHalf ⟨4 + i.val, by omega⟩ = false ∧ isHalf ⟨12 + i.val, by omega⟩ = false ∧ isHalf ⟨8 + i.val, by omega⟩ = true ∧ isHalf ⟨16 + i.val, by omega⟩ = true
    ∧ lo ⟨8 + i.val, by omega⟩ = 0 ∧ lo ⟨16 + i.val, by omega⟩ = 768 := by decide +kernel
theorem x_facts : ∀ (c : Dev nD) (i : Fin 4), rix c ⟨8 + i.val, by omega⟩ = ⟨8 + i.val, by omega⟩ ∧ rix c ⟨16 + i.val, by omega⟩ = ⟨16 + i.val, by omega⟩ := by decide +kernel
theorem small_whole : ∀ r : Fin 20, r.val < 4 → isHalf r = false := by decide +kernel
theorem ne_zi (c : Dev nD) (j : Fin 20) (h : 4 ≤ j.val) : j ≠ zi c := fun e => absurd (zi_lt c) (by rw [← e]; omega)

/-! ## The state -/

/-- Between two operations, `n` of the protocol's done: `X` says how far the products have come. -/
def All (K : Dev nD × KI → ℕ) (c : Dev nD) (n : ℕ) (X : sProp 𝕄) : sProp 𝕄 := iprop(recs m ρ K ∗ St m ρ c n ∗ wPts m ρ c ∗ X)

theorem lift_St (K : Dev nD × KI → ℕ) (c : Dev nD) (n n' : ℕ) (X : sProp 𝕄) {A B : sProp 𝕄} (h : iprop(recs m ρ K ∗ St m ρ c n) ⊢ iprop((St m ρ c n' -∗ A) -∗ B)) :
    All m ρ K c n X ⊢ iprop((All m ρ K c n' X -∗ A) -∗ B) := by
  unfold All
  iintro ⟨#HR, HS, HW, HX⟩ Hk
  iapply h $$ [HS]
  · isplitr; · iexact HR
    iexact HS
  iintro HS
  iapply Hk
  isplitr; · iexact HR
  isplitl [HS]; · iexact HS
  isplitl [HW]; · iexact HW
  iexact HX
theorem lift_X (K : Dev nD × KI → ℕ) (c : Dev nD) (n : ℕ) (X X' : sProp 𝕄) {A B : sProp 𝕄} (h : X ⊢ iprop((X' -∗ A) -∗ B)) :
    All m ρ K c n X ⊢ iprop((All m ρ K c n X' -∗ A) -∗ B) := by
  unfold All
  iintro ⟨#HR, HS, HW, HX⟩ Hk
  iapply h $$ HX
  iintro HX
  iapply Hk
  isplitr; · iexact HR
  isplitl [HS]; · iexact HS
  isplitl [HW]; · iexact HW
  iexact HX

theorem All_skip (K : Dev nD × KI → ℕ) (c : Dev nD) (n : ℕ) (X : sProp 𝕄) (hs : ∀ j, j ≠ zi c → posS c j ≠ n) (hr : ∀ r, r ≠ zi c → posR c r ≠ n) (hw : ∀ j, j ≠ zi c → posW j ≠ n) :
    All m ρ K c n X ⊢ All m ρ K c (n + 1) X := by
  unfold All
  rw [op_skip m ρ c n hs hr hw]

/-! ## The operations -/

section ops
variable (K : Dev nD × KI → ℕ) (c : Dev nD)

/-- A transfer of a whole block. -/
theorem o_send (X : sProp 𝕄) (j : Fin 20) (hj : j ≠ zi c) (n : ℕ) (hn : n = posS c j) (hh : isHalf j = false) {d : Dev nD} (hd : d = tgt c j)
    {q₁ q₂ : DmaSem sig} (h₁ : q₁ = sS j) (h₂ : q₂ = rS (rix c j)) {off h} (ho : off = ![(org c j).val, 0, 0])
    {hsc : (blkM off h : Memref sig (Dev.tc d : Thread nD τ).2.kind .vmem _ .bf16).view.ref.isScScratch = false} {hsrc : (blkM off h).view.WordExact} {hdst : (blkM off h).view.WordExact}
    {hsem : DmaTarget.Typed .vmem (.dma q₂) (.remote (Dev.tc d : Thread nD τ) (blkM off h) (.dma q₁) hsc)}
    {α : Type} {Q : α → sProp 𝕄} {k : PUnit → Prog (TpuEff nD τ sig (Elt F) Λ₀ .tc) α} :
    All m ρ K c n X ⊢ iprop((All m ρ K c (n + 1) X -∗ wpC c (k ⟨⟩) Q)
      -∗ wpC c (.op (.enqueueDma (blkM off h) (.remote (Dev.tc d) (blkM off h) (.dma q₁) hsc) (.dma q₂) hsrc hdst hsem) k) Q) :=
  lift_St m ρ K c n (n + 1) X (op_send m ρ K c j hj n hn hd h₁ h₂ (blkM_set ho hh) ((blk_credit off h).trans (by unfold NN; rw [hh]; rfl)))

/-- A transfer of half a block. -/
theorem o_sendH (X : sProp 𝕄) (j : Fin 20) (hj : j ≠ zi c) (n : ℕ) (hn : n = posS c j) (hh : isHalf j = true) {d : Dev nD} (hd : d = tgt c j)
    {q₁ q₂ : DmaSem sig} (h₁ : q₁ = sS j) (h₂ : q₂ = rS (rix c j)) {off h} (ho : off = ![(org c j).val, lo j, 0])
    {hsc : (halfM off h : Memref sig (Dev.tc d : Thread nD τ).2.kind .vmem _ .bf16).view.ref.isScScratch = false} {hsrc : (halfM off h).view.WordExact} {hdst : (halfM off h).view.WordExact}
    {hsem : DmaTarget.Typed .vmem (.dma q₂) (.remote (Dev.tc d : Thread nD τ) (halfM off h) (.dma q₁) hsc)}
    {α : Type} {Q : α → sProp 𝕄} {k : PUnit → Prog (TpuEff nD τ sig (Elt F) Λ₀ .tc) α} :
    All m ρ K c n X ⊢ iprop((All m ρ K c (n + 1) X -∗ wpC c (k ⟨⟩) Q)
      -∗ wpC c (.op (.enqueueDma (halfM off h) (.remote (Dev.tc d) (halfM off h) (.dma q₁) hsc) (.dma q₂) hsrc hdst hsem) k) Q) :=
  lift_St m ρ K c n (n + 1) X (op_send m ρ K c j hj n hn hd h₁ h₂ (halfM_set ho hh) ((half_credit off h).trans (by unfold NN; rw [hh]; rfl)))

theorem o_recv (X : sProp 𝕄) (r : Fin 20) (hr : r ≠ zi c) (n : ℕ) (hn : n = posR c r) (hh : isHalf r = false) {q : DmaSem sig} (hq : q = rS r) {off h}
    {hsrc : (blkM off h).view.WordExact} {hdst : (blkM off h).view.WordExact}
    {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (blkM off h) (blkM off h) hsrc hdst) k) Q) :=
  lift_St m ρ K c n (n + 1) X (op_recv m ρ K c r hr n hn hq ((blk_credit off h).trans (by unfold NN; rw [hh]; rfl)))
theorem o_recvH (X : sProp 𝕄) (r : Fin 20) (hr : r ≠ zi c) (n : ℕ) (hn : n = posR c r) (hh : isHalf r = true) {q : DmaSem sig} (hq : q = rS r) {off h}
    {hsrc : (halfM off h).view.WordExact} {hdst : (halfM off h).view.WordExact}
    {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (halfM off h) (halfM off h) hsrc hdst) k) Q) :=
  lift_St m ρ K c n (n + 1) X (op_recv m ρ K c r hr n hn hq ((half_credit off h).trans (by unfold NN; rw [hh]; rfl)))
theorem o_done (X : sProp 𝕄) (j : Fin 20) (hj : j ≠ zi c) (n : ℕ) (hn : n = posW j) (hh : isHalf j = false) {q : DmaSem sig} (hq : q = sS j) {off h}
    {hsrc : (blkM off h).view.WordExact} {hdst : (blkM off h).view.WordExact}
    {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (blkM off h) (blkM off h) hsrc hdst) k) Q) :=
  lift_St m ρ K c n (n + 1) X (op_done m ρ K c j hj n hn hq ((blk_credit off h).trans (by unfold NN; rw [hh]; rfl)))
theorem o_doneH (X : sProp 𝕄) (j : Fin 20) (hj : j ≠ zi c) (n : ℕ) (hn : n = posW j) (hh : isHalf j = true) {q : DmaSem sig} (hq : q = sS j) {off h}
    {hsrc : (halfM off h).view.WordExact} {hdst : (halfM off h).view.WordExact}
    {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (halfM off h) (halfM off h) hsrc hdst) k) Q) :=
  lift_St m ρ K c n (n + 1) X (op_done m ρ K c j hj n hn hq ((half_credit off h).trans (by unfold NN; rw [hh]; rfl)))

/-- The wait for the copy before the last. -/
theorem o_next (n i : ℕ) (hi : i < 18) {q : DmaSem sig} (hq : q = cS (sl i)) {soff hs off h}
    {hsrc : (slotM soff hs).view.WordExact} {hdst : (outM off h).view.WordExact}
    {α : Type} {Q : α → sProp 𝕄} {k : PUnit → Prog (TpuEff nD τ sig (Elt F) Λ₀ .tc) α} :
    All m ρ K c n (Aft m ρ c (i + 1)) ⊢ iprop((All m ρ K c n (Mid m ρ c (i + 2)) -∗ wpC c (k ⟨⟩) Q) -∗ wpC c (.op (.waitDma2 q (slotM soff hs) (outM off h) hsrc hdst) k) Q) := by
  unfold All
  iintro ⟨#HR, HS, HW, HX⟩ Hk
  ihave HS := (St_owing m ρ c n) $$ HS
  icases HS with ⟨HO, HS⟩
  iapply (op_next m ρ K c n i hi hq (out_credit off h)) $$ [HO HX]
  · isplitr; · iexact HR
    isplitl [HO]; · iexact HO
    iexact HX
  iintro ⟨HO, HX⟩
  ihave HS := HS $$ HO
  iapply Hk
  isplitr; · iexact HR
  isplitl [HS]; · iexact HS
  isplitl [HW]; · iexact HW
  iexact HX

theorem o_read (X : sProp 𝕄) (n i : ℕ) (hi : i < 19) (hn : n = posC i) {off} {hb} (ho : off = ![(og c i).val, 0, 0])
    {off' : Fin 2 → ℕ} {hb' : ∀ a, off' a + S768x1536.size a ≤ S768x1536.size a} (ho' : off' = ![0, 0]) {hl hl'}
    {α : Type} {Q : α → sProp 𝕄}
    {k : Vec F S1x1536x768 .bf16 → Vec F S768x1536 .bf16 → Prog (TpuEff nD τ sig (Elt F) Λ₀ .tc) α} :
    All m ρ K c n X
      ⊢ iprop((All m ρ K c n X -∗ wpC c (k (blkV m ρ (og c i)) (BV m ρ c)) Q)
          -∗ wpC c (.op (.load cM (rB off hb).toLoadRect hl : TpuEff nD τ sig (Elt F) Λ₀ .tc (Vec F S1x1536x768 .bf16)) fun v => .op (.load wM (Rect.unit (s := S768x1536) off' S768x1536.size hb').toLoadRect hl' : TpuEff nD τ sig (Elt F) Λ₀ .tc (Vec F S768x1536 .bf16)) fun v' => k v v') Q) := by
  unfold All
  iintro ⟨#HR, HS, HW, HX⟩ Hk
  iapply (op_read m ρ c n (og c i) (hn ▸ rdOf_had c ⟨i, hi⟩) ho ho') $$ [HS HW]
  · isplitl [HS]; · iexact HS
    iexact HW
  iintro ⟨HS, HW⟩
  iapply Hk
  isplitr; · iexact HR
  isplitl [HS]; · iexact HS
  isplitl [HW]; · iexact HW
  iexact HX

theorem o_store (n i : ℕ) {soff hs} (h₁ : soff = ![(sl i).val, 0, 0])
    {w : FVec F S1x1536x1536 .bf16} (hw : w = k0_pay12 (TV m ρ c (og c i))) {hl hx hm}
    {α : Type} {Q : α → sProp 𝕄} {k : PUnit → Prog (TpuEff nD τ sig (Elt F) Λ₀ .tc) α} :
    All m ρ K c n (Mid m ρ c i) ⊢ iprop((All m ρ K c n (Put m ρ c i) -∗ wpC (F := F) c (k ⟨⟩) Q)
          -∗ wpC (F := F) c (.op (.load sM (rT soff hs).toLoadRect hl) fun _ => .op (.store sM (rT soff hs) w Finset.univ hx hm) k) Q) :=
  lift_X m ρ K c n _ _ (op_store m ρ c i h₁ hw)
theorem o_copy (n i : ℕ) (hi : i < 19) {soff ooff hs ho} {q : DmaSem sig} (h₁ : soff = ![(sl i).val, 0, 0]) (h₂ : ooff = ![1536 * (og c i).val, 0]) (hq : q = cS (sl i))
    {hsrc : (slotM soff hs).view.WordExact} {hdst : (outM ooff ho).view.WordExact} {hsem}
    {α : Type} {Q : α → sProp 𝕄} {k : PUnit → Prog (TpuEff nD τ sig (Elt F) Λ₀ .tc) α} :
    All m ρ K c n (Put m ρ c i) ⊢ iprop((All m ρ K c n (Aft m ρ c i) -∗ wpC (F := F) c (k ⟨⟩) Q)
          -∗ wpC (F := F) c (.op (.enqueueDma (slotM soff hs) (.here (outM ooff ho)) (.dma q) hsrc hdst hsem) k) Q) :=
  lift_X m ρ K c n _ _ (op_copy m ρ c i hi h₁ h₂ hq)

/-- A product: its operands read, put in its slot, its copy started. -/
theorem o_prod (n i : ℕ) (hi : i < 19) (hn : n = posC i) {off} {hb} (ho : off = ![(og c i).val, 0, 0])
    {off' : Fin 2 → ℕ} {hb' : ∀ a, off' a + S768x1536.size a ≤ S768x1536.size a} (ho' : off' = ![0, 0]) {hl hl'}
    {soff soff' ooff hs hs' hout} {q : DmaSem sig} (h₁ : soff = ![(sl i).val, 0, 0]) (h₁' : soff' = ![(sl i).val, 0, 0]) (h₂ : ooff = ![1536 * (og c i).val, 0]) (hq : q = cS (sl i))
    {w : Vec F S1x1536x768 .bf16 → Vec F S768x1536 .bf16 → FVec F S1x1536x1536 .bf16} (hw : w (blkV m ρ (og c i)) (BV m ρ c) = k0_pay12 (TV m ρ c (og c i))) {hls} {hx : ∀ _ _, _} {hm}
    {hsrc : (slotM soff hs).view.WordExact} {hdst : (outM ooff hout).view.WordExact} {hsem}
    {α : Type} {Q : α → sProp 𝕄} {k : PUnit → Prog (TpuEff nD τ sig (Elt F) Λ₀ .tc) α} :
    All m ρ K c n (Mid m ρ c i)
      ⊢ iprop((All m ρ K c n (Aft m ρ c i) -∗ wpC c (k ⟨⟩) Q)
          -∗ wpC c (.op (.load cM (rB off hb).toLoadRect hl : TpuEff nD τ sig (Elt F) Λ₀ .tc (Vec F S1x1536x768 .bf16)) fun v => .op (.load wM (Rect.unit (s := S768x1536) off' S768x1536.size hb').toLoadRect hl' : TpuEff nD τ sig (Elt F) Λ₀ .tc (Vec F S768x1536 .bf16)) fun v' =>
            .op (.load sM (rT soff' hs').toLoadRect hls) fun _ => .op (.store sM (rT soff' hs') (w v v') Finset.univ (hx v v') hm) fun _ =>
            .op (.enqueueDma (slotM soff hs) (.here (outM ooff hout)) (.dma q) hsrc hdst hsem) k) Q) := by
  iintro H Hk
  iapply (o_read m ρ K c (Mid m ρ c i) n i hi hn ho ho' (k := fun v v' => .op (.load sM (rT soff' hs').toLoadRect hls) fun _ => .op (.store sM (rT soff' hs') (w v v') Finset.univ (hx v v') hm) fun _ =>
            .op (.enqueueDma (slotM soff hs) (.here (outM ooff hout)) (.dma q) hsrc hdst hsem) k)) $$ H
  iintro H
  iapply (o_store m ρ K c n i h₁' hw) $$ H
  iintro H
  iapply (o_copy m ρ K c n i hi h₁ h₂ hq) $$ H
  iexact Hk

/-! ## A block of the column handed on -/

/-- A conditional block and what follows it. -/
theorem o_if {α : Type} {Q : α → sProp 𝕄} {P : Prop} [Decidable P] {t : P → Prog (TpuEff nD τ sig (Elt F) Λ₀ .tc) α} {k : Prog (TpuEff nD τ sig (Elt F) Λ₀ .tc) α} {A B : sProp 𝕄}
    (ht : ∀ (h : P) (p : Prog (TpuEff nD τ sig (Elt F) Λ₀ .tc) α), t h = p → A ⊢ iprop((B -∗ wpC (F := F) c k Q) -∗ wpC (F := F) c p Q)) (he : ¬P → A ⊢ B) :
    A ⊢ iprop((B -∗ wpC (F := F) c k Q) -∗ wpC (F := F) c (dite P t fun _ => k) Q) := by
  by_cases h : P
  · rw [dif_pos h]; exact ht h _ rfl
  · rw [dif_neg h]
    iintro H Hk
    ihave H := (he h) $$ H
    iapply Hk $$ H

/-- Which block each round hands on, and where it lies. -/
theorem at_round {off₁ off₃ : Fin 1 → ℕ} {off₂ : Fin 3 → ℕ} (i : Fin 6)
    (h : fv c i → off₁ = ![(fw c i).val] ∧ off₂ = ![(col c (fw c i).val).val, 0, 0] ∧ off₃ = ![(fw c i).val]) :
    ∃ r : Fin 4, fv c i → r.val = (fw c i).val ∧ off₁ = ![r.val] ∧ off₂ = ![(col c r.val).val, 0, 0] ∧ off₃ = ![r.val] :=
  ⟨⟨(fw c i).val, fw_lt c i⟩, fun hf => ⟨rfl, h hf⟩⟩

theorem toR_eq : ∀ r : Fin 20, (h : r.val < 4) → toR r = ⟨4 + r.val, by omega⟩ := by decide +kernel
theorem toL_eq : ∀ r : Fin 20, (h : r.val < 4) → toL r = ⟨12 + r.val, by omega⟩ := by decide +kernel

theorem pass_ops (X : sProp 𝕄) (n n' : ℕ) (i : Fin 6) (hn : n = 6 + 3 * i.val) (hn' : n' = n + 3) (hf : fv c i) (r : Fin 4) (hr : r.val = (fw c i).val) {α : Type} {Q : α → sProp 𝕄} {k : Prog (TpuEff nD τ sig (Elt F) Λ₀ .tc) α} {off h} (ho : off = ![(col c r.val).val, 0, 0]) {d₁ d₂ : ℕ} {l₁ : d₁ < nD} {l₂ : d₂ < nD} (hd₁ : d₁ = (pr c).val) (hd₂ : d₂ = (pl c).val)
    {q q₁ q₁' q₂ q₂' : DmaSem sig} (hq : q = rS ⟨r.val, by omega⟩)
    (h₁ : q₁ = sS ⟨4 + r.val, by omega⟩) (h₁' : q₁' = rS ⟨4 + r.val, by omega⟩)
    (h₂ : q₂ = sS ⟨12 + r.val, by omega⟩) (h₂' : q₂' = rS ⟨12 + r.val, by omega⟩)
    {hsc₁ : (blkM off h : Memref sig (Dev.tc (⟨d₁, l₁⟩ : Dev nD) : Thread nD τ).2.kind .vmem _ .bf16).view.ref.isScScratch = false}
    {hsc₂ : (blkM off h : Memref sig (Dev.tc (⟨d₂, l₂⟩ : Dev nD) : Thread nD τ).2.kind .vmem _ .bf16).view.ref.isScScratch = false} {w₀ w₀' w₁ w₁' w₂ w₂' : (blkM off h).view.WordExact}
    {t₁ : DmaTarget.Typed .vmem (.dma q₁') (.remote (Dev.tc (⟨d₁, l₁⟩ : Dev nD) : Thread nD τ) (blkM off h) (.dma q₁) hsc₁)}
    {t₂ : DmaTarget.Typed .vmem (.dma q₂') (.remote (Dev.tc (⟨d₂, l₂⟩ : Dev nD) : Thread nD τ) (blkM off h) (.dma q₂) hsc₂)} :
    All m ρ K c n X ⊢ iprop((All m ρ K c n' X -∗ wpC c k Q)
      -∗ wpC c (.op (.waitDma2 q (blkM off h) (blkM off h) w₀ w₀') fun _ => .op (.enqueueDma (blkM off h) (.remote (Dev.tc (⟨d₁, l₁⟩ : Dev nD)) (blkM off h) (.dma q₁) hsc₁) (.dma q₁') w₁ w₁' t₁) fun _ =>
        .op (.enqueueDma (blkM off h) (.remote (Dev.tc (⟨d₂, l₂⟩ : Dev nD)) (blkM off h) (.dma q₂) hsc₂) (.dma q₂') w₂ w₂' t₂) fun _ => k) Q) := by
  obtain ⟨hne, hp, hneR, hpR, hneL, hpL⟩ := fw_pos c i hf
  obtain ⟨hR₁, hR₂, hR₃, hR₄⟩ := tgt_toR c (fw c i) (fw_lt c i)
  obtain ⟨hL₁, hL₂, hL₃, hL₄⟩ := tgt_toL c (fw c i) (fw_lt c i)
  have eR := toR_eq (fw c i) (fw_lt c i)
  have eL := toL_eq (fw c i) (fw_lt c i)
  subst hn hn'
  replace ho : off = ![(col c (fw c i).val).val, 0, 0] := by rw [ho, hr]
  replace hq : q = rS (fw c i) := hq.trans (congrArg rS (Fin.ext hr))
  iintro H Hk
  iapply (o_recv m ρ K c X (fw c i) hne (6 + 3 * i.val) hp.symm (small_whole _ (fw_lt c i)) hq) $$ H
  iintro H
  iapply (o_send m ρ K c X (toR (fw c i)) hneR (6 + 3 * i.val + 1) (by rw [hpR]; omega) hR₃ (Fin.ext (hd₁.trans (congrArg Fin.val hR₁.symm))) (h₁.trans (congrArg sS ((Fin.ext (by show 4 + r.val = 4 + (fw c i).val; rw [hr])).trans eR.symm))) (h₁'.trans (congrArg rS ((Fin.ext (by show 4 + r.val = 4 + (fw c i).val; rw [hr])).trans (hR₄.trans eR).symm))) (ho.trans (by rw [hR₂]))) $$ H
  iintro H
  iapply (o_send m ρ K c X (toL (fw c i)) hneL (6 + 3 * i.val + 1 + 1) (by rw [hpL]; omega) hL₃ (Fin.ext (hd₂.trans (congrArg Fin.val hL₁.symm))) (h₂.trans (congrArg sS ((Fin.ext (by show 12 + r.val = 12 + (fw c i).val; rw [hr])).trans eL.symm))) (h₂'.trans (congrArg rS ((Fin.ext (by show 12 + r.val = 12 + (fw c i).val; rw [hr])).trans (hL₄.trans eL).symm))) (ho.trans (by rw [hL₂]))) $$ H
  iintro H
  iapply Hk $$ H

theorem pass_skip (X : sProp 𝕄) (n n' : ℕ) (i : Fin 6) (hn : n = 6 + 3 * i.val) (hn' : n' = n + 3) (hf : ¬fv c i) : All m ρ K c n X ⊢ All m ρ K c n' X := by
  subst hn hn'
  have hs := fw_skip c i hf
  have hi := i.isLt
  have step (a : ℕ) (ha : a < 3) : All m ρ K c (6 + 3 * i.val + a) X ⊢ All m ρ K c (6 + 3 * i.val + a + 1) X :=
    All_skip m ρ K c _ X (fun j hj => by have := (hs j hj).2; omega) (fun r hr => by have := (hs r hr).1; omega) (fun j _ => by have := (posW_ge j).1; omega)
  exact (step 0 (by omega)).trans ((step 1 (by omega)).trans (step 2 (by omega)))

theorem o_first (n : ℕ) : All m ρ K c n (Aft m ρ c 0) ⊢ All m ρ K c n (Mid m ρ c 1) := by
  unfold All Mid
  rw [Aft_zero m ρ c]
  exact .rfl

/-! ## The halves and the last waits -/

theorem recv4 (X : sProp 𝕄) (i : Fin 4) (n : ℕ) (hn : n = 24 + 4 * i.val) {q : DmaSem sig} (hq : q = rS ⟨4 + i.val, by omega⟩) {off h}
    {hsrc : (blkM off h).view.WordExact} {hdst : (blkM off h).view.WordExact} {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (blkM off h) (blkM off h) hsrc hdst) k) Q) :=
  o_recv m ρ K c X _ (ne_zi c _ (Nat.le_add_right _ _)) n (hn.trans (p_facts c i).1.symm) ((h_facts i).1) hq
theorem recv12 (X : sProp 𝕄) (i : Fin 4) (n : ℕ) (hn : n = 26 + 4 * i.val) {q : DmaSem sig} (hq : q = rS ⟨12 + i.val, by omega⟩) {off h}
    {hsrc : (blkM off h).view.WordExact} {hdst : (blkM off h).view.WordExact} {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (blkM off h) (blkM off h) hsrc hdst) k) Q) :=
  o_recv m ρ K c X _ (ne_zi c _ (by show 4 ≤ 12 + i.val; omega)) n (hn.trans (p_facts c i).2.2.1.symm) ((h_facts i).2.1) hq
theorem recv8 (X : sProp 𝕄) (i : Fin 4) (n : ℕ) (hn : n = 40 + 2 * i.val) {q : DmaSem sig} (hq : q = rS ⟨8 + i.val, by omega⟩) {off h}
    {hsrc : (halfM off h).view.WordExact} {hdst : (halfM off h).view.WordExact} {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (halfM off h) (halfM off h) hsrc hdst) k) Q) :=
  o_recvH m ρ K c X _ (ne_zi c _ (by show 4 ≤ 8 + i.val; omega)) n (hn.trans (p_facts c i).2.2.2.2.1.symm) ((h_facts i).2.2.1) hq
theorem recv16 (X : sProp 𝕄) (i : Fin 4) (n : ℕ) (hn : n = 41 + 2 * i.val) {q : DmaSem sig} (hq : q = rS ⟨16 + i.val, by omega⟩) {off h}
    {hsrc : (halfM off h).view.WordExact} {hdst : (halfM off h).view.WordExact} {α : Type} {Q : α → sProp 𝕄} {k : PUnit → Prog (TpuEff nD τ sig (Elt F) Λ₀ .tc) α} :
    All m ρ K c n X ⊢ iprop((All m ρ K c (n + 1) X -∗ wpC c (k ⟨⟩) Q) -∗ wpC c (.op (.waitDma2 q (halfM off h) (halfM off h) hsrc hdst) k) Q) :=
  o_recvH m ρ K c X _ (ne_zi c _ (by show 4 ≤ 16 + i.val; omega)) n (hn.trans (p_facts c i).2.2.2.2.2.symm) ((h_facts i).2.2.2.1) hq

theorem send8 (X : sProp 𝕄) (i : Fin 4) (n : ℕ) (hn : n = 25 + 4 * i.val) {d : ℕ} {l : d < nD} (hd : d = (pr c).val) {q₁ q₂ : DmaSem sig}
    (h₁ : q₁ = sS ⟨8 + i.val, by omega⟩) (h₂ : q₂ = rS ⟨8 + i.val, by omega⟩) {off h} (ho : off = ![(org c ⟨8 + i.val, by omega⟩).val, 0, 0])
    {hsc : (halfM off h : Memref sig (Dev.tc (⟨d, l⟩ : Dev nD) : Thread nD τ).2.kind .vmem _ .bf16).view.ref.isScScratch = false} {hsrc : (halfM off h).view.WordExact} {hdst : (halfM off h).view.WordExact}
    {hsem : DmaTarget.Typed .vmem (.dma q₂) (.remote (Dev.tc (⟨d, l⟩ : Dev nD) : Thread nD τ) (halfM off h) (.dma q₁) hsc)}
    {α : Type} {Q : α → sProp 𝕄} {k : PUnit → Prog (TpuEff nD τ sig (Elt F) Λ₀ .tc) α} :
    All m ρ K c n X ⊢ iprop((All m ρ K c (n + 1) X -∗ wpC c (k ⟨⟩) Q)
      -∗ wpC c (.op (.enqueueDma (halfM off h) (.remote (Dev.tc (⟨d, l⟩ : Dev nD)) (halfM off h) (.dma q₁) hsc) (.dma q₂) hsrc hdst hsem) k) Q) :=
  o_sendH m ρ K c X ⟨8 + i.val, by omega⟩ (ne_zi c _ (by show 4 ≤ 8 + i.val; omega)) n (hn.trans (p_facts c i).2.1.symm) ((h_facts i).2.2.1)
    (Fin.ext (hd.trans (congrArg Fin.val (t_facts c i).1.symm))) h₁ (h₂.trans (by rw [(x_facts c i).1])) (ho.trans (by rw [(h_facts i).2.2.2.2.1]))
theorem send16 (X : sProp 𝕄) (i : Fin 4) (n : ℕ) (hn : n = 27 + 4 * i.val) {d : ℕ} {l : d < nD} (hd : d = (pl c).val) {q₁ q₂ : DmaSem sig}
    (h₁ : q₁ = sS ⟨16 + i.val, by omega⟩) (h₂ : q₂ = rS ⟨16 + i.val, by omega⟩) {off h} (ho : off = ![(org c ⟨16 + i.val, by omega⟩).val, 768, 0])
    {hsc : (halfM off h : Memref sig (Dev.tc (⟨d, l⟩ : Dev nD) : Thread nD τ).2.kind .vmem _ .bf16).view.ref.isScScratch = false} {hsrc : (halfM off h).view.WordExact} {hdst : (halfM off h).view.WordExact}
    {hsem : DmaTarget.Typed .vmem (.dma q₂) (.remote (Dev.tc (⟨d, l⟩ : Dev nD) : Thread nD τ) (halfM off h) (.dma q₁) hsc)}
    {α : Type} {Q : α → sProp 𝕄} {k : PUnit → Prog (TpuEff nD τ sig (Elt F) Λ₀ .tc) α} :
    All m ρ K c n X ⊢ iprop((All m ρ K c (n + 1) X -∗ wpC c (k ⟨⟩) Q)
      -∗ wpC c (.op (.enqueueDma (halfM off h) (.remote (Dev.tc (⟨d, l⟩ : Dev nD)) (halfM off h) (.dma q₁) hsc) (.dma q₂) hsrc hdst hsem) k) Q) :=
  o_sendH m ρ K c X ⟨16 + i.val, by omega⟩ (ne_zi c _ (by show 4 ≤ 16 + i.val; omega)) n (hn.trans (p_facts c i).2.2.2.1.symm) ((h_facts i).2.2.2.1)
    (Fin.ext (hd.trans (congrArg Fin.val (t_facts c i).2.symm))) h₁ (h₂.trans (by rw [(x_facts c i).2])) (ho.trans (by rw [(h_facts i).2.2.2.2.2]))

/-- The end of a run of operations. -/
theorem o_ret (n : ℕ) (X : sProp 𝕄) {α : Type} {Q : α → sProp 𝕄} (a : α) :
    All m ρ K c n X ⊢ iprop((∀ r, All m ρ K c n X -∗ Q r) -∗ wpC (F := F) c (.ret a) Q) := by
  iintro H Hk
  unfold wpC
  rw [wp_ret]
  imodintro
  iapply Hk $$ H
theorem o_ret_at (n : ℕ) (X : sProp 𝕄) {α : Type} {Q : α → sProp 𝕄} (a : α) :
    All m ρ K c n X ⊢ iprop((All m ρ K c n X -∗ Q a) -∗ wpC (F := F) c (.ret a) Q) := by
  iintro H Hk
  unfold wpC
  rw [wp_ret]
  imodintro
  iapply Hk $$ H

end ops

end Cert.Exchange

end
-- ==== Proof.Start.lean ====
/-
# The beginning

The starting barrier, the operands put in place, and a device's own block sent out.
-/
module

public import proofs.«01_k».proof.Proof.Run
public import proofs.«01_k».proof.Proof.Barr

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds of the exchange when it starts: the tokens of its transfers, its own cells, its own block's place. -/
def tok (c : Dev nD) (j : Fin 20) : sProp 𝕄 :=
  iprop(dutyTok ER (sCell c j) 0 0 ∗ dutyTok ER (rCell (tgt c j) (rix c j)) 0 0 ∗ atPos ER (sCell c j) 0 ∅ 0)
def Ini (c : Dev nD) : sProp 𝕄 :=
  iprop(bigSep (Finset.univ.erase (zi c)) (tok (F := F) c) ∗ (atPos ER (sCell c (zi c)) 0 ∅ 0 ∗ atPos ER (rCell c (zi c)) 0 ∅ 0) ∗ bigSep (Finset.univ.erase (zi c)) (waitR (F := F) c))

theorem no_duty (g : GSem nD τ sig) (h : (Rd (F := F) m ρ).duties g 0 = ∅) : ∀ r, 0 ≤ r → (Rd (F := F) m ρ).duties g r = ∅ := fun r _ => by
  rcases Nat.eq_zero_or_pos r with rfl | hr
  · exact h
  · exact duties_later m ρ g r hr

/-- The state of the exchange once its own block is in place. -/
theorem St_zero (c : Dev nD) : iprop(owing (F := F) c 0 ∗ bigSep (Finset.univ.erase (zi c)) (Dst (F := F) c) ∗ Ini (F := F) c ∗ Reg m ρ c (zi c)) ⊢ St m ρ c 0 := by
  obtain ⟨hs, hs'⟩ := Ha_zero c
  have hsrc := reg_share m ρ c (zi c)
  rw [hs, sep_ins hs'] at hsrc
  have hsend : iprop(bigSep (Finset.univ.erase (zi c)) (Dst (F := F) c) ∗ bigSep (Finset.univ.erase (zi c)) (tok (F := F) c)) ⊢ bigSep (Finset.univ.erase (zi c)) (sendR (F := F) c) := by
    refine BIBase.Entails.trans sep_all_join (sep_all_mono fun j _ => ?_)
    unfold tok sendR
    iintro ⟨H1, H2, H3, H4⟩
    isplitl [H2]; · iexact H2
    isplitl [H3]; · iexact H3
    isplitl [H1]; · iexact H1
    iexact H4
  unfold St Ini
  rw [Un_zero, Se_zero, Ba_zero, Wt_zero, Kp_zero, BI.bigSep_singleton, BI.bigSep_singleton, BI.bigSep_singleton, BI.bigSep_empty]
  iintro ⟨HO, HD, ⟨HT, ⟨Hs, Hr⟩, HW⟩, HR⟩
  ihave HR := hsrc $$ HR
  icases HR with ⟨HK, HZ, HH⟩
  ihave HT := hsend $$ [HD HT]
  · isplitl [HD]; · iexact HD
    iexact HT
  isplitl [HO]; · iexact HO
  isplitl [HT]; · iexact HT
  isplitl [HH]; · iexact HH
  isplitr; · iempintro
  isplitl [Hs HZ]
  · isplitl [Hs]
    · unfold doneC
      iexists 0
      isplitr; · ipureintro; exact no_duty m ρ _ (duties_s_zi m ρ c)
      iexact Hs
    iexact HZ
  isplitl [HW]; · iexact HW
  isplitl [Hr]
  · unfold doneC
    iexists 0
    isplitr; · ipureintro; exact no_duty m ρ _ (duties_r_zi m ρ c)
    iexact Hr
  iexact HK

/-- The two operands' buffers. -/
def aPts (c : Dev nD) : sProp 𝕄 := ((c : Thread nD τ).loc cc0_stg0_0 ↦{fullShare} xA m ρ c)
def bPts (c : Dev nD) : sProp 𝕄 := ((c : Thread nD τ).loc cc0_stg1_0 ↦{fullShare} xB m ρ c)

section parts
variable (K : Dev nD × KI → ℕ) (c : Dev nD)

/-- Before signal `n` of the starting barrier, with all the rest. -/
def T (n : ℕ) (Y : sProp 𝕄) : sProp 𝕄 := iprop(recs m ρ K ∗ Br (F := F) c n ∗ Y)
/-- After it. -/
def T' (Y : sProp 𝕄) : sProp 𝕄 := iprop(recs m ρ K ∗ (owing (F := F) c 0 ∗ bigSep (Finset.univ.erase (zi c)) (Dst (F := F) c) ∗ doneC m ρ (barCell c)) ∗ Y)

theorem t_signal (Y : sProp 𝕄) (b : Fin 6) (n n' : ℕ) (hn : n = b.val) (hn' : n' = n + 1) (hb : b ≠ bz c) {d : ℕ} {l : d < nD} (hd : d = (btgt c b).val) {k' : ℕ} (hw : k' = 1)
    {α : Type} {Q : α → sProp 𝕄} {k : PUnit → Prog (TpuEff nD τ sig (Elt F) Λ₀ .tc) α} :
    T m ρ K c n Y ⊢ iprop((T m ρ K c n' Y -∗ wpC c (k ⟨⟩) Q) -∗ wpC c (.op (.semSignal (((⟨d, l⟩ : Dev nD), .tc) : Thread nD τ) barS k') k) Q) := by
  subst hn hn'
  unfold T
  iintro ⟨#HR, HB, HY⟩ Hk
  iapply (op_signal m ρ K c b hb (d := ⟨d, l⟩) (Fin.ext hd) (w := 1) hw) $$ [HB]
  · isplitr; · iexact HR
    iexact HB
  iintro HB
  iapply Hk
  isplitr; · iexact HR
  isplitl [HB]; · iexact HB
  iexact HY

theorem b_ne : ∀ c : Dev nD, (0 : Fin 6) ≠ bz c ∧ (1 : Fin 6) ≠ bz c := by decide +kernel

theorem t_nosignal (Y : sProp 𝕄) (b : Fin 6) (n n' : ℕ) (hn : n = b.val) (hn' : n' = n + 1) (hb : ¬ b ≠ bz c) : T m ρ K c n Y ⊢ T m ρ K c n' Y := by
  subst hn hn'
  unfold T
  iintro ⟨#HR, HB, HY⟩
  ihave HB := (op_nosignal c b (not_ne_iff.mp hb)) $$ HB
  isplitr; · iexact HR
  isplitl [HB]; · iexact HB
  iexact HY

/-- What the barrier's wait is made with. -/
def barR : sProp 𝕄 := iprop(cred (tallyAt (barCell c) () 5) ∗ atPos ER (barCell c) 0 ∅ 0)

theorem t_wait (Y : sProp 𝕄) {k' : ℕ} (hk : k' = 5) {α : Type} {Q : α → sProp 𝕄} {k : PUnit → Prog (TpuEff nD τ sig (Elt F) Λ₀ .tc) α} :
    T m ρ K c 6 iprop(barR (F := F) c ∗ Y) ⊢ iprop((T' m ρ K c Y -∗ wpC c (k ⟨⟩) Q) -∗ wpC c (.op (.semWait barS k') k) Q) := by
  unfold T T' barR
  iintro ⟨#HR, HB, ⟨HC, HP⟩, HY⟩ Hk
  iapply (op_barrier m ρ K c hk) $$ [HB HC HP]
  · isplitr; · iexact HR
    isplitl [HB]; · iexact HB
    isplitl [HC]; · iexact HC
    iexact HP
  iintro H
  iapply Hk
  isplitr; · iexact HR
  isplitl [H]; · iexact H
  iexact HY

theorem own_reg : reg (rorg c (zi c)) (zi c) = blk c := by
  have h := small_whole _ (zi_lt c)
  have hl := (half_iff (zi c)).2.2.mp h
  rw [rorg_zi]
  ext i
  rw [mem_reg, mem_blk, hl.1, hl.2]
  exact ⟨fun h => h.1, fun h => ⟨h, Nat.zero_le _, (i 1).isLt⟩⟩

/-- The device's own block is put in its place. -/
theorem t_own {off} {hb} (ho : off = ![c.val, 0, 0]) {off' : Fin 2 → ℕ} {hb' : ∀ a, off' a + S1536x768.size a ≤ S1536x768.size a} (ho' : off' = ![0, 0])
    {w : Vec F S1536x768 .bf16 → FVec F S1x1536x768 .bf16} (hw : w (xA m ρ c) = blkV m ρ c) {hl hl'} {hx : ∀ _, _} {hm}
    {α : Type} {Q : α → sProp 𝕄} {k : PUnit → Prog (TpuEff nD τ sig (Elt F) Λ₀ .tc) α} :
    iprop(aPts m ρ c ∗ Free (F := F) c (zi c))
      ⊢ iprop((iprop(aPts m ρ c ∗ Reg m ρ c (zi c)) -∗ wpC c (k ⟨⟩) Q)
          -∗ wpC c (.op (.load aM (Rect.unit (s := S1536x768) off' S1536x768.size hb').toLoadRect hl : TpuEff nD τ sig (Elt F) Λ₀ .tc (Vec F S1536x768 .bf16)) fun v =>
            .op (.load cM (rB off hb).toLoadRect hl') fun _ => .op (.store cM (rB off hb) (w v) Finset.univ (hx v) hm) k) Q) := by
  subst ho'
  unfold aPts Free Reg
  rw [own_reg]
  iintro ⟨HA, ⟨%f, HF⟩⟩ Hk
  iapply (wp_load 𝒱₀ (c : Thread nD τ) none Set.univ (m := aM) (Finset.subset_univ _)) $$ HA
  iintro HA
  rw [show aM.view.readAt (Elt F) (Rect.unit (s := S1536x768) ![0, 0] S1536x768.size hb').toLoadRect (xA m ρ c) = xA m ρ c from
    Memref.readAt_unit_zero (Elt F) cc0_stg0_0 (show (![0, 0] : Fin 2 → Nat) = fun _ => 0 from funext fun a => by fin_cases a <;> rfl) _ (xA m ρ c), hw]
  iapply (wp_load_rect 𝒱₀ (c : Thread nD τ) none Set.univ (m := cM) (r := rB off hb) (S := blk c) (le_of_eq (rB_set ho))) $$ HF
  iintro HF
  iapply (wp_store 𝒱₀ (c : Thread nD τ) none Set.univ (m := cM) (r := rB off hb) (Mk := Finset.univ) (S := blk c) (le_of_eq (rB_set ho))) $$ HF
  iintro HF
  iapply Hk
  isplitl [HA]; · iexact HA
  iapply (le_of_eq' (show _ = (cL c ↦[blk c]{fullShare} CV m ρ : sProp 𝕄) from pointsTo_congr fun i hi => write_blk m ρ ho f i hi)) $$ HF

/-- The second operand is put in its scratch buffer. -/
theorem t_rhs {off off' : Fin 2 → ℕ} {hb : ∀ a, off a + S768x1536.size a ≤ S768x1536.size a} {hb' : ∀ a, off' a + S768x1536.size a ≤ S768x1536.size a} (ho : off = ![0, 0]) (ho' : off' = ![0, 0])
    {w : Vec F S768x1536 .bf16 → FVec F S768x1536 .bf16} (hw : w (xB m ρ c) = BV m ρ c) {hl hl'} {hx : ∀ _, _} {hm}
    {α : Type} {Q : α → sProp 𝕄} {k : PUnit → Prog (TpuEff nD τ sig (Elt F) Λ₀ .tc) α} :
    iprop(bPts m ρ c ∗ (∃ f, wL c ↦{fullShare} f))
      ⊢ iprop((iprop(bPts m ρ c ∗ wPts m ρ c) -∗ wpC c (k ⟨⟩) Q)
          -∗ wpC c (.op (.load bM (Rect.unit (s := S768x1536) off S768x1536.size hb).toLoadRect hl : TpuEff nD τ sig (Elt F) Λ₀ .tc (Vec F S768x1536 .bf16)) fun v =>
            .op (.load wM (Rect.unit (s := S768x1536) off' S768x1536.size hb').toLoadRect hl') fun _ => .op (.store wM (Rect.unit (s := S768x1536) off' S768x1536.size hb') (w v) Finset.univ (hx v) hm) k) Q) := by
  subst ho ho'
  have hz : (![0, 0] : Fin 2 → Nat) = fun _ => 0 := funext fun a => by fin_cases a <;> rfl
  unfold bPts wPts
  iintro ⟨HA, ⟨%f, HF⟩⟩ Hk
  iapply (wp_load 𝒱₀ (c : Thread nD τ) none Set.univ (m := bM) (Finset.subset_univ _)) $$ HA
  iintro HA
  rw [show bM.view.readAt (Elt F) (Rect.unit (s := S768x1536) ![0, 0] S768x1536.size hb).toLoadRect (xB m ρ c) = xB m ρ c from
    Memref.readAt_unit_zero (Elt F) cc0_stg1_0 hz _ (xB m ρ c), hw]
  iapply (wp_load 𝒱₀ (c : Thread nD τ) none Set.univ (m := wM) (Finset.subset_univ _)) $$ HF
  iintro HF
  iapply (wp_store 𝒱₀ (c : Thread nD τ) none Set.univ (m := wM) (r := Rect.unit (s := S768x1536) ![0, 0] S768x1536.size hb') (Mk := Finset.univ) (Finset.subset_univ _)) $$ HF
  rw [show (wM.access (Rect.unit (s := S768x1536) ![0, 0] S768x1536.size hb')).write (Elt F) f (BV m ρ c) Finset.univ = BV m ρ c from
    Memref.write_access_unit_zero_univ (Elt F) cc0_scratch2 hz _ f (BV m ρ c)]
  iintro HF
  iapply Hk
  isplitl [HA]; · iexact HA
  iexact HF

/-- A device's own block goes to a device of its column, or the place in the order is that of its own height. -/
theorem zs (X : sProp 𝕄) (i : Fin 4) (n n' : ℕ) (hn : n = i.val) (hn' : n' = n + 1) (hz : (⟨i.val, by omega⟩ : Fin 20) ≠ zi c) {d : ℕ} {l : d < nD} (hd : d = (col c i.val).val) {q₁ q₂ : DmaSem sig}
    (h₁ : q₁ = sS ⟨i.val, by omega⟩) (h₂ : q₂ = rS (zi c)) {off h} (ho : off = ![c.val, 0, 0])
    {hsc : (blkM off h : Memref sig (Dev.tc (⟨d, l⟩ : Dev nD) : Thread nD τ).2.kind .vmem _ .bf16).view.ref.isScScratch = false} {hsrc : (blkM off h).view.WordExact} {hdst : (blkM off h).view.WordExact}
    {hsem : DmaTarget.Typed .vmem (.dma q₂) (.remote (Dev.tc (⟨d, l⟩ : Dev nD) : Thread nD τ) (blkM off h) (.dma q₁) hsc)}
    {α : Type} {Q : α → sProp 𝕄} {k : PUnit → Prog (TpuEff nD τ sig (Elt F) Λ₀ .tc) α} :
    All m ρ K c n X ⊢ iprop((All m ρ K c n' X -∗ wpC c (k ⟨⟩) Q)
      -∗ wpC c (.op (.enqueueDma (blkM off h) (.remote (Dev.tc (⟨d, l⟩ : Dev nD)) (blkM off h) (.dma q₁) hsc) (.dma q₂) hsrc hdst hsem) k) Q) := by
  subst hn'
  exact o_send m ρ K c X ⟨i.val, by omega⟩ hz n (hn.trans (z_facts c i).1.symm) (small_whole _ (by show i.val < 4; omega))
    (Fin.ext (hd.trans (congrArg Fin.val (z_facts c i).2.2.1.symm))) h₁ (h₂.trans (by rw [(z_facts c i).2.2.2.1])) (ho.trans (by rw [(z_facts c i).2.1]))
theorem z_order : ∀ (c : Dev nD) (i : Fin 4), (⟨i.val, by omega⟩ : Fin 20) = zi c → ∀ j : Fin 20, j ≠ zi c → posS c j ≠ i.val ∧ posR c j ≠ i.val := by decide +kernel
theorem zs_skip (X : sProp 𝕄) (i : Fin 4) (n n' : ℕ) (hn : n = i.val) (hn' : n' = n + 1) (hz : ¬ (⟨i.val, by omega⟩ : Fin 20) ≠ zi c) : All m ρ K c n X ⊢ All m ρ K c n' X := by
  subst hn hn'
  have h := z_order c i (not_ne_iff.mp hz)
  exact All_skip m ρ K c i.val X (fun j hj => (h j hj).1) (fun j hj => (h j hj).2) (no_wait_below c (by omega))

/-- A device's own block goes to the right and to the left. -/
theorem own_right (X : sProp 𝕄) (n n' : ℕ) (hn : n = 4) (hn' : n' = n + 1) {d : ℕ} {l : d < nD} (hd : d = (pr c).val) {q₁ q₂ : DmaSem sig}
    (h₁ : q₁ = sS (toR (zi c))) (h₂ : q₂ = rS (toR (zi c))) {off h} (ho : off = ![c.val, 0, 0])
    {hsc : (blkM off h : Memref sig (Dev.tc (⟨d, l⟩ : Dev nD) : Thread nD τ).2.kind .vmem _ .bf16).view.ref.isScScratch = false} {hsrc : (blkM off h).view.WordExact} {hdst : (blkM off h).view.WordExact}
    {hsem : DmaTarget.Typed .vmem (.dma q₂) (.remote (Dev.tc (⟨d, l⟩ : Dev nD) : Thread nD τ) (blkM off h) (.dma q₁) hsc)}
    {α : Type} {Q : α → sProp 𝕄} {k : PUnit → Prog (TpuEff nD τ sig (Elt F) Λ₀ .tc) α} :
    All m ρ K c n X ⊢ iprop((All m ρ K c n' X -∗ wpC c (k ⟨⟩) Q)
      -∗ wpC c (.op (.enqueueDma (blkM off h) (.remote (Dev.tc (⟨d, l⟩ : Dev nD)) (blkM off h) (.dma q₁) hsc) (.dma q₂) hsrc hdst hsem) k) Q) := by
  subst hn'
  obtain ⟨e₁, e₂, e₃, e₄⟩ := tgt_toR c (zi c) (zi_lt c)
  obtain ⟨p₁, p₂, -, -⟩ := own_pos c
  rw [col_zi] at e₂
  exact o_send m ρ K c X (toR (zi c)) p₁ n (hn.trans p₂.symm) e₃ (Fin.ext (hd.trans (congrArg Fin.val e₁.symm))) h₁ (h₂.trans (by rw [e₄])) (ho.trans (by rw [e₂]))
theorem own_left (X : sProp 𝕄) (n n' : ℕ) (hn : n = 5) (hn' : n' = n + 1) {d : ℕ} {l : d < nD} (hd : d = (pl c).val) {q₁ q₂ : DmaSem sig}
    (h₁ : q₁ = sS (toL (zi c))) (h₂ : q₂ = rS (toL (zi c))) {off h} (ho : off = ![c.val, 0, 0])
    {hsc : (blkM off h : Memref sig (Dev.tc (⟨d, l⟩ : Dev nD) : Thread nD τ).2.kind .vmem _ .bf16).view.ref.isScScratch = false} {hsrc : (blkM off h).view.WordExact} {hdst : (blkM off h).view.WordExact}
    {hsem : DmaTarget.Typed .vmem (.dma q₂) (.remote (Dev.tc (⟨d, l⟩ : Dev nD) : Thread nD τ) (blkM off h) (.dma q₁) hsc)}
    {α : Type} {Q : α → sProp 𝕄} {k : PUnit → Prog (TpuEff nD τ sig (Elt F) Λ₀ .tc) α} :
    All m ρ K c n X ⊢ iprop((All m ρ K c n' X -∗ wpC c (k ⟨⟩) Q)
      -∗ wpC c (.op (.enqueueDma (blkM off h) (.remote (Dev.tc (⟨d, l⟩ : Dev nD)) (blkM off h) (.dma q₁) hsc) (.dma q₂) hsrc hdst hsem) k) Q) := by
  subst hn'
  obtain ⟨e₁, e₂, e₃, e₄⟩ := tgt_toL c (zi c) (zi_lt c)
  obtain ⟨-, -, p₁, p₂⟩ := own_pos c
  rw [col_zi] at e₂
  exact o_send m ρ K c X (toL (zi c)) p₁ n (hn.trans p₂.symm) e₃ (Fin.ext (hd.trans (congrArg Fin.val e₁.symm))) h₁ (h₂.trans (by rw [e₄])) (ho.trans (by rw [e₂]))

/-! Semaphores at a column place. -/
theorem zrecv_at' {off : Fin 1 → ℕ} {inb} {h} (r : Fin 20) (hr : r.val < 4) (ho : off = ![r.val]) : ((cc0_scratch6.slice (Rect.unit (s := S4) off S1.size inb)).squeeze S_ h).sem = rS r := zrecv_sem ⟨r.val, hr⟩ ho
theorem psend_p_at' {off : Fin 1 → ℕ} {inb} {h} (r : Fin 20) (hr : r.val < 4) (ho : off = ![r.val]) : ((cc0_scratch7.slice (Rect.unit (s := S8) off S1.size inb)).squeeze S_ h).sem = sS (toR r) := (psend_p_sem ⟨r.val, by omega⟩ ho).trans (congrArg sS (toR_eq r hr).symm)
theorem precv_p_at' {off : Fin 1 → ℕ} {inb} {h} (r : Fin 20) (hr : r.val < 4) (ho : off = ![r.val]) : ((cc0_scratch8.slice (Rect.unit (s := S8) off S1.size inb)).squeeze S_ h).sem = rS (toR r) := (precv_p_sem ⟨r.val, by omega⟩ ho).trans (congrArg rS (toR_eq r hr).symm)
theorem psend_m_at' {off : Fin 1 → ℕ} {inb} {h} (r : Fin 20) (hr : r.val < 4) (ho : off = ![r.val]) : ((cc0_scratch9.slice (Rect.unit (s := S8) off S1.size inb)).squeeze S_ h).sem = sS (toL r) := (psend_m_sem ⟨r.val, by omega⟩ ho).trans (congrArg sS (toL_eq r hr).symm)
theorem precv_m_at' {off : Fin 1 → ℕ} {inb} {h} (r : Fin 20) (hr : r.val < 4) (ho : off = ![r.val]) : ((cc0_scratch10.slice (Rect.unit (s := S8) off S1.size inb)).squeeze S_ h).sem = rS (toL r) := (precv_m_sem ⟨r.val, by omega⟩ ho).trans (congrArg rS (toL_eq r hr).symm)

theorem part2 (Y : sProp 𝕄) (v₁ v₂ v₃ v₄ v₅ : BitVec 32) (v₆ v₇ : BitVec 1) {p : Prog (TpuEff nD τ sig (Elt F) Λ₀ .tc) _}
    (hp : k0_part2 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ v₆ v₇ = p) {Q : _ → sProp 𝕄} :
    T m ρ K c 0 Y ⊢ iprop((∀ i : BitVec 32 × BitVec 32 × BitVec 32, T m ρ K c 5 Y -∗ Q ⟨i.1, i.2.1, SemArray.scalar (sig.barrier 0 rfl), i.2.2⟩) -∗ wpC (F := F) c p Q) := by
  rw [k0_part2_eq_skeleton] at hp
  unfold k0_part2_skel at hp
  simp only [semSignalWord, semWaitWord, Prog.lift, Prog.bind_op, Prog.bind_ret, Prog.pure_eq_ret] at hp
  all_goals by_cases h1 : k0_cond1 c = 1#1
  all_goals first | simp only [dif_pos h1] at hp | simp only [dif_neg h1] at hp
  all_goals by_cases h2 : k0_cond2 c = 1#1
  all_goals first | simp only [dif_pos h2] at hp | simp only [dif_neg h2] at hp
  all_goals by_cases h3 : k0_cond3 c = 1#1
  all_goals first | simp only [dif_pos h3] at hp | simp only [dif_neg h3] at hp
  all_goals
    subst hp
    iintro H Hk
    iapply (t_signal m ρ K c _ 0 0 1 rfl rfl (b_ne c).1 (dev1_eq c) rfl) $$ H
    iintro H
    iapply (t_signal m ρ K c _ 1 1 2 rfl rfl (b_ne c).2 (dev2_eq c) rfl) $$ H
    iintro H
    first
      | ihave H := (t_nosignal m ρ K c _ 2 2 3 rfl rfl fun hf => h1 ((cond1_iff c).mpr hf)) $$ H
      | (iapply (t_signal m ρ K c _ 2 2 3 rfl rfl ((cond1_iff c).mp h1) (dev3_eq c h1) rfl) $$ H
         iintro H)
    first
      | ihave H := (t_nosignal m ρ K c _ 3 3 4 rfl rfl fun hf => h2 ((cond2_iff c).mpr hf)) $$ H
      | (iapply (t_signal m ρ K c _ 3 3 4 rfl rfl ((cond2_iff c).mp h2) (dev4_eq c h2) rfl) $$ H
         iintro H)
    first
      | ihave H := (t_nosignal m ρ K c _ 4 4 5 rfl rfl fun hf => h3 ((cond3_iff c).mpr hf)) $$ H
      | (iapply (t_signal m ρ K c _ 4 4 5 rfl rfl ((cond3_iff c).mp h3) (dev5_eq c h3) rfl) $$ H
         iintro H)
    unfold wpC
    rw [wp_ret]
    imodintro
    iapply Hk $$ %(_, _, _) H

/-- All of what is carried through the barrier. -/
def Bag : sProp 𝕄 := iprop(Ini (F := F) c ∗ Free (F := F) c (zi c) ∗ aPts m ρ c ∗ bPts m ρ c ∗ (∃ f, wL c ↦{fullShare} f) ∗ Mid m ρ c 0)

/-- Once the barrier is passed, the operands are put in place. -/
theorem t_place {off} {hb} (ho : off = ![c.val, 0, 0]) {o₁ o₂ o₃ : Fin 2 → ℕ} {b₁ : ∀ a, o₁ a + S1536x768.size a ≤ S1536x768.size a} {b₂ : ∀ a, o₂ a + S768x1536.size a ≤ S768x1536.size a} {b₃ : ∀ a, o₃ a + S768x1536.size a ≤ S768x1536.size a}
    (h₁ : o₁ = ![0, 0]) (h₂ : o₂ = ![0, 0]) (h₃ : o₃ = ![0, 0])
    {w : Vec F S1536x768 .bf16 → FVec F S1x1536x768 .bf16} (hw : w (xA m ρ c) = blkV m ρ c) {hl hl'} {hx : ∀ _, _} {hm}
    {w' : Vec F S768x1536 .bf16 → FVec F S768x1536 .bf16} (hw' : w' (xB m ρ c) = BV m ρ c) {gl gl'} {gx : ∀ _, _} {gm}
    {α : Type} {Q : α → sProp 𝕄} {k : PUnit → Prog (TpuEff nD τ sig (Elt F) Λ₀ .tc) α} :
    T' m ρ K c (Bag m ρ c)
      ⊢ iprop((iprop(All m ρ K c 0 (Mid m ρ c 0) ∗ doneC m ρ (barCell c) ∗ aPts m ρ c ∗ bPts m ρ c) -∗ wpC c (k ⟨⟩) Q)
          -∗ wpC c (.op (.load aM (Rect.unit (s := S1536x768) o₁ S1536x768.size b₁).toLoadRect hl : TpuEff nD τ sig (Elt F) Λ₀ .tc (Vec F S1536x768 .bf16)) fun v =>
            .op (.load cM (rB off hb).toLoadRect hl') fun _ => .op (.store cM (rB off hb) (w v) Finset.univ (hx v) hm) fun _ =>
            .op (.load bM (Rect.unit (s := S768x1536) o₂ S768x1536.size b₂).toLoadRect gl : TpuEff nD τ sig (Elt F) Λ₀ .tc (Vec F S768x1536 .bf16)) fun v' =>
            .op (.load wM (Rect.unit (s := S768x1536) o₃ S768x1536.size b₃).toLoadRect gl') fun _ => .op (.store wM (Rect.unit (s := S768x1536) o₃ S768x1536.size b₃) (w' v') Finset.univ (gx v') gm) k) Q) := by
  unfold T' Bag
  iintro ⟨#HR, ⟨HO, HD, HB⟩, ⟨HI, HF, HA, HB', HW, HM⟩⟩ Hk
  iapply (t_own m ρ c ho h₁ hw) $$ [HA HF]
  · isplitl [HA]; · iexact HA
    iexact HF
  iintro ⟨HA, HF⟩
  iapply (t_rhs m ρ c h₂ h₃ hw') $$ [HB' HW]
  · isplitl [HB']; · iexact HB'
    iexact HW
  iintro ⟨HB', HW⟩
  iapply Hk
  isplitr [HB HA HB']
  · ihave HS := (St_zero m ρ c) $$ [HO HD HI HF]
    · isplitl [HO]; · iexact HO
      isplitl [HD]; · iexact HD
      isplitl [HI]; · iexact HI
      iexact HF
    unfold All
    isplitr; · iexact HR
    isplitl [HS]; · iexact HS
    isplitl [HW]; · iexact HW
    iexact HM
  isplitl [HB]; · iexact HB
  isplitl [HA]; · iexact HA
  iexact HB'

theorem conds_z : ∀ c : Dev nD, (¬ k0_cond5 c = 1#1 ∧ k0_cond6 c = 1#1 ∧ k0_cond7 c = 1#1 ∧ k0_cond8 c = 1#1) ∨ (k0_cond5 c = 1#1 ∧ ¬ k0_cond6 c = 1#1 ∧ k0_cond7 c = 1#1 ∧ k0_cond8 c = 1#1)
    ∨ (k0_cond5 c = 1#1 ∧ k0_cond6 c = 1#1 ∧ ¬ k0_cond7 c = 1#1 ∧ k0_cond8 c = 1#1) ∨ (k0_cond5 c = 1#1 ∧ k0_cond6 c = 1#1 ∧ k0_cond7 c = 1#1 ∧ ¬ k0_cond8 c = 1#1) := by decide +kernel

theorem part3 (v₁ v₂ v₃ v₄ v₅ : BitVec 32) {p : Prog (TpuEff nD τ sig (Elt F) Λ₀ .tc) _}
    (hp : k0_part3 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ (SemArray.scalar (sig.barrier 0 rfl)) v₅ = p) {Q : _ → sProp 𝕄} :
    T m ρ K c 5 iprop(barR (F := F) c ∗ Bag m ρ c) ⊢ iprop((∀ r, All m ρ K c 4 (Mid m ρ c 0) -∗ (doneC m ρ (barCell c) ∗ aPts m ρ c ∗ bPts m ρ c) -∗ Q r) -∗ wpC (F := F) c p Q) := by
  rw [k0_part3_eq_skeleton] at hp
  unfold k0_part3_skel at hp
  simp only [semSignalWord, semWaitWord, Prog.lift, Prog.bind_op, Prog.bind_ret, Prog.pure_eq_ret] at hp
  all_goals by_cases h4 : k0_cond4 c = 1#1
  all_goals first | simp only [dif_pos h4] at hp | simp only [dif_neg h4] at hp
  all_goals rcases conds_z c with ⟨h5, h6, h7, h8⟩ | ⟨h5, h6, h7, h8⟩ | ⟨h5, h6, h7, h8⟩ | ⟨h5, h6, h7, h8⟩
  all_goals first | simp only [dif_pos h5] at hp | simp only [dif_neg h5] at hp
  all_goals first | simp only [dif_pos h6] at hp | simp only [dif_neg h6] at hp
  all_goals first | simp only [dif_pos h7] at hp | simp only [dif_neg h7] at hp
  all_goals first | simp only [dif_pos h8] at hp | simp only [dif_neg h8] at hp
  all_goals
    subst hp
    iintro H Hk
    first
      | ihave H := (t_nosignal m ρ K c _ 5 5 6 rfl rfl fun hf => h4 ((cond4_iff c).mpr hf)) $$ H
      | (iapply (t_signal m ρ K c _ 5 5 6 rfl rfl ((cond4_iff c).mp h4) (dev6_eq c h4) rfl) $$ H
         iintro H)
    iapply (t_wait m ρ K c _ rfl) $$ H
    iintro H
    iapply (t_place m ρ K c (k0_off1_eq c) rfl rfl rfl rfl rfl) $$ H
    iintro ⟨H, HX⟩
    first
      | ihave H := (zs_skip m ρ K c _ 0 0 1 rfl rfl fun hf => h5 ((cond5_iff c).mpr hf)) $$ H
      | (iapply (zs m ρ K c _ 0 0 1 rfl rfl ((cond5_iff c).mp h5) (dev7_eq c h5) (zsend_sem 0 rfl) (zrecv_at' _ (zi_lt c) (off2_eq c).1) (k0_off3_eq c)) $$ H
         iintro H)
    first
      | ihave H := (zs_skip m ρ K c _ 1 1 2 rfl rfl fun hf => h6 ((cond6_iff c).mpr hf)) $$ H
      | (iapply (zs m ρ K c _ 1 1 2 rfl rfl ((cond6_iff c).mp h6) (dev8_eq c h6) (zsend_sem 1 rfl) (zrecv_at' _ (zi_lt c) (off2_eq c).2.1) (k0_off5_eq c)) $$ H
         iintro H)
    first
      | ihave H := (zs_skip m ρ K c _ 2 2 3 rfl rfl fun hf => h7 ((cond7_iff c).mpr hf)) $$ H
      | (iapply (zs m ρ K c _ 2 2 3 rfl rfl ((cond7_iff c).mp h7) (dev9_eq c h7) (zsend_sem 2 rfl) (zrecv_at' _ (zi_lt c) (off2_eq c).2.2.1) (k0_off7_eq c)) $$ H
         iintro H)
    first
      | ihave H := (zs_skip m ρ K c _ 3 3 4 rfl rfl fun hf => h8 ((cond8_iff c).mpr hf)) $$ H
      | (iapply (zs m ρ K c _ 3 3 4 rfl rfl ((cond8_iff c).mp h8) (dev10_eq c h8) (zsend_sem 3 rfl) (zrecv_at' _ (zi_lt c) (off2_eq c).2.2.2.1) (k0_off9_eq c)) $$ H
         iintro H)
    unfold wpC
    rw [wp_ret]
    imodintro
    iapply Hk $$ H
    iexact HX

theorem part4 (v₁ v₂ v₃ : BitVec 32) {p : Prog (TpuEff nD τ sig (Elt F) Λ₀ .tc) _}
    (hp : k0_part4 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ = p) {Q : _ → sProp 𝕄} :
    All m ρ K c 4 (Mid m ρ c 0) ⊢ iprop((∀ r, All m ρ K c 6 (Aft m ρ c 0) -∗ Q r) -∗ wpC (F := F) c p Q) := by
  rw [k0_part4_eq_skeleton] at hp
  unfold k0_part4_skel at hp
  simp only [semSignalWord, semWaitWord, Prog.lift, Prog.bind_op, Prog.bind_ret, Prog.pure_eq_ret] at hp
  subst hp
  iintro H Hk
  iapply (own_right m ρ K c _ 4 5 rfl rfl (dev11_eq c) (psend_p_at' _ (zi_lt c) (off2_eq c).2.2.2.2) (precv_p_at' _ (zi_lt c) (off2_eq c).2.2.2.2) (k0_off11_eq c)) $$ H
  iintro H
  iapply (own_left m ρ K c _ 5 6 rfl rfl (dev12_eq c) (psend_m_at' _ (zi_lt c) (off2_eq c).2.2.2.2) (precv_m_at' _ (zi_lt c) (off2_eq c).2.2.2.2) (k0_off11_eq c)) $$ H
  iintro H
  iapply (o_prod m ρ K c 6 0 (by decide) rfl (k0_off1_eq c) rfl rfl rfl (k0_off12_eq c) (copy_sem 0 rfl) rfl) $$ H
  iintro H
  iapply (o_ret m ρ K c 6 _ _) $$ H
  iexact Hk

end parts

end Cert.Exchange

end
-- ==== Proof.Forward.lean ====
/-
The parts of the kernel in which a device's block goes out and its column's blocks come in and are handed on.
-/
module

public import proofs.«01_k».proof.Proof.Run

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section parts
variable (K : Dev nD × KI → ℕ) (c : Dev nD)

theorem part5 (v₁ v₂ v₃ v₄ v₅ : BitVec 32) {p : Prog (TpuEff nD τ sig (Elt F) Λ₀ .tc) _}
    (hp : k0_part5 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ = p) {Q : _ → sProp 𝕄} :
    All m ρ K c 6 (Aft m ρ c 0) ⊢ iprop((∀ r, All m ρ K c 9 (Aft m ρ c 1) -∗ Q r) -∗ wpC (F := F) c p Q) := by
  rw [k0_part5_eq_skeleton] at hp
  unfold k0_part5_skel at hp
  simp only [Prog.lift, Prog.bind_op, Prog.bind_ret, Prog.pure_eq_ret] at hp
  obtain ⟨r, hr⟩ := at_round c 0 (off13_eq c)
  have hw := cond9_iff c
  by_cases h : k0_cond9 c = 1#1
  case' neg =>
    rw [dif_neg h] at hp
    subst hp
    refine (pass_skip m ρ K c _ 6 9 0 rfl rfl fun hf => h (hw.mpr hf)).trans ?_
    iintro H Hk
  case' pos =>
    rw [dif_pos h] at hp
    subst hp
    iintro H Hk
    iapply (pass_ops m ρ K c _ 6 9 0 rfl rfl (hw.mp h) r (hr (hw.mp h)).1 (hr (hw.mp h)).2.2.1 (dev13_eq c h) (dev14_eq c h)
    (zrecv_sem r (hr (hw.mp h)).2.1) (psend_p_sem ⟨r.val, by omega⟩ (hr (hw.mp h)).2.2.2) (precv_p_sem ⟨r.val, by omega⟩ (hr (hw.mp h)).2.2.2) (psend_m_sem ⟨r.val, by omega⟩ (hr (hw.mp h)).2.2.2) (precv_m_sem ⟨r.val, by omega⟩ (hr (hw.mp h)).2.2.2)) $$ H
    iintro H
  all_goals
    ihave H := (o_first m ρ K c 9) $$ H
    iapply (o_prod m ρ K c 9 1 (by decide) rfl (off16_eq c 0).1 rfl rfl rfl (off16_eq c 0).2 (copy_sem 1 rfl) rfl) $$ H
    iintro H
    iapply (o_ret m ρ K c 9 _ _) $$ H
    iexact Hk

theorem part6 (v₁ v₂ v₃ v₄ v₅ v₆ v₇ : BitVec 32) {p : Prog (TpuEff nD τ sig (Elt F) Λ₀ .tc) _}
    (hp : k0_part6 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ v₆ v₇ = p) {Q : _ → sProp 𝕄} :
    All m ρ K c 9 (Aft m ρ c 1) ⊢ iprop((∀ r, All m ρ K c 12 (Aft m ρ c 2) -∗ Q r) -∗ wpC (F := F) c p Q) := by
  rw [k0_part6_eq_skeleton] at hp
  unfold k0_part6_skel at hp
  simp only [Prog.lift, Prog.bind_op, Prog.bind_ret, Prog.pure_eq_ret] at hp
  obtain ⟨r, hr⟩ := at_round c 1 (off18_eq c)
  have hw := cond10_iff c
  by_cases h : k0_cond10 c = 1#1
  case' neg =>
    rw [dif_neg h] at hp
    subst hp
    refine (pass_skip m ρ K c _ 9 12 1 rfl rfl fun hf => h (hw.mpr hf)).trans ?_
    iintro H Hk
  case' pos =>
    rw [dif_pos h] at hp
    subst hp
    iintro H Hk
    iapply (pass_ops m ρ K c _ 9 12 1 rfl rfl (hw.mp h) r (hr (hw.mp h)).1 (hr (hw.mp h)).2.2.1 (dev15_eq c h) (dev16_eq c h)
    (zrecv_sem r (hr (hw.mp h)).2.1) (psend_p_sem ⟨r.val, by omega⟩ (hr (hw.mp h)).2.2.2) (precv_p_sem ⟨r.val, by omega⟩ (hr (hw.mp h)).2.2.2) (psend_m_sem ⟨r.val, by omega⟩ (hr (hw.mp h)).2.2.2) (precv_m_sem ⟨r.val, by omega⟩ (hr (hw.mp h)).2.2.2)) $$ H
    iintro H
  all_goals
    iapply (o_next m ρ K c 12 0 (by decide) (copy_sem 0 rfl)) $$ H
    iintro H
    iapply (o_prod m ρ K c 12 2 (by decide) rfl (off16_eq c 1).1 rfl rfl rfl (off16_eq c 1).2 (copy_sem 0 rfl) rfl) $$ H
    iintro H
    iapply (o_ret m ρ K c 12 _ _) $$ H
    iexact Hk

theorem part7 (v₁ v₂ v₃ v₄ : BitVec 32) (v₅ : BitVec 1) (v₆ : BitVec 32) {p : Prog (TpuEff nD τ sig (Elt F) Λ₀ .tc) _}
    (hp : k0_part7 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ v₆ = p) {Q : _ → sProp 𝕄} :
    All m ρ K c 12 (Aft m ρ c 2) ⊢ iprop((∀ r, All m ρ K c 15 (Aft m ρ c 3) -∗ Q r) -∗ wpC (F := F) c p Q) := by
  rw [k0_part7_eq_skeleton] at hp
  unfold k0_part7_skel at hp
  simp only [Prog.lift, Prog.bind_op, Prog.bind_ret, Prog.pure_eq_ret] at hp
  obtain ⟨r, hr⟩ := at_round c 2 (off21_eq c)
  have hw := cond11_iff c
  by_cases h : k0_cond11 c = 1#1
  case' neg =>
    rw [dif_neg h] at hp
    subst hp
    refine (pass_skip m ρ K c _ 12 15 2 rfl rfl fun hf => h (hw.mpr hf)).trans ?_
    iintro H Hk
  case' pos =>
    rw [dif_pos h] at hp
    subst hp
    iintro H Hk
    iapply (pass_ops m ρ K c _ 12 15 2 rfl rfl (hw.mp h) r (hr (hw.mp h)).1 (hr (hw.mp h)).2.2.1 (dev17_eq c h) (dev18_eq c h)
    (zrecv_sem r (hr (hw.mp h)).2.1) (psend_p_sem ⟨r.val, by omega⟩ (hr (hw.mp h)).2.2.2) (precv_p_sem ⟨r.val, by omega⟩ (hr (hw.mp h)).2.2.2) (psend_m_sem ⟨r.val, by omega⟩ (hr (hw.mp h)).2.2.2) (precv_m_sem ⟨r.val, by omega⟩ (hr (hw.mp h)).2.2.2)) $$ H
    iintro H
  all_goals
    iapply (o_next m ρ K c 15 1 (by decide) (copy_sem 1 rfl)) $$ H
    iintro H
    iapply (o_prod m ρ K c 15 3 (by decide) rfl (off16_eq c 2).1 rfl rfl rfl (off16_eq c 2).2 (copy_sem 1 rfl) rfl) $$ H
    iintro H
    iapply (o_ret m ρ K c 15 _ _) $$ H
    iexact Hk

theorem part8 (v₁ v₂ v₃ v₄ v₅ : BitVec 32) (v₆ : BitVec 1) (v₇ v₈ : BitVec 32) {p : Prog (TpuEff nD τ sig (Elt F) Λ₀ .tc) _}
    (hp : k0_part8 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ v₆ v₇ v₈ = p) {Q : _ → sProp 𝕄} :
    All m ρ K c 15 (Aft m ρ c 3) ⊢ iprop((∀ r, All m ρ K c 18 (Aft m ρ c 4) -∗ Q r) -∗ wpC (F := F) c p Q) := by
  rw [k0_part8_eq_skeleton] at hp
  unfold k0_part8_skel at hp
  simp only [Prog.lift, Prog.bind_op, Prog.bind_ret, Prog.pure_eq_ret] at hp
  obtain ⟨r, hr⟩ := at_round c 3 (off24_eq c)
  have hw := cond12_iff c
  by_cases h : k0_cond12 c = 1#1
  case' neg =>
    rw [dif_neg h] at hp
    subst hp
    refine (pass_skip m ρ K c _ 15 18 3 rfl rfl fun hf => h (hw.mpr hf)).trans ?_
    iintro H Hk
  case' pos =>
    rw [dif_pos h] at hp
    subst hp
    iintro H Hk
    iapply (pass_ops m ρ K c _ 15 18 3 rfl rfl (hw.mp h) r (hr (hw.mp h)).1 (hr (hw.mp h)).2.2.1 (dev19_eq c h) (dev20_eq c h)
    (zrecv_sem r (hr (hw.mp h)).2.1) (psend_p_sem ⟨r.val, by omega⟩ (hr (hw.mp h)).2.2.2) (precv_p_sem ⟨r.val, by omega⟩ (hr (hw.mp h)).2.2.2) (psend_m_sem ⟨r.val, by omega⟩ (hr (hw.mp h)).2.2.2) (precv_m_sem ⟨r.val, by omega⟩ (hr (hw.mp h)).2.2.2)) $$ H
    iintro H
  all_goals
    iapply (o_next m ρ K c 18 2 (by decide) (copy_sem 0 rfl)) $$ H
    iintro H
    iapply (o_prod m ρ K c 18 4 (by decide) rfl (off16_eq c 3).1 rfl rfl rfl (off16_eq c 3).2 (copy_sem 0 rfl) rfl) $$ H
    iintro H
    iapply (o_ret m ρ K c 18 _ _) $$ H
    iexact Hk

theorem part9 (v₁ v₂ v₃ v₄ v₅ : BitVec 32) (v₆ : BitVec 1) {p : Prog (TpuEff nD τ sig (Elt F) Λ₀ .tc) _}
    (hp : k0_part9 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ v₆ = p) {Q : _ → sProp 𝕄} :
    All m ρ K c 18 (Aft m ρ c 4) ⊢ iprop((∀ r, All m ρ K c 21 (Aft m ρ c 5) -∗ Q r) -∗ wpC (F := F) c p Q) := by
  rw [k0_part9_eq_skeleton] at hp
  unfold k0_part9_skel at hp
  simp only [Prog.lift, Prog.bind_op, Prog.bind_ret, Prog.pure_eq_ret] at hp
  obtain ⟨r, hr⟩ := at_round c 4 (off27_eq c)
  have hw := cond13_iff c
  by_cases h : k0_cond13 c = 1#1
  case' neg =>
    rw [dif_neg h] at hp
    subst hp
    refine (pass_skip m ρ K c _ 18 21 4 rfl rfl fun hf => h (hw.mpr hf)).trans ?_
    iintro H Hk
  case' pos =>
    rw [dif_pos h] at hp
    subst hp
    iintro H Hk
    iapply (pass_ops m ρ K c _ 18 21 4 rfl rfl (hw.mp h) r (hr (hw.mp h)).1 (hr (hw.mp h)).2.2.1 (dev21_eq c h) (dev22_eq c h)
    (zrecv_sem r (hr (hw.mp h)).2.1) (psend_p_sem ⟨r.val, by omega⟩ (hr (hw.mp h)).2.2.2) (precv_p_sem ⟨r.val, by omega⟩ (hr (hw.mp h)).2.2.2) (psend_m_sem ⟨r.val, by omega⟩ (hr (hw.mp h)).2.2.2) (precv_m_sem ⟨r.val, by omega⟩ (hr (hw.mp h)).2.2.2)) $$ H
    iintro H
  all_goals
    iapply (o_next m ρ K c 21 3 (by decide) (copy_sem 1 rfl)) $$ H
    iintro H
    iapply (o_prod m ρ K c 21 5 (by decide) rfl (off16_eq c 4).1 rfl rfl rfl (off16_eq c 4).2 (copy_sem 1 rfl) rfl) $$ H
    iintro H
    iapply (o_ret m ρ K c 21 _ _) $$ H
    iexact Hk

theorem part10 (v₁ v₂ v₃ v₄ : BitVec 32) (v₅ : BitVec 1) (v₆ : BitVec 32) {p : Prog (TpuEff nD τ sig (Elt F) Λ₀ .tc) _}
    (hp : k0_part10 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅ v₆ = p) {Q : _ → sProp 𝕄} :
    All m ρ K c 21 (Aft m ρ c 5) ⊢ iprop((∀ r, All m ρ K c 24 (Aft m ρ c 6) -∗ Q r) -∗ wpC (F := F) c p Q) := by
  rw [k0_part10_eq_skeleton] at hp
  unfold k0_part10_skel at hp
  simp only [Prog.lift, Prog.bind_op, Prog.bind_ret, Prog.pure_eq_ret] at hp
  obtain ⟨r, hr⟩ := at_round c 5 (off30_eq c)
  have hw := cond14_iff c
  by_cases h : k0_cond14 c = 1#1
  case' neg =>
    rw [dif_neg h] at hp
    subst hp
    refine (pass_skip m ρ K c _ 21 24 5 rfl rfl fun hf => h (hw.mpr hf)).trans ?_
    iintro H Hk
  case' pos =>
    rw [dif_pos h] at hp
    subst hp
    iintro H Hk
    iapply (pass_ops m ρ K c _ 21 24 5 rfl rfl (hw.mp h) r (hr (hw.mp h)).1 (hr (hw.mp h)).2.2.1 (dev23_eq c h) (dev24_eq c h)
    (zrecv_sem r (hr (hw.mp h)).2.1) (psend_p_sem ⟨r.val, by omega⟩ (hr (hw.mp h)).2.2.2) (precv_p_sem ⟨r.val, by omega⟩ (hr (hw.mp h)).2.2.2) (psend_m_sem ⟨r.val, by omega⟩ (hr (hw.mp h)).2.2.2) (precv_m_sem ⟨r.val, by omega⟩ (hr (hw.mp h)).2.2.2)) $$ H
    iintro H
  all_goals
    iapply (o_next m ρ K c 24 4 (by decide) (copy_sem 0 rfl)) $$ H
    iintro H
    iapply (o_prod m ρ K c 24 6 (by decide) rfl (off16_eq c 5).1 rfl rfl rfl (off16_eq c 5).2 (copy_sem 0 rfl) rfl) $$ H
    iintro H
    iapply (o_ret m ρ K c 24 _ _) $$ H
    iexact Hk

end parts

end Cert.Exchange

end
-- ==== Proof.Middle.lean ====
/-
The parts of the kernel in which a plane's blocks come from the right and the left and are handed on by halves.
-/
module

public import proofs.«01_k».proof.Proof.Run

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section parts
variable (K : Dev nD × KI → ℕ) (c : Dev nD)

theorem part11 (v₁ v₂ v₃ v₄ v₅ : BitVec 32) {Q : _ → sProp 𝕄} :
    All m ρ K c 24 (Aft m ρ c 6) ⊢ iprop((∀ r, All m ρ K c 25 (Aft m ρ c 6) -∗ Q r) -∗ wpC (F := F) c (k0_part11 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅) Q) := by
  rw [k0_part11_eq_skeleton]
  unfold k0_part11_skel
  simp only [Prog.lift, Prog.bind_op, Prog.bind_ret, Prog.pure_eq_ret]
  iintro H Hk
  iapply (recv4 m ρ K c _ 0 24 rfl (precv_p_sem 0 rfl)) $$ H
  iintro H
  iapply (o_ret m ρ K c 25 _ _) $$ H
  iexact Hk

theorem part12 (v₁ : BitVec 32) {Q : _ → sProp 𝕄} :
    All m ρ K c 25 (Aft m ρ c 6) ⊢ iprop((∀ r, All m ρ K c 26 (Aft m ρ c 7) -∗ Q r) -∗ wpC (F := F) c (k0_part12 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁) Q) := by
  rw [k0_part12_eq_skeleton]
  unfold k0_part12_skel
  simp only [Prog.lift, Prog.bind_op, Prog.bind_ret, Prog.pure_eq_ret]
  iintro H Hk
  iapply (send8 m ρ K c _ 0 25 rfl (dev25_eq c).1 (psend_p_sem 4 rfl) (precv_p_sem 4 rfl) (off34_eq c 0)) $$ H
  iintro H
  iapply (o_next m ρ K c 26 5 (by decide) (copy_sem 1 rfl)) $$ H
  iintro H
  iapply (o_prod m ρ K c 26 7 (by decide) rfl (off36_eq c 0).1 rfl rfl rfl (off36_eq c 0).2 (copy_sem 1 rfl) rfl) $$ H
  iintro H
  iapply (o_ret m ρ K c 26 _ _) $$ H
  iexact Hk

theorem part13 (v₁ v₂ v₃ v₄ : BitVec 32) {Q : _ → sProp 𝕄} :
    All m ρ K c 26 (Aft m ρ c 7) ⊢ iprop((All m ρ K c 28 (Mid m ρ c 8) -∗ Q (TV m ρ c (og c 8))) -∗ wpC (F := F) c (k0_part13 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄) Q) := by
  rw [k0_part13_eq_skeleton]
  unfold k0_part13_skel
  simp only [Prog.lift, Prog.bind_op, Prog.bind_ret, Prog.pure_eq_ret]
  iintro H Hk
  iapply (recv12 m ρ K c _ 0 26 rfl (precv_m_sem 0 rfl)) $$ H
  iintro H
  iapply (send16 m ρ K c _ 0 27 rfl (dev26_eq c).1 (psend_m_sem 4 rfl) (precv_m_sem 4 rfl) (off38_eq c 0)) $$ H
  iintro H
  iapply (o_next m ρ K c 28 6 (by decide) (copy_sem 0 rfl)) $$ H
  iintro H
  iapply (o_read m ρ K c _ 28 8 (by decide) rfl (off40_eq c 0).1 rfl) $$ H
  iintro H
  iapply (o_ret_at m ρ K c 28 _ _) $$ H
  iexact Hk

theorem part14 (v₁ v₂ : BitVec 32) {Q : _ → sProp 𝕄} :
    All m ρ K c 28 (Mid m ρ c 8) ⊢ iprop((∀ r, All m ρ K c 28 (Aft m ρ c 8) -∗ Q r) -∗ wpC (F := F) c (k0_part14 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ (TV m ρ c (og c 8))) Q) := by
  rw [k0_part14_eq_skeleton]
  unfold k0_part14_skel
  simp only [Prog.lift, Prog.bind_op, Prog.bind_ret, Prog.pure_eq_ret]
  iintro H Hk
  iapply (o_store m ρ K c 28 8 rfl rfl) $$ H
  iintro H
  iapply (o_copy m ρ K c 28 8 (by decide) rfl (off40_eq c 0).2 (copy_sem 0 rfl)) $$ H
  iintro H
  iapply (o_ret m ρ K c 28 _ _) $$ H
  iexact Hk

theorem part15 (v₁ v₂ v₃ v₄ : BitVec 32) {Q : _ → sProp 𝕄} :
    All m ρ K c 28 (Aft m ρ c 8) ⊢ iprop((All m ρ K c 30 (Mid m ρ c 9) -∗ Q (TV m ρ c (og c 9))) -∗ wpC (F := F) c (k0_part15 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄) Q) := by
  rw [k0_part15_eq_skeleton]
  unfold k0_part15_skel
  simp only [Prog.lift, Prog.bind_op, Prog.bind_ret, Prog.pure_eq_ret]
  iintro H Hk
  iapply (recv4 m ρ K c _ 1 28 rfl (precv_p_sem 1 rfl)) $$ H
  iintro H
  iapply (send8 m ρ K c _ 1 29 rfl (dev25_eq c).2.1 (psend_p_sem 5 rfl) (precv_p_sem 5 rfl) (off34_eq c 1)) $$ H
  iintro H
  iapply (o_next m ρ K c 30 7 (by decide) (copy_sem 1 rfl)) $$ H
  iintro H
  iapply (o_read m ρ K c _ 30 9 (by decide) rfl (off36_eq c 1).1 rfl) $$ H
  iintro H
  iapply (o_ret_at m ρ K c 30 _ _) $$ H
  iexact Hk

theorem part16 (v₁ v₂ v₃ v₄ : BitVec 32) {Q : _ → sProp 𝕄} :
    All m ρ K c 30 (Mid m ρ c 9) ⊢ iprop((∀ r, All m ρ K c 32 (Aft m ρ c 9) -∗ Q r) -∗ wpC (F := F) c (k0_part16 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ (TV m ρ c (og c 9))) Q) := by
  rw [k0_part16_eq_skeleton]
  unfold k0_part16_skel
  simp only [Prog.lift, Prog.bind_op, Prog.bind_ret, Prog.pure_eq_ret]
  iintro H Hk
  iapply (o_store m ρ K c 30 9 rfl rfl) $$ H
  iintro H
  iapply (o_copy m ρ K c 30 9 (by decide) rfl (off36_eq c 1).2 (copy_sem 1 rfl)) $$ H
  iintro H
  iapply (recv12 m ρ K c _ 1 30 rfl (precv_m_sem 1 rfl)) $$ H
  iintro H
  iapply (send16 m ρ K c _ 1 31 rfl (dev26_eq c).2.1 (psend_m_sem 5 rfl) (precv_m_sem 5 rfl) (off38_eq c 1)) $$ H
  iintro H
  iapply (o_ret m ρ K c 32 _ _) $$ H
  iexact Hk

theorem part17 (v₁ v₂ : BitVec 32) {Q : _ → sProp 𝕄} :
    All m ρ K c 32 (Aft m ρ c 9) ⊢ iprop((∀ r, All m ρ K c 32 (Aft m ρ c 10) -∗ Q r) -∗ wpC (F := F) c (k0_part17 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂) Q) := by
  rw [k0_part17_eq_skeleton]
  unfold k0_part17_skel
  simp only [Prog.lift, Prog.bind_op, Prog.bind_ret, Prog.pure_eq_ret]
  iintro H Hk
  iapply (o_next m ρ K c 32 8 (by decide) (copy_sem 0 rfl)) $$ H
  iintro H
  iapply (o_prod m ρ K c 32 10 (by decide) rfl (off40_eq c 1).1 rfl rfl rfl (off40_eq c 1).2 (copy_sem 0 rfl) rfl) $$ H
  iintro H
  iapply (o_ret m ρ K c 32 _ _) $$ H
  iexact Hk

theorem part18 (v₁ v₂ v₃ v₄ v₅ : BitVec 32) {Q : _ → sProp 𝕄} :
    All m ρ K c 32 (Aft m ρ c 10) ⊢ iprop((∀ r, All m ρ K c 34 (Aft m ρ c 10) -∗ Q r) -∗ wpC (F := F) c (k0_part18 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅) Q) := by
  rw [k0_part18_eq_skeleton]
  unfold k0_part18_skel
  simp only [Prog.lift, Prog.bind_op, Prog.bind_ret, Prog.pure_eq_ret]
  iintro H Hk
  iapply (recv4 m ρ K c _ 2 32 rfl (precv_p_sem 2 rfl)) $$ H
  iintro H
  iapply (send8 m ρ K c _ 2 33 rfl (dev25_eq c).2.2.1 (psend_p_sem 6 rfl) (precv_p_sem 6 rfl) (off34_eq c 2)) $$ H
  iintro H
  iapply (o_ret m ρ K c 34 _ _) $$ H
  iexact Hk

theorem part19 (v₁ v₂ v₃ : BitVec 32) {Q : _ → sProp 𝕄} :
    All m ρ K c 34 (Aft m ρ c 10) ⊢ iprop((∀ r, All m ρ K c 35 (Aft m ρ c 11) -∗ Q r) -∗ wpC (F := F) c (k0_part19 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃) Q) := by
  rw [k0_part19_eq_skeleton]
  unfold k0_part19_skel
  simp only [Prog.lift, Prog.bind_op, Prog.bind_ret, Prog.pure_eq_ret]
  iintro H Hk
  iapply (o_next m ρ K c 34 9 (by decide) (copy_sem 1 rfl)) $$ H
  iintro H
  iapply (o_prod m ρ K c 34 11 (by decide) rfl (off36_eq c 2).1 rfl rfl rfl (off36_eq c 2).2 (copy_sem 1 rfl) rfl) $$ H
  iintro H
  iapply (recv12 m ρ K c _ 2 34 rfl (precv_m_sem 2 rfl)) $$ H
  iintro H
  iapply (o_ret m ρ K c 35 _ _) $$ H
  iexact Hk

theorem part20 (v₁ v₂ : BitVec 32) {Q : _ → sProp 𝕄} :
    All m ρ K c 35 (Aft m ρ c 11) ⊢ iprop((∀ r, All m ρ K c 36 (Aft m ρ c 12) -∗ Q r) -∗ wpC (F := F) c (k0_part20 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂) Q) := by
  rw [k0_part20_eq_skeleton]
  unfold k0_part20_skel
  simp only [Prog.lift, Prog.bind_op, Prog.bind_ret, Prog.pure_eq_ret]
  iintro H Hk
  iapply (send16 m ρ K c _ 2 35 rfl (dev26_eq c).2.2.1 (psend_m_sem 6 rfl) (precv_m_sem 6 rfl) (off38_eq c 2)) $$ H
  iintro H
  iapply (o_next m ρ K c 36 10 (by decide) (copy_sem 0 rfl)) $$ H
  iintro H
  iapply (o_prod m ρ K c 36 12 (by decide) rfl (off40_eq c 2).1 rfl rfl rfl (off40_eq c 2).2 (copy_sem 0 rfl) rfl) $$ H
  iintro H
  iapply (o_ret m ρ K c 36 _ _) $$ H
  iexact Hk

theorem part21 (v₁ v₂ v₃ v₄ v₅ : BitVec 32) {Q : _ → sProp 𝕄} :
    All m ρ K c 36 (Aft m ρ c 12) ⊢ iprop((∀ r, All m ρ K c 37 (Aft m ρ c 12) -∗ Q r) -∗ wpC (F := F) c (k0_part21 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅) Q) := by
  rw [k0_part21_eq_skeleton]
  unfold k0_part21_skel
  simp only [Prog.lift, Prog.bind_op, Prog.bind_ret, Prog.pure_eq_ret]
  iintro H Hk
  iapply (recv4 m ρ K c _ 3 36 rfl (precv_p_sem 3 rfl)) $$ H
  iintro H
  iapply (o_ret m ρ K c 37 _ _) $$ H
  iexact Hk

theorem part22 (v₁ : BitVec 32) {Q : _ → sProp 𝕄} :
    All m ρ K c 37 (Aft m ρ c 12) ⊢ iprop((∀ r, All m ρ K c 38 (Aft m ρ c 13) -∗ Q r) -∗ wpC (F := F) c (k0_part22 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁) Q) := by
  rw [k0_part22_eq_skeleton]
  unfold k0_part22_skel
  simp only [Prog.lift, Prog.bind_op, Prog.bind_ret, Prog.pure_eq_ret]
  iintro H Hk
  iapply (send8 m ρ K c _ 3 37 rfl (dev25_eq c).2.2.2 (psend_p_sem 7 rfl) (precv_p_sem 7 rfl) (off34_eq c 3)) $$ H
  iintro H
  iapply (o_next m ρ K c 38 11 (by decide) (copy_sem 1 rfl)) $$ H
  iintro H
  iapply (o_prod m ρ K c 38 13 (by decide) rfl (off36_eq c 3).1 rfl rfl rfl (off36_eq c 3).2 (copy_sem 1 rfl) rfl) $$ H
  iintro H
  iapply (o_ret m ρ K c 38 _ _) $$ H
  iexact Hk

theorem part23 (v₁ v₂ v₃ v₄ : BitVec 32) {Q : _ → sProp 𝕄} :
    All m ρ K c 38 (Aft m ρ c 13) ⊢ iprop((All m ρ K c 40 (Mid m ρ c 14) -∗ Q (TV m ρ c (og c 14))) -∗ wpC (F := F) c (k0_part23 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄) Q) := by
  rw [k0_part23_eq_skeleton]
  unfold k0_part23_skel
  simp only [Prog.lift, Prog.bind_op, Prog.bind_ret, Prog.pure_eq_ret]
  iintro H Hk
  iapply (recv12 m ρ K c _ 3 38 rfl (precv_m_sem 3 rfl)) $$ H
  iintro H
  iapply (send16 m ρ K c _ 3 39 rfl (dev26_eq c).2.2.2 (psend_m_sem 7 rfl) (precv_m_sem 7 rfl) (off38_eq c 3)) $$ H
  iintro H
  iapply (o_next m ρ K c 40 12 (by decide) (copy_sem 0 rfl)) $$ H
  iintro H
  iapply (o_read m ρ K c _ 40 14 (by decide) rfl (off40_eq c 3).1 rfl) $$ H
  iintro H
  iapply (o_ret_at m ρ K c 40 _ _) $$ H
  iexact Hk

theorem part24 (v₁ v₂ v₃ v₄ : BitVec 32) {Q : _ → sProp 𝕄} :
    All m ρ K c 40 (Mid m ρ c 14) ⊢ iprop((∀ r, All m ρ K c 41 (Aft m ρ c 14) -∗ Q r) -∗ wpC (F := F) c (k0_part24 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ (TV m ρ c (og c 14))) Q) := by
  rw [k0_part24_eq_skeleton]
  unfold k0_part24_skel
  simp only [Prog.lift, Prog.bind_op, Prog.bind_ret, Prog.pure_eq_ret]
  iintro H Hk
  iapply (o_store m ρ K c 40 14 rfl rfl) $$ H
  iintro H
  iapply (o_copy m ρ K c 40 14 (by decide) rfl (off40_eq c 3).2 (copy_sem 0 rfl)) $$ H
  iintro H
  iapply (recv8 m ρ K c _ 0 40 rfl (precv_p_sem 4 rfl)) $$ H
  iintro H
  iapply (o_ret m ρ K c 41 _ _) $$ H
  iexact Hk

theorem part25 (v₁ v₂ : BitVec 32) {Q : _ → sProp 𝕄} :
    All m ρ K c 41 (Aft m ρ c 14) ⊢ iprop((∀ r, All m ρ K c 42 (Aft m ρ c 15) -∗ Q r) -∗ wpC (F := F) c (k0_part25 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂) Q) := by
  rw [k0_part25_eq_skeleton]
  unfold k0_part25_skel
  simp only [Prog.lift, Prog.bind_op, Prog.bind_ret, Prog.pure_eq_ret]
  iintro H Hk
  iapply (recv16 m ρ K c _ 0 41 rfl (precv_m_sem 4 rfl)) $$ H
  iintro H
  iapply (o_next m ρ K c 42 13 (by decide) (copy_sem 1 rfl)) $$ H
  iintro H
  iapply (o_prod m ρ K c 42 15 (by decide) rfl (off40_eq' c 0).1 rfl rfl rfl (off40_eq' c 0).2 (copy_sem 1 rfl) rfl) $$ H
  iintro H
  iapply (o_ret m ρ K c 42 _ _) $$ H
  iexact Hk

theorem part26 (v₁ v₂ v₃ v₄ : BitVec 32) (v₅ : BitVec 1) {Q : _ → sProp 𝕄} :
    All m ρ K c 42 (Aft m ρ c 15) ⊢ iprop((∀ r, All m ρ K c 44 (Aft m ρ c 15) -∗ Q r) -∗ wpC (F := F) c (k0_part26 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ v₄ v₅) Q) := by
  rw [k0_part26_eq_skeleton]
  unfold k0_part26_skel
  simp only [Prog.lift, Prog.bind_op, Prog.bind_ret, Prog.pure_eq_ret]
  iintro H Hk
  iapply (recv8 m ρ K c _ 1 42 rfl (precv_p_sem 5 rfl)) $$ H
  iintro H
  iapply (recv16 m ρ K c _ 1 43 rfl (precv_m_sem 5 rfl)) $$ H
  iintro H
  iapply (o_ret m ρ K c 44 _ _) $$ H
  iexact Hk

theorem part27 (v₁ v₂ v₃ : BitVec 32) {Q : _ → sProp 𝕄} :
    All m ρ K c 44 (Aft m ρ c 15) ⊢ iprop((∀ r, All m ρ K c 44 (Aft m ρ c 16) -∗ Q r) -∗ wpC (F := F) c (k0_part27 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃) Q) := by
  rw [k0_part27_eq_skeleton]
  unfold k0_part27_skel
  simp only [Prog.lift, Prog.bind_op, Prog.bind_ret, Prog.pure_eq_ret]
  iintro H Hk
  iapply (o_next m ρ K c 44 14 (by decide) (copy_sem 0 rfl)) $$ H
  iintro H
  iapply (o_prod m ρ K c 44 16 (by decide) rfl (off40_eq' c 1).1 rfl rfl rfl (off40_eq' c 1).2 (copy_sem 0 rfl) rfl) $$ H
  iintro H
  iapply (o_ret m ρ K c 44 _ _) $$ H
  iexact Hk

theorem part28 (v₁ v₂ : BitVec 32) {Q : _ → sProp 𝕄} :
    All m ρ K c 44 (Aft m ρ c 16) ⊢ iprop((∀ r, All m ρ K c 46 (Put m ρ c 17) -∗ Q r) -∗ wpC (F := F) c (k0_part28 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂) Q) := by
  rw [k0_part28_eq_skeleton]
  unfold k0_part28_skel
  simp only [Prog.lift, Prog.bind_op, Prog.bind_ret, Prog.pure_eq_ret]
  iintro H Hk
  iapply (recv8 m ρ K c _ 2 44 rfl (precv_p_sem 6 rfl)) $$ H
  iintro H
  iapply (recv16 m ρ K c _ 2 45 rfl (precv_m_sem 6 rfl)) $$ H
  iintro H
  iapply (o_next m ρ K c 46 15 (by decide) (copy_sem 1 rfl)) $$ H
  iintro H
  iapply (o_read m ρ K c _ 46 17 (by decide) rfl (off40_eq' c 2).1 rfl) $$ H
  iintro H
  iapply (o_store m ρ K c 46 17 rfl rfl) $$ H
  iintro H
  iapply (o_ret m ρ K c 46 _ _) $$ H
  iexact Hk

theorem part29 (v₁ v₂ v₃ : BitVec 32) {Q : _ → sProp 𝕄} :
    All m ρ K c 46 (Put m ρ c 17) ⊢ iprop((∀ r, All m ρ K c 47 (Aft m ρ c 17) -∗ Q r) -∗ wpC (F := F) c (k0_part29 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃) Q) := by
  rw [k0_part29_eq_skeleton]
  unfold k0_part29_skel
  simp only [Prog.lift, Prog.bind_op, Prog.bind_ret, Prog.pure_eq_ret]
  iintro H Hk
  iapply (o_copy m ρ K c 46 17 (by decide) rfl (off40_eq' c 2).2 (copy_sem 1 rfl)) $$ H
  iintro H
  iapply (recv8 m ρ K c _ 3 46 rfl (precv_p_sem 7 rfl)) $$ H
  iintro H
  iapply (o_ret m ρ K c 47 _ _) $$ H
  iexact Hk

end parts

end Cert.Exchange

end
-- ==== Proof.Last.lean ====
/-
# The last waits

What the program does from the last half block on: the last product, and the waits for its own
transfers.
-/
module

public import proofs.«01_k».proof.Proof.Run

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section parts
variable (K : Dev nD × KI → ℕ) (c : Dev nD)

/-- The wait for a transfer within the column, and its absence. -/
theorem wz (X : sProp 𝕄) (i : Fin 4) (n n' : ℕ) (hn : n = 48 + i.val) (hn' : n' = n + 1) (hz : (⟨i.val, by omega⟩ : Fin 20) ≠ zi c) {q : DmaSem sig} (hq : q = sS ⟨i.val, by omega⟩) {off h}
    {hsrc : (blkM off h).view.WordExact} {hdst : (blkM off h).view.WordExact} {α : Type} {Q : α → sProp 𝕄} {k : PUnit → Prog (TpuEff nD τ sig (Elt F) Λ₀ .tc) α} :
    All m ρ K c n X ⊢ iprop((All m ρ K c n' X -∗ wpC c (k ⟨⟩) Q) -∗ wpC c (.op (.waitDma2 q (blkM off h) (blkM off h) hsrc hdst) k) Q) := by
  subst hn'
  exact o_done m ρ K c X _ hz n (hn.trans (z_facts c i).2.2.2.2.symm) (small_whole _ (by show i.val < 4; omega)) hq
theorem wz_skip (X : sProp 𝕄) (i : Fin 4) (n n' : ℕ) (hn : n = 48 + i.val) (hn' : n' = n + 1) (hz : ¬ (⟨i.val, by omega⟩ : Fin 20) ≠ zi c) :
    All m ρ K c n X ⊢ All m ρ K c n' X := by
  subst hn'
  refine All_skip m ρ K c n X (no_send_above c (by omega)) (no_recv_above c (by omega)) fun j hj h => hz fun e => ?_
  exact hj (posW_inj j ⟨i.val, by omega⟩ (h.trans (hn.trans (z_facts c i).2.2.2.2.symm)) ▸ e)
theorem w4 (X : sProp 𝕄) (i : Fin 4) (n n' : ℕ) (hn : n = 52 + 2 * i.val) (hn' : n' = n + 1) {q : DmaSem sig} (hq : q = sS ⟨4 + i.val, by omega⟩) {off h}
    {hsrc : (blkM off h).view.WordExact} {hdst : (blkM off h).view.WordExact} {α : Type} {Q : α → sProp 𝕄} {k : PUnit → Prog (TpuEff nD τ sig (Elt F) Λ₀ .tc) α} :
    All m ρ K c n X ⊢ iprop((All m ρ K c n' X -∗ wpC c (k ⟨⟩) Q) -∗ wpC c (.op (.waitDma2 q (blkM off h) (blkM off h) hsrc hdst) k) Q) := by
  subst hn'
  exact o_done m ρ K c X _ (ne_zi c _ (by show 4 ≤ 4 + i.val; omega)) n (hn.trans (w_facts i).1.symm) (h_facts i).1 hq
theorem w12 (X : sProp 𝕄) (i : Fin 4) (n n' : ℕ) (hn : n = 53 + 2 * i.val) (hn' : n' = n + 1) {q : DmaSem sig} (hq : q = sS ⟨12 + i.val, by omega⟩) {off h}
    {hsrc : (blkM off h).view.WordExact} {hdst : (blkM off h).view.WordExact} {α : Type} {Q : α → sProp 𝕄} {k : PUnit → Prog (TpuEff nD τ sig (Elt F) Λ₀ .tc) α} :
    All m ρ K c n X ⊢ iprop((All m ρ K c n' X -∗ wpC c (k ⟨⟩) Q) -∗ wpC c (.op (.waitDma2 q (blkM off h) (blkM off h) hsrc hdst) k) Q) := by
  subst hn'
  exact o_done m ρ K c X _ (ne_zi c _ (by show 4 ≤ 12 + i.val; omega)) n (hn.trans (w_facts i).2.1.symm) (h_facts i).2.1 hq
theorem w8 (X : sProp 𝕄) (i : Fin 4) (n n' : ℕ) (hn : n = 60 + 2 * i.val) (hn' : n' = n + 1) {q : DmaSem sig} (hq : q = sS ⟨8 + i.val, by omega⟩) {off h}
    {hsrc : (halfM off h).view.WordExact} {hdst : (halfM off h).view.WordExact} {α : Type} {Q : α → sProp 𝕄} {k : PUnit → Prog (TpuEff nD τ sig (Elt F) Λ₀ .tc) α} :
    All m ρ K c n X ⊢ iprop((All m ρ K c n' X -∗ wpC c (k ⟨⟩) Q) -∗ wpC c (.op (.waitDma2 q (halfM off h) (halfM off h) hsrc hdst) k) Q) := by
  subst hn'
  exact o_doneH m ρ K c X _ (ne_zi c _ (by show 4 ≤ 8 + i.val; omega)) n (hn.trans (w_facts i).2.2.1.symm) (h_facts i).2.2.1 hq
theorem w16 (X : sProp 𝕄) (i : Fin 4) (n n' : ℕ) (hn : n = 61 + 2 * i.val) (hn' : n' = n + 1) {q : DmaSem sig} (hq : q = sS ⟨16 + i.val, by omega⟩) {off h}
    {hsrc : (halfM off h).view.WordExact} {hdst : (halfM off h).view.WordExact} {α : Type} {Q : α → sProp 𝕄} {k : PUnit → Prog (TpuEff nD τ sig (Elt F) Λ₀ .tc) α} :
    All m ρ K c n X ⊢ iprop((All m ρ K c n' X -∗ wpC c (k ⟨⟩) Q) -∗ wpC c (.op (.waitDma2 q (halfM off h) (halfM off h) hsrc hdst) k) Q) := by
  subst hn'
  exact o_doneH m ρ K c X _ (ne_zi c _ (by show 4 ≤ 16 + i.val; omega)) n (hn.trans (w_facts i).2.2.2.symm) (h_facts i).2.2.2.1 hq

theorem part30 (v₁ v₂ v₃ : BitVec 32) {p : Prog (TpuEff nD τ sig (Elt F) Λ₀ .tc) _}
    (hp : k0_part30 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ v₃ = p) {Q : _ → sProp 𝕄} :
    All m ρ K c 47 (Aft m ρ c 17) ⊢ iprop((∀ r, All m ρ K c 49 (Aft m ρ c 18) -∗ Q r) -∗ wpC (F := F) c p Q) := by
  rw [k0_part30_eq_skeleton] at hp
  unfold k0_part30_skel at hp
  simp only [Prog.lift, Prog.bind_op, Prog.bind_ret, Prog.pure_eq_ret] at hp
  all_goals by_cases h15 : k0_cond15 c = 1#1
  all_goals first | simp only [dif_pos h15] at hp | simp only [dif_neg h15] at hp
  all_goals
    subst hp
    iintro H Hk
    iapply (recv16 m ρ K c _ 3 47 rfl (precv_m_sem 7 rfl)) $$ H
    iintro H
    iapply (o_next m ρ K c 48 16 (by decide) (copy_sem 0 rfl)) $$ H
    iintro H
    iapply (o_prod m ρ K c 48 18 (by decide) rfl (off40_eq' c 3).1 rfl rfl rfl (off40_eq' c 3).2 (copy_sem 0 rfl) rfl) $$ H
    iintro H
    first
      | ihave H := (wz_skip m ρ K c _ 0 48 49 rfl rfl fun hf => h15 ((cond15_iff c).mpr hf)) $$ H
      | (iapply (wz m ρ K c _ 0 48 49 rfl rfl ((cond15_iff c).mp h15) (zsend_sem 0 rfl)) $$ H
         iintro H)
    iapply (o_ret m ρ K c 49 _ _) $$ H
    iexact Hk

theorem part31 (X : sProp 𝕄) (v₁ v₂ : BitVec 32) {p : Prog (TpuEff nD τ sig (Elt F) Λ₀ .tc) _}
    (hp : k0_part31 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ v₂ = p) {Q : _ → sProp 𝕄} :
    All m ρ K c 49 X ⊢ iprop((∀ r, All m ρ K c 55 X -∗ Q r) -∗ wpC (F := F) c p Q) := by
  rw [k0_part31_eq_skeleton] at hp
  unfold k0_part31_skel at hp
  simp only [Prog.lift, Prog.bind_op, Prog.bind_ret, Prog.pure_eq_ret] at hp
  all_goals by_cases h16 : k0_cond16 c = 1#1
  all_goals first | simp only [dif_pos h16] at hp | simp only [dif_neg h16] at hp
  all_goals by_cases h17 : k0_cond17 c = 1#1
  all_goals first | simp only [dif_pos h17] at hp | simp only [dif_neg h17] at hp
  all_goals by_cases h18 : k0_cond18 c = 1#1
  all_goals first | simp only [dif_pos h18] at hp | simp only [dif_neg h18] at hp
  all_goals
    subst hp
    iintro H Hk
    first
      | ihave H := (wz_skip m ρ K c _ 1 49 50 rfl rfl fun hf => h16 ((cond16_iff c).mpr hf)) $$ H
      | (iapply (wz m ρ K c _ 1 49 50 rfl rfl ((cond16_iff c).mp h16) (zsend_sem 1 rfl)) $$ H
         iintro H)
    first
      | ihave H := (wz_skip m ρ K c _ 2 50 51 rfl rfl fun hf => h17 ((cond17_iff c).mpr hf)) $$ H
      | (iapply (wz m ρ K c _ 2 50 51 rfl rfl ((cond17_iff c).mp h17) (zsend_sem 2 rfl)) $$ H
         iintro H)
    first
      | ihave H := (wz_skip m ρ K c _ 3 51 52 rfl rfl fun hf => h18 ((cond18_iff c).mpr hf)) $$ H
      | (iapply (wz m ρ K c _ 3 51 52 rfl rfl ((cond18_iff c).mp h18) (zsend_sem 3 rfl)) $$ H
         iintro H)
    iapply (w4 m ρ K c _ 0 52 53 rfl rfl (psend_p_sem 0 rfl)) $$ H
    iintro H
    iapply (w12 m ρ K c _ 0 53 54 rfl rfl (psend_m_sem 0 rfl)) $$ H
    iintro H
    iapply (w4 m ρ K c _ 1 54 55 rfl rfl (psend_p_sem 1 rfl)) $$ H
    iintro H
    iapply (o_ret m ρ K c 55 _ _) $$ H
    iexact Hk

theorem part32 (X : sProp 𝕄) {p : Prog (TpuEff nD τ sig (Elt F) Λ₀ .tc) _}
    (hp : k0_part32 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c  = p) {Q : _ → sProp 𝕄} :
    All m ρ K c 55 X ⊢ iprop((∀ r, All m ρ K c 59 X -∗ Q r) -∗ wpC (F := F) c p Q) := by
  rw [k0_part32_eq_skeleton] at hp
  unfold k0_part32_skel at hp
  simp only [Prog.lift, Prog.bind_op, Prog.bind_ret, Prog.pure_eq_ret] at hp
  subst hp
  iintro H Hk
  iapply (w12 m ρ K c _ 1 55 56 rfl rfl (psend_m_sem 1 rfl)) $$ H
  iintro H
  iapply (w4 m ρ K c _ 2 56 57 rfl rfl (psend_p_sem 2 rfl)) $$ H
  iintro H
  iapply (w12 m ρ K c _ 2 57 58 rfl rfl (psend_m_sem 2 rfl)) $$ H
  iintro H
  iapply (w4 m ρ K c _ 3 58 59 rfl rfl (psend_p_sem 3 rfl)) $$ H
  iintro H
  iapply (o_ret m ρ K c 59 _ _) $$ H
  iexact Hk

theorem part33 (X : sProp 𝕄) {p : Prog (TpuEff nD τ sig (Elt F) Λ₀ .tc) _}
    (hp : k0_part33 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c  = p) {Q : _ → sProp 𝕄} :
    All m ρ K c 59 X ⊢ iprop((∀ r, All m ρ K c 63 X -∗ Q r) -∗ wpC (F := F) c p Q) := by
  rw [k0_part33_eq_skeleton] at hp
  unfold k0_part33_skel at hp
  simp only [Prog.lift, Prog.bind_op, Prog.bind_ret, Prog.pure_eq_ret] at hp
  subst hp
  iintro H Hk
  iapply (w12 m ρ K c _ 3 59 60 rfl rfl (psend_m_sem 3 rfl)) $$ H
  iintro H
  iapply (w8 m ρ K c _ 0 60 61 rfl rfl (psend_p_sem 4 rfl)) $$ H
  iintro H
  iapply (w16 m ρ K c _ 0 61 62 rfl rfl (psend_m_sem 4 rfl)) $$ H
  iintro H
  iapply (w8 m ρ K c _ 1 62 63 rfl rfl (psend_p_sem 5 rfl)) $$ H
  iintro H
  iapply (o_ret m ρ K c 63 _ _) $$ H
  iexact Hk

theorem part34 (X : sProp 𝕄) (v₁ : BitVec 32) {p : Prog (TpuEff nD τ sig (Elt F) Λ₀ .tc) _}
    (hp : k0_part34 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 c v₁ = p) {Q : _ → sProp 𝕄} :
    All m ρ K c 63 X ⊢ iprop((∀ r, All m ρ K c 68 X -∗ Q r) -∗ wpC (F := F) c p Q) := by
  rw [k0_part34_eq_skeleton] at hp
  unfold k0_part34_skel at hp
  simp only [Prog.lift, Prog.bind_op, Prog.bind_ret, Prog.pure_eq_ret] at hp
  subst hp
  iintro H Hk
  iapply (w16 m ρ K c _ 1 63 64 rfl rfl (psend_m_sem 5 rfl)) $$ H
  iintro H
  iapply (w8 m ρ K c _ 2 64 65 rfl rfl (psend_p_sem 6 rfl)) $$ H
  iintro H
  iapply (w16 m ρ K c _ 2 65 66 rfl rfl (psend_m_sem 6 rfl)) $$ H
  iintro H
  iapply (w8 m ρ K c _ 3 66 67 rfl rfl (psend_p_sem 7 rfl)) $$ H
  iintro H
  iapply (w16 m ρ K c _ 3 67 68 rfl rfl (psend_m_sem 7 rfl)) $$ H
  iintro H
  iapply (o_ret m ρ K c 68 _ _) $$ H
  iexact Hk

end parts

end Cert.Exchange

end
-- ==== Proof.Body.lean ====
/-
# The program of one device

The parts put together.
-/
module

public import proofs.«01_k».proof.Proof.Start
public import proofs.«01_k».proof.Proof.Forward
public import proofs.«01_k».proof.Proof.Middle
public import proofs.«01_k».proof.Proof.Last

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One part after another -/

/-- A part whose result is one of `f`'s values. -/
theorem seqF (c : Dev nD) {ι α β : Type} {A B R : sProp 𝕄} {p : Prog (TpuEff nD τ sig (Elt F) Λ₀ .tc) α} {k : α → Prog (TpuEff nD τ sig (Elt F) Λ₀ .tc) β} {P : Prog (TpuEff nD τ sig (Elt F) Λ₀ .tc) β} (hp : (p >>= k) = P) {Q : β → sProp 𝕄}
    (f : ι → α) (h : ∀ Q' : α → sProp 𝕄, A ⊢ iprop((∀ i, B -∗ Q' (f i)) -∗ wpC c p Q')) (h' : ∀ i P', k (f i) = P' → (B ⊢ iprop(R -∗ wpC c P' Q))) : A ⊢ iprop(R -∗ wpC c P Q) := by
  subst hp
  unfold wpC
  rw [wp_bind]
  iintro HA HR
  iapply (h _) $$ HA
  iintro %i HB
  iapply (h' i _ rfl) $$ HB
  iexact HR
theorem seq (c : Dev nD) {α β : Type} {A B R : sProp 𝕄} {p : Prog (TpuEff nD τ sig (Elt F) Λ₀ .tc) α} {k : α → Prog (TpuEff nD τ sig (Elt F) Λ₀ .tc) β} {P : Prog (TpuEff nD τ sig (Elt F) Λ₀ .tc) β} (hp : (p >>= k) = P) {Q : β → sProp 𝕄}
    (h : ∀ Q' : α → sProp 𝕄, A ⊢ iprop((∀ i, B -∗ Q' i) -∗ wpC c p Q')) (h' : ∀ i P', k i = P' → (B ⊢ iprop(R -∗ wpC c P' Q))) : A ⊢ iprop(R -∗ wpC c P Q) :=
  seqF c hp (fun i => i) h h'
theorem seqA (c : Dev nD) {α β : Type} {A B R : sProp 𝕄} {p : Prog (TpuEff nD τ sig (Elt F) Λ₀ .tc) α} {k : α → Prog (TpuEff nD τ sig (Elt F) Λ₀ .tc) β} {P : Prog (TpuEff nD τ sig (Elt F) Λ₀ .tc) β} (hp : (p >>= k) = P) {Q : β → sProp 𝕄}
    (a : α) (h : ∀ Q' : α → sProp 𝕄, A ⊢ iprop((B -∗ Q' a) -∗ wpC c p Q')) (h' : ∀ P', k a = P' → (B ⊢ iprop(R -∗ wpC c P' Q))) : A ⊢ iprop(R -∗ wpC c P Q) := by
  subst hp
  unfold wpC
  rw [wp_bind]
  iintro HA HR
  iapply (h _) $$ HA
  iintro HB
  iapply (h' _ rfl) $$ HB
  iexact HR
/-- A part after which something is set aside. -/
theorem seqE (c : Dev nD) {α β : Type} {A B E B' : sProp 𝕄} {p : Prog (TpuEff nD τ sig (Elt F) Λ₀ .tc) α} {k : α → Prog (TpuEff nD τ sig (Elt F) Λ₀ .tc) β} {P : Prog (TpuEff nD τ sig (Elt F) Λ₀ .tc) β} (hp : (p >>= k) = P) {Q : β → sProp 𝕄}
    (h : ∀ Q' : α → sProp 𝕄, A ⊢ iprop((∀ i, B -∗ E -∗ Q' i) -∗ wpC c p Q')) (h' : ∀ i (Q : β → sProp 𝕄) P', k i = P' → (B ⊢ iprop((∀ b, B' -∗ Q b) -∗ wpC c P' Q))) :
    A ⊢ iprop((∀ b, (B' ∗ E) -∗ Q b) -∗ wpC c P Q) := by
  subst hp
  unfold wpC
  rw [wp_bind]
  iintro HA HR
  iapply (h _) $$ HA
  iintro %i HB HE
  iapply (h' i _ _ rfl) $$ HB
  iintro %b HB
  iapply HR
  isplitl [HB]; · iexact HB
  iexact HE

section body
variable (K : Dev nD × KI → ℕ) (c : Dev nD)

/-- Every copy landed. -/
def Out : sProp 𝕄 := iprop(bigSep Finset.univ (outP m ρ c 19) ∗ (slotP (F := F) c 0 ∗ semVal ((c : Thread nD τ), SemLoc.dma (cS 0)) 0) ∗ (slotP (F := F) c 1 ∗ semVal ((c : Thread nD τ), SemLoc.dma (cS 1)) 0))

theorem last_og : ∀ c : Dev nD, og c 17 ∈ Finset.univ.erase (og c 18) := by decide +kernel

/-- The last two copies are waited for. -/
theorem last_copies {q₁ q₂ : DmaSem sig} (h₁ : q₁ = cS 0) (h₂ : q₂ = cS 1) {soff hs off h soff' hs' off' h'}
    {hsrc : (slotM soff hs).view.WordExact} {hdst : (outM off h).view.WordExact} {hsrc' : (slotM soff' hs').view.WordExact} {hdst' : (outM off' h').view.WordExact} {Q : PUnit → sProp 𝕄} :
    All m ρ K c 68 (Aft m ρ c 18) ⊢ iprop((∀ b, All m ρ K c 68 (Out m ρ c) -∗ Q b)
      -∗ wpC c (.op (.waitDma2 q₁ (slotM soff hs) (outM off h) hsrc hdst) fun _ => .op (.waitDma2 q₂ (slotM soff' hs') (outM off' h') hsrc' hdst') fun _ => .ret ⟨⟩) Q) := by
  rw [show Aft m ρ c 18 = _ from Aft_fly m ρ (k := 17) (fun h => absurd h.1 (by decide))]
  unfold All Out
  rw [← Finset.insert_erase (Finset.mem_univ (og c 18)), ← Finset.insert_erase (last_og c), sep_ins (by rw [Finset.insert_erase (last_og c)]; exact Finset.notMem_erase _ _), sep_ins (Finset.notMem_erase _ _),
    Finset.insert_erase (last_og c), Finset.insert_erase (Finset.mem_univ (og c 18))]
  iintro ⟨#HR, HS, HW, H0, H1, HP⟩ Hk
  ihave HS := (St_owing m ρ c 68) $$ HS
  icases HS with ⟨HO, HS⟩
  iapply (op_land m ρ K c 68 0 (og c 18) h₁ (out_credit off h)) $$ [HO H0]
  · isplitr; · iexact HR
    isplitl [HO]; · iexact HO
    iexact H0
  iintro ⟨HO, Hr, Hs, Hv⟩
  iapply (op_land m ρ K c 68 1 (og c 17) h₂ (out_credit off' h')) $$ [HO H1]
  · isplitr; · iexact HR
    isplitl [HO]; · iexact HO
    iexact H1
  iintro ⟨HO, Hr', Hs', Hv'⟩
  unfold wpC
  rw [wp_ret]
  imodintro
  iapply Hk
  isplitr; · iexact HR
  isplitl [HO HS]; · iapply HS $$ HO
  isplitl [HW]; · iexact HW
  isplitl [Hr Hr' HP]
  · isplitl [Hr]; · iapply (rowsV_outP m ρ c _ _) $$ Hr
    isplitl [Hr']; · iapply (rowsV_outP m ρ c _ _) $$ Hr'
    iexact HP
  isplitl [Hs Hv]
  · isplitl [Hs]; · iexact Hs
    iexact Hv
  isplitl [Hs']; · iexact Hs'
  iexact Hv'

theorem part1 (X : sProp 𝕄) {p : Prog (TpuEff nD τ sig (Elt F) Λ₀ .tc) _}
    (hp : k0_part1 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p) {Q : _ → sProp 𝕄} :
    X ⊢ iprop((∀ i : BitVec 32 × BitVec 32 × BitVec 32 × BitVec 32 × BitVec 32 × BitVec 32 × BitVec 1 × BitVec 1, X -∗ Q ⟨c, i.1, i.2.1, i.2.2.1, i.2.2.2.1, i.2.2.2.2.1, i.2.2.2.2.2.1, i.2.2.2.2.2.2.1, i.2.2.2.2.2.2.2⟩) -∗ wpC (F := F) c p Q) := by
  rw [k0_part1_eq_skeleton] at hp
  unfold k0_part1_skel at hp
  simp only [Prog.lift, Prog.bind_op, Prog.bind_ret, Prog.pure_eq_ret] at hp
  subst hp
  unfold wpC
  iintro H Hk
  rw [wp_deviceId, wp_ret]
  imodintro
  iapply Hk $$ %(_, _, _, _, _, _, _, _) H

/-- The whole program of one device. -/
theorem whole {p : Prog (TpuEff nD τ sig (Elt F) Λ₀ .tc) _} (hp : cc0_body (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p) {Q : _ → sProp 𝕄} :
    T m ρ K c 0 iprop(barR (F := F) c ∗ Bag m ρ c)
      ⊢ iprop((∀ b, iprop(All m ρ K c 68 (Out m ρ c) ∗ (doneC m ρ (barCell c) ∗ aPts m ρ c ∗ bPts m ρ c)) -∗ Q b) -∗ wpC (F := F) c p Q) := by
  rw [cc0_body_eq_skeleton] at hp
  unfold cc0_body_skel at hp
  have h1 := fun (X : sProp 𝕄) Q => part1 c X rfl (Q := Q)
  have h2 := fun Y v0 v1 v2 v3 v4 v5 v6 Q => part2 m ρ K c Y v0 v1 v2 v3 v4 v5 v6 rfl (Q := Q)
  have h3 := fun v0 v1 v2 v3 v4 Q => part3 m ρ K c v0 v1 v2 v3 v4 rfl (Q := Q)
  have h4 := fun v0 v1 v2 Q => part4 m ρ K c v0 v1 v2 rfl (Q := Q)
  have h5 := fun v0 v1 v2 v3 v4 Q => part5 m ρ K c v0 v1 v2 v3 v4 rfl (Q := Q)
  have h6 := fun v0 v1 v2 v3 v4 v5 v6 Q => part6 m ρ K c v0 v1 v2 v3 v4 v5 v6 rfl (Q := Q)
  have h7 := fun v0 v1 v2 v3 v4 v5 Q => part7 m ρ K c v0 v1 v2 v3 v4 v5 rfl (Q := Q)
  have h8 := fun v0 v1 v2 v3 v4 v5 v6 v7 Q => part8 m ρ K c v0 v1 v2 v3 v4 v5 v6 v7 rfl (Q := Q)
  have h9 := fun v0 v1 v2 v3 v4 v5 Q => part9 m ρ K c v0 v1 v2 v3 v4 v5 rfl (Q := Q)
  have h10 := fun v0 v1 v2 v3 v4 v5 Q => part10 m ρ K c v0 v1 v2 v3 v4 v5 rfl (Q := Q)
  have h11 := fun v0 v1 v2 v3 v4 Q => part11 m ρ K c v0 v1 v2 v3 v4 (Q := Q)
  have h12 := fun v0 Q => part12 m ρ K c v0 (Q := Q)
  have h13 := fun v0 v1 v2 v3 Q => part13 m ρ K c v0 v1 v2 v3 (Q := Q)
  have h14 := fun v0 v1 Q => part14 m ρ K c v0 v1 (Q := Q)
  have h15 := fun v0 v1 v2 v3 Q => part15 m ρ K c v0 v1 v2 v3 (Q := Q)
  have h16 := fun v0 v1 v2 v3 Q => part16 m ρ K c v0 v1 v2 v3 (Q := Q)
  have h17 := fun v0 v1 Q => part17 m ρ K c v0 v1 (Q := Q)
  have h18 := fun v0 v1 v2 v3 v4 Q => part18 m ρ K c v0 v1 v2 v3 v4 (Q := Q)
  have h19 := fun v0 v1 v2 Q => part19 m ρ K c v0 v1 v2 (Q := Q)
  have h20 := fun v0 v1 Q => part20 m ρ K c v0 v1 (Q := Q)
  have h21 := fun v0 v1 v2 v3 v4 Q => part21 m ρ K c v0 v1 v2 v3 v4 (Q := Q)
  have h22 := fun v0 Q => part22 m ρ K c v0 (Q := Q)
  have h23 := fun v0 v1 v2 v3 Q => part23 m ρ K c v0 v1 v2 v3 (Q := Q)
  have h24 := fun v0 v1 v2 v3 Q => part24 m ρ K c v0 v1 v2 v3 (Q := Q)
  have h25 := fun v0 v1 Q => part25 m ρ K c v0 v1 (Q := Q)
  have h26 := fun v0 v1 v2 v3 v4 Q => part26 m ρ K c v0 v1 v2 v3 v4 (Q := Q)
  have h27 := fun v0 v1 v2 Q => part27 m ρ K c v0 v1 v2 (Q := Q)
  have h28 := fun v0 v1 Q => part28 m ρ K c v0 v1 (Q := Q)
  have h29 := fun v0 v1 v2 Q => part29 m ρ K c v0 v1 v2 (Q := Q)
  have h30 := fun v0 v1 v2 Q => part30 m ρ K c v0 v1 v2 rfl (Q := Q)
  have h31 := fun X v0 v1 Q => part31 m ρ K c X v0 v1 rfl (Q := Q)
  have h32 := fun X Q => part32 m ρ K c X rfl (Q := Q)
  have h33 := fun X Q => part33 m ρ K c X rfl (Q := Q)
  have h34 := fun X v0 Q => part34 m ρ K c X v0 rfl (Q := Q)
  generalize k0_part1 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p1 at h1 hp
  generalize k0_part2 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p2 at h2 hp
  generalize k0_part3 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p3 at h3 hp
  generalize k0_part4 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p4 at h4 hp
  generalize k0_part5 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p5 at h5 hp
  generalize k0_part6 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p6 at h6 hp
  generalize k0_part7 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p7 at h7 hp
  generalize k0_part8 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p8 at h8 hp
  generalize k0_part9 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p9 at h9 hp
  generalize k0_part10 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p10 at h10 hp
  generalize k0_part11 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p11 at h11 hp
  generalize k0_part12 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p12 at h12 hp
  generalize k0_part13 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p13 at h13 hp
  generalize k0_part14 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p14 at h14 hp
  generalize k0_part15 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p15 at h15 hp
  generalize k0_part16 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p16 at h16 hp
  generalize k0_part17 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p17 at h17 hp
  generalize k0_part18 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p18 at h18 hp
  generalize k0_part19 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p19 at h19 hp
  generalize k0_part20 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p20 at h20 hp
  generalize k0_part21 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p21 at h21 hp
  generalize k0_part22 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p22 at h22 hp
  generalize k0_part23 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p23 at h23 hp
  generalize k0_part24 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p24 at h24 hp
  generalize k0_part25 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p25 at h25 hp
  generalize k0_part26 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p26 at h26 hp
  generalize k0_part27 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p27 at h27 hp
  generalize k0_part28 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p28 at h28 hp
  generalize k0_part29 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p29 at h29 hp
  generalize k0_part30 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p30 at h30 hp
  generalize k0_part31 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p31 at h31 hp
  generalize k0_part32 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p32 at h32 hp
  generalize k0_part33 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p33 at h33 hp
  generalize k0_part34 (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p34 at h34 hp
  simp only [Prog.lift, Prog.bind_op, Prog.bind_ret, Prog.pure_eq_ret] at hp
  refine seqF c hp _ (fun Q' => h1 _ _) fun i1 P hp => ?_
  dsimp only at hp
  refine seqF c hp _ (fun Q' => h2 _ _ _ _ _ _ _ _ _) fun i2 P hp => ?_
  dsimp only at hp
  refine seqE c hp (fun Q' => h3 _ _ _ _ _ _) fun r3 Q' P hp => ?_
  refine seq c hp (fun Q' => h4 _ _ _ _) fun r4 P hp => ?_
  refine seq c hp (fun Q' => h5 _ _ _ _ _ _) fun r5 P hp => ?_
  refine seq c hp (fun Q' => h6 _ _ _ _ _ _ _ _) fun r6 P hp => ?_
  refine seq c hp (fun Q' => h7 _ _ _ _ _ _ _) fun r7 P hp => ?_
  refine seq c hp (fun Q' => h8 _ _ _ _ _ _ _ _ _) fun r8 P hp => ?_
  refine seq c hp (fun Q' => h9 _ _ _ _ _ _ _) fun r9 P hp => ?_
  refine seq c hp (fun Q' => h10 _ _ _ _ _ _ _) fun r10 P hp => ?_
  refine seq c hp (fun Q' => h11 _ _ _ _ _ _) fun r11 P hp => ?_
  refine seq c hp (fun Q' => h12 _ _) fun r12 P hp => ?_
  refine seqA c hp _ (fun Q' => h13 _ _ _ _ _) fun P hp => ?_
  refine seq c hp (fun Q' => h14 _ _ _) fun r14 P hp => ?_
  refine seqA c hp _ (fun Q' => h15 _ _ _ _ _) fun P hp => ?_
  refine seq c hp (fun Q' => h16 _ _ _ _ _) fun r16 P hp => ?_
  refine seq c hp (fun Q' => h17 _ _ _) fun r17 P hp => ?_
  refine seq c hp (fun Q' => h18 _ _ _ _ _ _) fun r18 P hp => ?_
  refine seq c hp (fun Q' => h19 _ _ _ _) fun r19 P hp => ?_
  refine seq c hp (fun Q' => h20 _ _ _) fun r20 P hp => ?_
  refine seq c hp (fun Q' => h21 _ _ _ _ _ _) fun r21 P hp => ?_
  refine seq c hp (fun Q' => h22 _ _) fun r22 P hp => ?_
  refine seqA c hp _ (fun Q' => h23 _ _ _ _ _) fun P hp => ?_
  refine seq c hp (fun Q' => h24 _ _ _ _ _) fun r24 P hp => ?_
  refine seq c hp (fun Q' => h25 _ _ _) fun r25 P hp => ?_
  refine seq c hp (fun Q' => h26 _ _ _ _ _ _) fun r26 P hp => ?_
  refine seq c hp (fun Q' => h27 _ _ _ _) fun r27 P hp => ?_
  refine seq c hp (fun Q' => h28 _ _ _) fun r28 P hp => ?_
  refine seq c hp (fun Q' => h29 _ _ _ _) fun r29 P hp => ?_
  refine seq c hp (fun Q' => h30 _ _ _ _) fun r30 P hp => ?_
  refine seq c hp (fun Q' => h31 _ _ _ _) fun r31 P hp => ?_
  refine seq c hp (fun Q' => h32 _ _) fun r32 P hp => ?_
  refine seq c hp (fun Q' => h33 _ _) fun r33 P hp => ?_
  refine seq c hp (fun Q' => h34 _ _ _) fun r34 P hp => ?_
  subst hp
  exact last_copies m ρ K c (copy_sem 0 rfl) (copy_sem 1 rfl)

end body

end Cert.Exchange

end
-- ==== Proof.Exit.lean ====
/-
# Entering and leaving the program

What the launch deals a device, arranged for its program; what the program leaves, arranged for the launch.
-/
module

public import proofs.«01_k».proof.Proof.Body

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section ends
variable (K : Dev nD × KI → ℕ) (c : Dev nD)

/-! ## Leaving -/

/-- A cell that is done with gives its semaphore back, at zero. -/
theorem shut (x : Dev nD × KI) : iprop(recs m ρ K ∗ doneC m ρ (cellAt x)) ⊢ |={Set.univ}=> semVal (cellAt x) 0 := by
  unfold doneC
  iintro ⟨#HR, %R, %hR, HA⟩
  iapply (Rounds.cell_close ER (Rd m ρ) (Set.mem_univ (K x)) (fun h => h) (R := R) hR)
  isplitr
  · iapply (recs_inv m ρ K x) $$ HR
  iexact HA

theorem shut_all {I : Type} [Fintype I] [DecidableEq I] (g : I → Dev nD × KI) :
    iprop(recs m ρ K ∗ bigSep Finset.univ (fun i => doneC m ρ (cellAt (g i)))) ⊢ |={Set.univ}=> bigSep Finset.univ (fun i => (semVal (cellAt (g i)) 0 : sProp 𝕄)) :=
  (BIBase.Entails.trans (sep_mono_left (BI.bigSep_of_persistent Finset.univ (recs m ρ K))) (BIBase.Entails.trans sep_all_join (sep_all_mono fun i _ => shut m ρ K (g i)))).trans (bigSep_fupd _ _)

theorem slots_end : iprop(slotP (F := F) c 0 ∗ slotP (F := F) c 1) ⊢ iprop(∃ f, sL c ↦{fullShare} f) := by
  have e : slot 0 ∪ slot 1 = Finset.univ := by
    ext i; rw [Finset.mem_union, mem_slot, mem_slot]
    refine ⟨fun _ => Finset.mem_univ _, fun _ => ?_⟩
    have : (i 0).val < 2 := (i 0).isLt
    show (i 0).val = 0 ∨ (i 0).val = 1
    omega
  unfold slotP
  iintro ⟨⟨%f, H⟩, %g, H'⟩
  iexists ((slot 1).piecewise g f)
  rw [← e]
  iapply (pointsTo_join (slot_disj 0 1 (by decide)))
  isplitl [H]; · iexact H
  iexact H'

/-- The semaphores of the exchange, at zero. -/
def Zs : sProp 𝕄 :=
  iprop((semVal ((c : Thread nD τ), SemLoc.dma (cS 0)) 0 ∗ semVal ((c : Thread nD τ), SemLoc.dma (cS 1)) 0)
    ∗ bigSep Finset.univ (fun j : Fin 20 => semVal (sCell c j) 0) ∗ bigSep Finset.univ (fun r : Fin 20 => semVal (rCell c r) 0) ∗ semVal (barCell c) 0)

/-- What the program leaves behind. -/
theorem leave : iprop(All m ρ K c 68 (Out m ρ c) ∗ (doneC m ρ (barCell c) ∗ aPts m ρ c ∗ bPts m ρ c))
    ⊢ |={Set.univ}=> iprop((∃ W : Waits sig Unit, owes (c : Thread nD τ) 0 W) ∗ aPts m ρ c ∗ bPts m ρ c ∗ (oL c ↦{fullShare} OV m ρ c) ∗ (cL c ↦{fullShare} CV m ρ)
        ∗ (∃ f, sL c ↦{fullShare} f) ∗ wPts m ρ c ∗ Zs (F := F) c) := by
  obtain ⟨h₁, h₂, h₃, h₄, h₅, h₆⟩ := last_sets c
  unfold All St Out owing
  rw [h₁, h₂, h₃, h₄, h₅, h₆, oweT_empty]
  iintro ⟨⟨#HR, ⟨HO, -, -, -, HBa, -, HKp, HKe⟩, HW, HP, ⟨Hs0, Hv0⟩, ⟨Hs1, Hv1⟩⟩, HB, Ha, Hb⟩
  ihave HBa := sep_all_split $$ HBa
  icases HBa with ⟨HBa, HSr⟩
  imod (shut_all m ρ K (fun j : Fin 20 => (c, Sum.inr (Sum.inl j)))) $$ [HBa] with HS
  · isplitr; · iexact HR
    iexact HBa
  imod (shut_all m ρ K (fun j : Fin 20 => (c, Sum.inr (Sum.inr j)))) $$ [HKp] with HV
  · isplitr; · iexact HR
    iexact HKp
  imod (shut m ρ K (c, Sum.inl ())) $$ [HB] with HB
  · isplitr; · iexact HR
    iexact HB
  imodintro
  isplitl [HO]; · iexact HO
  isplitl [Ha]; · iexact Ha
  isplitl [Hb]; · iexact Hb
  isplitl [HP]; · iapply (out_end m ρ c) $$ HP
  isplitl [HKe HSr]
  · iapply (regs_back m ρ c)
    isplitl [HKe]; · iexact HKe
    iexact HSr
  isplitl [Hs0 Hs1]
  · iapply (slots_end c)
    isplitl [Hs0]; · iexact Hs0
    iexact Hs1
  isplitl [HW]; · iexact HW
  unfold Zs
  isplitl [Hv0 Hv1]
  · isplitl [Hv0]; · iexact Hv0
    iexact Hv1
  isplitl [HS]; · iexact HS
  isplitl [HV]; · iexact HV
  iexact HB

/-! ## Entering -/

/-- The device's part of the exchange: its tokens and its positions. -/
def Gh : sProp 𝕄 :=
  iprop(bigSep (Finset.univ.erase (zi c)) (tok (F := F) c) ∗ (atPos ER (sCell c (zi c)) 0 ∅ 0 ∗ atPos ER (rCell c (zi c)) 0 ∅ 0)
    ∗ bigSep (Finset.univ.erase (zi c)) (fun r => atPos ER (rCell c r) 0 ∅ 0) ∗ atPos ER (barCell c) 0 ∅ 0
    ∗ bigSep (Finset.univ.erase (bz c)) (fun b => dutyTok ER (barCell (btgt c b)) 0 (bix c b)))
/-- What it may wait for. -/
def Cr : sProp 𝕄 := iprop(cred (tallyAt (barCell c) () 5) ∗ bigSep (Finset.univ.erase (zi c)) (fun r => cred (tallyAt (rCell c r) () (NN r))))
/-- Its buffers as they come. -/
def Bufs : sProp 𝕄 := iprop((∃ f, oL c ↦{fullShare} f) ∗ (∃ f, cL c ↦{fullShare} f) ∗ (∃ f, sL c ↦{fullShare} f) ∗ (∃ f, wL c ↦{fullShare} f))

theorem frees : bigSep Finset.univ (Free (F := F) c) ⊢ iprop(Free (F := F) c (zi c) ∗ bigSep (Finset.univ.erase (bz c)) fun b => bigSep (pkr c b) (Free (F := F) c)) := by
  rw [← bigSep_biUnion_eq (Finset.univ.erase (bz c)) (pkr c) _ (fun b _ b' _ h => pkr_disj c b b' h), pkr_union,
    ← sep_ins (Finset.notMem_erase (zi c) _), Finset.insert_erase (Finset.mem_univ _)]

theorem enter : iprop(recs m ρ K ∗ Gh (F := F) c ∗ Cr (F := F) c ∗ Bufs (F := F) c ∗ aPts m ρ c ∗ bPts m ρ c
      ∗ (semVal ((c : Thread nD τ), SemLoc.dma (cS 0)) 0 ∗ semVal ((c : Thread nD τ), SemLoc.dma (cS 1)) 0) ∗ (∃ W : Waits sig Unit, owes (c : Thread nD τ) (O₀ c) W))
    ⊢ T m ρ K c 0 iprop(barR (F := F) c ∗ Bag m ρ c) := by
  unfold Gh Cr Bufs T Br Bag Ini Mid barR
  rw [Sg_zero, show Rst m ρ c 0 = _ from Rst_zero m ρ c]
  iintro ⟨#HR, ⟨Htok, Hz, HA, HAb, Hd⟩, ⟨Hcb, Hcr⟩, ⟨⟨%fo, Ho⟩, ⟨%fc, Hc⟩, ⟨%fs, Hs⟩, Hw⟩, Ha, Hb, ⟨Hv0, Hv1⟩, HO⟩
  ihave Hc := (regs_free c fc) $$ Hc
  ihave Hc := (frees c) $$ Hc
  icases Hc with ⟨Hfz, Hf⟩
  ihave Hs := (slots_start c fs) $$ Hs
  icases Hs with ⟨Hs0, Hs1⟩
  isplitr; · iexact HR
  isplitl [HO Hd Hf]
  · isplitl [HO]; · iexact HO
    iapply sep_all_join
    isplitl [Hd]; · iexact Hd
    iexact Hf
  isplitl [Hcb HAb]
  · isplitl [Hcb]; · iexact Hcb
    iexact HAb
  isplitl [Htok Hz HA Hcr]
  · isplitl [Htok]; · iexact Htok
    isplitl [Hz]; · iexact Hz
    iapply sep_all_join
    isplitl [Hcr]; · iexact Hcr
    iexact HA
  isplitl [Hfz]; · iexact Hfz
  isplitl [Ha]; · iexact Ha
  isplitl [Hb]; · iexact Hb
  isplitl [Hw]; · iexact Hw
  isplitl [Hs0]; · iexact Hs0
  isplitl [Hv0]; · iexact Hv0
  isplitl [Hs1]; · iexact Hs1
  isplitl [Hv1]; · iexact Hv1
  iapply (out_start m ρ c fo) $$ Ho

end ends

end Cert.Exchange

end
-- ==== Proof.Deal.lean ====
/-
# What the launch deals

The exchange's cells and tokens, dealt to the devices that use them, and what each device may wait for.
-/
module

public import proofs.«01_k».proof.Proof.Exit

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's semaphores -/

/-- The kernel's own semaphores: the load's, the two copies', the transfers' own, the landings'. -/
abbrev OI : Type := Fin 3 ⊕ (Fin 20 ⊕ Fin 20)
def osem : OI → SemLoc sig
  | .inl i => .dma (⟨2 + i.val, by omega⟩ : Fin 45)
  | .inr (.inl j) => .dma (sS j)
  | .inr (.inr r) => .dma (rS r)

theorem osem_scoped : ∀ k : OI, (osem k).isScoped .tc = true := by decide +kernel
theorem osem_inj' : ∀ k k' : OI, osem k = osem k' → k = k' := by decide +kernel
theorem osem_disj : ∀ (k : OI) (w : Fin 2) (s : Fin (spec0 w).nbuf), osem k ≠ .dma ((spec0 w).sem s) := by decide +kernel
theorem ownSemFacts : Pipeline.OwnSemFacts spec0 osem := ⟨osem_scoped, fun k k' h => osem_inj' k k' h, osem_disj⟩

omit [FloatOps F] in
theorem fin3 (Φ : Fin 3 → sProp 𝕄) : bigSep Finset.univ Φ = iprop(Φ 0 ∗ Φ 1 ∗ Φ 2) := BI.bigSep_univ_eq_bigSepL [0, 1, 2] (by decide) (by decide) Φ

/-- The semaphores no cell is on: the load's and the two copies'. -/
def Raw (c : Dev nD) : sProp 𝕄 :=
  iprop(semVal ((c : Thread nD τ), SemLoc.dma (⟨2, by omega⟩ : Fin 45)) 0 ∗ (semVal ((c : Thread nD τ), SemLoc.dma (cS 0)) 0 ∗ semVal ((c : Thread nD τ), SemLoc.dma (cS 1)) 0))

abbrev own0 (c : Dev nD) : sProp 𝕄 := Pipeline.ownSems0 (Ix := Unit) (Name := ℕ) (U := UU) (Lvl := ℕ) (Val := Elt F) (τ := τ) osem c

omit [FloatOps F] in
theorem ownSems_eq (c : Dev nD) : own0 (F := F) c
    = iprop(Raw (F := F) c ∗ (bigSep Finset.univ (fun j : Fin 20 => semVal (sCell c j) 0) ∗ bigSep Finset.univ (fun r : Fin 20 => semVal (rCell c r) 0))) := by
  unfold own0 Pipeline.ownSems0
  rw [bigSep_univ_sum, bigSep_univ_sum, fin3]
  rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

/-! ## The exchange's cells and tokens -/

theorem locOf_inj : ∀ k k' : KI, (cellAt (0, k)).2 = (cellAt (0, k')).2 → k = k' := by decide +kernel
theorem cellAt_snd (c : Dev nD) (k : KI) : (cellAt (c, k)).2 = (cellAt (0, k)).2 := by rcases k with _ | _ | _ <;> rfl
theorem cellAt_fst (c : Dev nD) (k : KI) : (cellAt (c, k)).1 = (c : Thread nD τ) := by rcases k with _ | _ | _ <;> rfl
theorem cellAt_inj : Function.Injective cellAt := by
  rintro ⟨c, k⟩ ⟨c', k'⟩ h
  have h1 : (c : Thread nD τ) = (c' : Thread nD τ) := by rw [← cellAt_fst c k, ← cellAt_fst c' k', h]
  have hc : c = c' := congrArg Prod.fst h1
  have hk : k = k' := locOf_inj k k' (by rw [← cellAt_snd c, ← cellAt_snd c', h])
  rw [hc, hk]
def exCells : Finset (GSem nD τ sig) := Finset.univ.map ⟨cellAt, cellAt_inj⟩

/-- Which cell a token is for, and which duty. -/
def tokOf (x : Dev nD × (Fin 6 ⊕ (Fin 20 ⊕ Fin 20))) : GSem nD τ sig × ℕ × Fin 6 := match x.2 with
  | .inl b => (cellAt (x.1, .inl ()), 0, b)
  | .inr k => (cellAt (x.1, .inr k), 0, 0)
theorem tokOf_inj : Function.Injective tokOf := by
  rintro ⟨c, k⟩ ⟨c', k'⟩ h
  have h0 : (tokOf (c, k)).1 = (tokOf (c', k')).1 := congrArg Prod.fst h
  rcases k with b | k <;> rcases k' with b' | k'
  · have h1 := Prod.mk.inj (@cellAt_inj (c, .inl ()) (c', .inl ()) h0)
    have h2 : b = b' := congrArg (fun y => y.2.2) h
    exact congrArg₂ Prod.mk h1.1 (congrArg Sum.inl h2)
  · have h1 := (Prod.mk.inj (@cellAt_inj (c, .inl ()) (c', .inr k') h0)).2
    cases h1
  · have h1 := (Prod.mk.inj (@cellAt_inj (c, .inr k) (c', .inl ()) h0)).2
    cases h1
  · have h1 := Prod.mk.inj (@cellAt_inj (c, .inr k) (c', .inr k') h0)
    exact congrArg₂ Prod.mk h1.1 (congrArg Sum.inr (Sum.inr.inj h1.2))
def exToks : Finset (GSem nD τ sig × ℕ × Fin 6) := Finset.univ.map ⟨tokOf, tokOf_inj⟩

def u₀ : UU := (initOf (Pipeline.cells cfgs cellOf_inj) (Pipeline.launchToks cfgs cellOf_inj), (initOf exCells exToks, (1 : Counters)))

/-- The tokens of a device's own cells. -/
def toks (c : Dev nD) : sProp 𝕄 :=
  iprop(bigSep Finset.univ (fun b : Fin 6 => dutyTok ER (barCell c) 0 b)
    ∗ (bigSep Finset.univ (fun j : Fin 20 => dutyTok ER (sCell c j) 0 0) ∗ bigSep Finset.univ (fun r : Fin 20 => dutyTok ER (rCell c r) 0 0)))
/-- The tokens a device pays with. -/
def payToks (c : Dev nD) : sProp 𝕄 :=
  iprop(bigSep Finset.univ (fun b : Fin 6 => dutyTok ER (barCell (btgt c b)) 0 (bix c b))
    ∗ (bigSep Finset.univ (fun j : Fin 20 => dutyTok ER (sCell c j) 0 0) ∗ bigSep Finset.univ (fun j : Fin 20 => dutyTok ER (rCell (tgt c j) (rix c j)) 0 0)))

omit [FloatOps F] in
theorem dealt {n : ℕ} (e : Dev nD × Fin n ≃ Dev nD × Fin n) (Φ : Dev nD × Fin n → sProp 𝕄) :
    (bigSep Finset.univ fun c : Dev nD => bigSep Finset.univ fun j : Fin n => Φ (c, j)) = bigSep Finset.univ fun c : Dev nD => bigSep Finset.univ fun j : Fin n => Φ (e (c, j)) := by
  rw [← bigSep_univ_prod, ← bigSep_univ_prod (fun x => Φ (e x))]
  exact bigSep_univ_equiv e Φ

omit [FloatOps F] in
theorem toks_dealt : (bigSep Finset.univ fun c : Dev nD => (toks c : sProp 𝕄)) ⊢ bigSep Finset.univ fun c : Dev nD => payToks c := by
  unfold toks payToks
  rw [BI.bigSep_sep', BI.bigSep_sep', BI.bigSep_sep', BI.bigSep_sep',
    dealt bdeal (fun x : Dev nD × Fin 6 => (dutyTok ER (barCell x.1) 0 x.2 : sProp 𝕄)),
    dealt deal (fun x : Dev nD × Fin 20 => (dutyTok ER (rCell x.1 x.2) 0 0 : sProp 𝕄))]
  exact BIBase.Entails.rfl

omit [FloatOps F] in
theorem sep3 (Φ : KI → sProp 𝕄) : bigSep Finset.univ Φ
    = iprop(Φ (.inl ()) ∗ (bigSep Finset.univ fun j : Fin 20 => Φ (.inr (.inl j))) ∗ (bigSep Finset.univ fun r : Fin 20 => Φ (.inr (.inr r)))) := by
  rw [bigSep_univ_sum, bigSep_univ_sum, show (bigSep Finset.univ fun i : Unit => Φ (Sum.inl i)) = Φ (.inl ()) from bigSep_singleton]
  rfl

/-- What the launch deals a device. -/
def G (c : Dev nD) : sProp 𝕄 :=
  iprop((bigSep Finset.univ fun k : KI => roundState ER (Rd m ρ) (cellAt (c, k)) 0)
    ∗ (bigSep Finset.univ fun k : KI => iprop(atPos ER (cellAt (c, k)) 0 ∅ 0 ∗ reached ER (cellAt (c, k)) 0)) ∗ toks c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : KI => Φ (cellAt (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m ρ) exCells exToks) $$ HX with ⟨Hst, Hr, Hat, Htok⟩
  imodintro
  ihave Hst' := (le_of_eq' (hX fun g => roundState ER (Rd m ρ) g 0)) $$ Hst
  ihave Hat' := (le_of_eq' (hX fun g => atPos ER g 0 ∅ 0)) $$ Hat
  ihave Hr' := (le_of_eq' (hX fun g => reached ER g 0)) $$ Hr
  ihave Htok' := (le_of_eq' hT) $$ Htok
  unfold G; simp only [BI.bigSep_sep']
  isplitl [Hst']; · iexact Hst'
  isplitl [Hat' Hr']
  · isplitl [Hat'] <;> iassumption
  iexact Htok'

theorem sems_eq (c : Dev nD) : iprop(own0 (F := F) c ∗ unscopedSems0 c) ⊢ iprop((bigSep Finset.univ fun k : KI => semVal (cellAt (c, k)) 0) ∗ Raw (F := F) c) := by
  rw [ownSems_eq, unscopedSems_eq, sep3]
  iintro ⟨⟨HR, HS, HV⟩, HB⟩
  isplitr [HR]
  · isplitl [HB]; · iexact HB
    isplitl [HS]; · iexact HS
    iexact HV
  iexact HR

theorem core_alloc (c : Dev nD) :
    iprop(own0 (F := F) c ∗ unscopedSems0 c ∗ G m ρ c)
      ⊢ |={Set.univ}=> iprop((bigSep Finset.univ fun k : KI => iprop(∃ κ : ℕ, cellInv ER (Rd m ρ) κ (cellAt (c, k))))
          ∗ (bigSep Finset.univ fun k : KI => iprop(atPos ER (cellAt (c, k)) 0 ∅ 0 ∗ reached ER (cellAt (c, k)) 0)) ∗ toks c ∗ Raw (F := F) c) := by
  unfold G
  iintro ⟨Hos, Hus, Hst, Hat, Htok⟩
  ihave Hv := (sems_eq (F := F) c) $$ [Hos Hus]
  · isplitl [Hos] <;> iassumption
  icases Hv with ⟨Hv, Hraw⟩
  imod (show iprop((bigSep Finset.univ fun k : KI => semVal (cellAt (c, k)) 0) ∗ bigSep Finset.univ fun k : KI => roundState ER (Rd m ρ) (cellAt (c, k)) 0)
      ⊢ (|={Set.univ}=> bigSep Finset.univ fun k : KI => iprop(∃ κ : ℕ, cellInv ER (Rd m ρ) κ (cellAt (c, k))) : sProp 𝕄) from by
        rw [← BI.bigSep_sep']
        exact (bigSep_mono fun k _ => (Rounds.body_intro ER (Rd m ρ) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hraw

/-- The invariants and the marks. -/
def marks (K : Dev nD × KI → ℕ) : sProp 𝕄 :=
  iprop(bigSep Finset.univ (fun x : Dev nD × KI => cellInv ER (Rd m ρ) (K x) (cellAt x)) ∗ bigSep Finset.univ (fun x : Dev nD × KI => reached ER (cellAt x) 0))
instance marks_persistent (K : Dev nD × KI → ℕ) : BI.Persistent (marks m ρ K) := by unfold marks; infer_instance

/-- A device's part after the global step. -/
def G' (c : Dev nD) : sProp 𝕄 := iprop(∃ K, marks m ρ K ∗ Gh (F := F) c ∗ Raw (F := F) c)

theorem gh_intro (c : Dev nD) : iprop((bigSep Finset.univ fun k : KI => atPos ER (cellAt (c, k)) 0 ∅ 0) ∗ payToks (F := F) c) ⊢ Gh (F := F) c := by
  unfold payToks Gh
  rw [sep3,
    ← Finset.insert_erase (Finset.mem_univ (zi c)), ← Finset.insert_erase (Finset.mem_univ (bz c)), sep_ins (Finset.notMem_erase _ _), sep_ins (Finset.notMem_erase _ _), sep_ins (Finset.notMem_erase _ _), sep_ins (Finset.notMem_erase _ _), sep_ins (Finset.notMem_erase _ _),
    Finset.insert_erase (Finset.mem_univ (zi c)), Finset.insert_erase (Finset.mem_univ (bz c))]
  iintro ⟨⟨HB, ⟨Hsz, Hs⟩, ⟨Hrz, Hr⟩⟩, ⟨-, Hb⟩, ⟨-, Hts⟩, ⟨-, Htr⟩⟩
  isplitl [Hts Htr Hs]
  · iapply sep_all_join
    isplitl [Hts]; · iexact Hts
    iapply sep_all_join
    isplitl [Htr]; · iexact Htr
    iexact Hs
  isplitl [Hsz Hrz]
  · isplitl [Hsz]; · iexact Hsz
    iexact Hrz
  isplitl [Hr]; · iexact Hr
  isplitl [HB]; · iexact HB
  iexact Hb

theorem with_marks {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact bigSep_mono h)

theorem regroup :
    (bigSep Finset.univ fun c : Dev nD => iprop((bigSep Finset.univ fun k : KI => iprop(∃ κ : ℕ, cellInv ER (Rd m ρ) κ (cellAt (c, k))))
          ∗ (bigSep Finset.univ fun k : KI => iprop(atPos ER (cellAt (c, k)) 0 ∅ 0 ∗ reached ER (cellAt (c, k)) 0)) ∗ toks c ∗ Raw (F := F) c) : sProp 𝕄)
      ⊢ bigSep Finset.univ (G' m ρ) := by
  rw [BI.bigSep_sep', BI.bigSep_sep', BI.bigSep_sep', ← bigSep_univ_prod (fun ck : Dev nD × KI => iprop(∃ κ : ℕ, cellInv ER (Rd m ρ) κ (cellAt ck))),
    bigSep_congr (s := Finset.univ) (fun (c : Dev nD) _ => BI.bigSep_sep' Finset.univ (fun k : KI => (atPos ER (cellAt (c, k)) 0 ∅ 0 : sProp 𝕄)) (fun k => reached ER (cellAt (c, k)) 0)),
    BI.bigSep_sep', ← bigSep_univ_prod (fun ck : Dev nD × KI => (reached ER (cellAt ck) 0 : sProp 𝕄))]
  iintro ⟨HI, ⟨Hat, #HR⟩, Htok, Hraw⟩
  ihave HK := (BI.bigSep_exists_pi Finset.univ (fun (ck : Dev nD × KI) (κ : ℕ) => (cellInv ER (Rd m ρ) κ (cellAt ck) : sProp 𝕄))) $$ HI
  icases HK with ⟨%K, #HI⟩
  ihave Htk := (toks_dealt (F := F)) $$ Htok
  iapply (with_marks (S := Finset.univ) (R := marks m ρ K) (Φ := fun c => iprop(((bigSep Finset.univ fun k : KI => atPos ER (cellAt (c, k)) 0 ∅ 0) ∗ payToks (F := F) c) ∗ Raw (F := F) c)) (Ψ := G' m ρ) fun c _ => by
    unfold G'
    iintro ⟨#HM, HG, Hr⟩
    iexists K
    isplitr; · iexact HM
    isplitl [HG]; · iapply (gh_intro (F := F) c) $$ HG
    iexact Hr)
  isplitr
  · unfold marks; isplitl; · iexact HI
    iexact HR
  · iapply sep_all_join
    isplitr [Hraw]
    · iapply sep_all_join
      isplitl [Hat]; · iexact Hat
      iexact Htk
    iexact Hraw

theorem glob : (bigSep Finset.univ fun c => iprop(own0 (F := F) c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## What the launch lets a device wait for -/

omit [FloatOps F] in
theorem sum_deal {M : Type} [AddCommMonoid M] {n : ℕ} (e : Dev nD × Fin n ≃ Dev nD × Fin n) (z : Dev nD → Fin n) (h : ∀ x : Dev nD × Fin n, x.2 ≠ z x.1 ↔ (e x).2 ≠ z (e x).1)
    (g : Dev nD × Fin n → M) : ∑ d, ∑ b ∈ Finset.univ.erase (z d), g (e (d, b)) = ∑ d, ∑ b ∈ Finset.univ.erase (z d), g (d, b) := by
  have hf (f : Dev nD × Fin n → M) : ∑ d, ∑ b ∈ Finset.univ.erase (z d), f (d, b) = ∑ x : Dev nD × Fin n, if x.2 ≠ z x.1 then f x else 0 := by
    rw [Fintype.sum_prod_type]
    refine Finset.sum_congr rfl fun d _ => ?_
    rw [← Finset.filter_ne', Finset.sum_filter]
  rw [hf (fun x => g (e x)), hf g]
  exact (Finset.sum_congr rfl fun x _ => if_congr (h x) rfl rfl).trans (Equiv.sum_comp e (fun x => if x.2 ≠ z x.1 then g x else 0))

/-- The units that will reach a device's cells. -/
def Tc (c : Dev nD) : CellTallies nD τ sig Unit := tallyAt (barCell c) () 5 + ∑ r ∈ Finset.univ.erase (zi c), tallyAt (rCell c r) () (NN r)

theorem bix_iff : ∀ (c : Dev nD) (b : Fin 6), b ≠ bz c ↔ bix c b ≠ bz (btgt c b) := by decide +kernel
theorem rix_iff : ∀ (c : Dev nD) (j : Fin 20), j ≠ zi c ↔ rix c j ≠ zi (tgt c j) := by decide +kernel

theorem dues_sum : ∑ d, O₀ d = ∑ d, Tc d := by
  unfold O₀ Tc oweB oweT
  rw [Finset.sum_add_distrib, Finset.sum_add_distrib]
  refine congrArg₂ (· + ·) ?_ ?_
  · have := sum_deal bdeal bz (fun x => bix_iff x.1 x.2) (fun x => tallyAt (barCell x.1) () 1 : _ → CellTallies nD τ sig Unit)
    refine Eq.trans this (Finset.sum_congr rfl fun d _ => ?_)
    show ∑ _b ∈ Finset.univ.erase (bz d), tallyAt (barCell d) () 1 = _
    rw [Finset.sum_const, card_bz]
    simp only [succ_nsmul, zero_nsmul, zero_add, tallyAt_add]
  · have := sum_deal deal zi (fun x => rix_iff x.1 x.2) (fun x => tallyAt (rCell x.1 x.2) () (NN x.2) : _ → CellTallies nD τ sig Unit)
    refine Eq.trans (Finset.sum_congr rfl fun d _ => Finset.sum_congr rfl fun j _ => ?_) this
    show _ = tallyAt (rCell (tgt d j) (rix d j)) () (NN (rix d j))
    rw [NN_rix]

theorem Tc_own (d : Dev nD) (g : GSem nD τ sig) (h : Tc d g ≠ 0) : g.1 = (d : Thread nD τ) := by
  by_contra hg
  refine h ?_
  unfold Tc
  rw [Pi.add_apply, Finset.sum_apply, tallyAt_ne_cell (fun e => hg (by rw [e])), Finset.sum_eq_zero fun r _ => tallyAt_ne_cell (fun e => hg (by rw [e])) _ _, add_zero]

omit [FloatOps F] in
theorem cred_each {I : Type} [DecidableEq I] (s : Finset I) (f : I → CellTallies nD τ sig Unit) : (cred (∑ i ∈ s, f i) : sProp 𝕄) ⊢ bigSep s fun i => cred (f i) := by
  induction s using Finset.induction_on with
  | empty => rw [BI.bigSep_empty]; iintro -; iempintro
  | insert i s hi ih =>
    rw [Finset.sum_insert hi, sep_ins hi]
    exact (cred_add _ _).1.trans (sep_mono_right ih)

theorem creds (c : Dev nD) : (Pipeline.launchCred O₀ c : sProp 𝕄) ⊢ Cr (F := F) c := by
  rw [Pipeline.launchCred_of_sum O₀ Tc dues_sum Tc_own]
  unfold Tc Cr
  exact (cred_add _ _).1.trans (sep_mono_right (cred_each _ _))

end Cert.Exchange

end
-- ==== Proof.Launch.lean ====
/-
# The run

The launch of the kernel on every device, and what every run of it ends with.
-/
module

public import proofs.«01_k».proof.Proof.Deal
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device starts from: its part of the exchange, what it may wait for, and the result's array. -/
def start (c : Dev nD) : sProp 𝕄 :=
  iprop((∃ K, recs m ρ K ∗ Gh (F := F) c ∗ Raw (F := F) c) ∗ Cr (F := F) c ∗ (∃ f, oL c ↦{fullShare} f))
def Φ₀ (c : Dev nD) : sProp 𝕄 :=
  iprop(start m ρ c ∗ (∃ f, cL c ↦{fullShare} f) ∗ (∃ f, sL c ↦{fullShare} f) ∗ (∃ f, wL c ↦{fullShare} f))
/-- What it ends with. -/
def Φ₁ (c : Dev nD) : sProp 𝕄 :=
  iprop((oL c ↦{fullShare} OV m ρ c) ∗ (cL c ↦{fullShare} CV m ρ) ∗ (∃ f, sL c ↦{fullShare} f) ∗ wPts m ρ c
    ∗ semVal ((c : Thread nD τ), SemLoc.dma (⟨2, by omega⟩ : Fin 45)) 0 ∗ Zs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => xB m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xA m ρ c) ∗ stg c cc0_stg1_0 (xB m ρ c))

theorem before_a (c : Dev nD) (d) : (dats m ρ 0 c).before (0 : Fin 2) t₀ d = xA m ρ c := rfl
theorem before_b (c : Dev nD) (d) : (dats m ρ 0 c).before (1 : Fin 2) t₀ d = xB m ρ c := rfl

/-- What the launch left, as the program of a device starts. -/
theorem body_in (c : Dev nD) : bodyPre m ρ c ⊢ iprop(∃ K, T m ρ K c 0 iprop(barR (F := F) c ∗ Bag m ρ c) ∗ semVal ((c : Thread nD τ), SemLoc.dma (⟨2, by omega⟩ : Fin 45)) 0) := by
  unfold bodyPre Φ₀ start Raw Dat.owesAt Pipeline.owesWithin
  iintro ⟨⟨⟨⟨%K, HR, HG, Hv2, Hv⟩, HC, Ho⟩, Hc, Hs, Hw⟩, ⟨%W, %hW, HO⟩, ⟨%d, %fa, %ha, Ha⟩, ⟨%d', %fb, %hb, Hb⟩⟩
  rw [before_a] at ha
  rw [before_b] at hb
  subst ha hb
  iexists K
  isplitr [Hv2]
  · iapply (enter m ρ K c)
    isplitl [HR]; · iexact HR
    isplitl [HG]; · iexact HG
    isplitl [HC]; · iexact HC
    isplitl [Ho Hc Hs Hw]
    · unfold Bufs
      isplitl [Ho]; · iexact Ho
      isplitl [Hc]; · iexact Hc
      isplitl [Hs]; · iexact Hs
      iexact Hw
    isplitl [Ha]; · unfold aPts; iexact Ha
    isplitl [Hb]; · unfold bPts; iexact Hb
    isplitl [Hv]; · iexact Hv
    iexists W
    iexact HO
  iexact Hv2

/-- What the program of a device leaves, as the launch takes it. -/
theorem body_out (K : Dev nD × KI → ℕ) (c : Dev nD) :
    iprop((All m ρ K c 68 (Out m ρ c) ∗ (doneC m ρ (barCell c) ∗ aPts m ρ c ∗ bPts m ρ c)) ∗ semVal ((c : Thread nD τ), SemLoc.dma (⟨2, by omega⟩ : Fin 45)) 0)
      ⊢ |={Set.univ}=> bodyPost m ρ c := by
  iintro ⟨H, Hv2⟩
  imod (leave m ρ K c) $$ H with ⟨⟨%W, HO⟩, Ha, Hb, Ho, Hc, Hs, Hw, HZ⟩
  imodintro
  unfold bodyPost Φ₁ Dat.owesAt Pipeline.owesWithin
  rw [show (dats m ρ 0 c).owed t₀.succ = 0 from rfl]
  isplitl [Ho Hc Hs Hw Hv2 HZ]
  · isplitl [Ho]; · iexact Ho
    isplitl [Hc]; · iexact Hc
    isplitl [Hs]; · iexact Hs
    isplitl [Hw]; · iexact Hw
    isplitl [Hv2]; · iexact Hv2
    iexact HZ
  isplitl [HO]
  · iexists W
    isplitr; · ipureintro; exact fun _ _ => Or.inl trivial
    iexact HO
  unfold aPts bPts
  isplitl [Ha]
  · iexists _; isplitr; · (ipureintro; rfl)
    iexact Ha
  iexists _; isplitr; · (ipureintro; rfl)
  iexact Hb

theorem sound (c : Dev nD) {p : Prog (TpuEff nD τ sig (Elt F) Λ₀ .tc) _} (hp : cc0_body (F := F) aM (Memref.isWhole_whole _) bM (Memref.isWhole_whole _) oM (Memref.isWhole_whole _) cM (Memref.isWhole_whole _) sM (Memref.isWhole_whole _) wM (Memref.isWhole_whole _) cc0_scratch3 cc0_scratch4 cc0_scratch5 cc0_scratch6 cc0_scratch7 cc0_scratch8 cc0_scratch9 cc0_scratch10 = p) :
    bodyPre m ρ c ⊢ wpC (F := F) c p (fun _ => bodyPost m ρ c) := by
  refine (body_in m ρ c).trans (BIBase.Entails.trans ?_ (wp_fupd frame (wpE (defs₀ (F := F)) 𝒱₀ (c : Thread nD τ) none) Set.univ p (fun _ => bodyPost m ρ c)))
  have hw := fun K => whole m ρ K c hp (Q := fun _ => iprop(|={Set.univ}=> bodyPost m ρ c))
  iintro ⟨%K, HT, Hv⟩
  iapply (hw K) $$ HT
  iintro %b H
  iapply (body_out m ρ K c)
  isplitl [H]; · iexact H
  iexact Hv

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole]
  exact sound m ρ c rfl

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start G' marks recs
  iintro ⟨Ho, Hlev, Hcr, -, ⟨%K, ⟨HI, HM⟩, HG, HR⟩⟩
  imodintro
  isplitl
  · isplitl [HI HM Hlev HG HR]
    · iexists K
      isplitl [HI HM Hlev]
      · isplitl [HI]; · iexact HI
        isplitl [HM]; · iexact HM
        iexact Hlev
      isplitl [HG]; · iexact HG
      iexact HR
    isplitl [Hcr]; · iapply (creds (F := F) c) $$ Hcr
    iexists _
    iexact Ho
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hc, Hs', Hw⟩
  isplitl [Hs]; · iexact Hs
  isplitl [Hc]; · iexact Hc
  isplitl [Hs']; · iexact Hs'
  iexact Hw

theorem phi1_exit (c : Dev nD) :
    (dats m ρ 0 c).Φ (Fin.last cfg0.N) ⊢ iprop((unscopedSems0 c ∗ (oL c ↦{fullShare} OV m ρ c)) ∗ own0 (F := F) c ∗ Pipeline.scopedRest cfg0.spec c) := by
  rw [show (dats m ρ 0 c).Φ (Fin.last cfg0.N) = Φ₁ m ρ c from rfl, scopedRest0_eq, ownSems_eq, unscopedSems_eq]
  unfold Φ₁ Zs wPts Raw
  iintro ⟨Ho, Hc, Hs, Hw, Hv2, ⟨Hv, HS, HV, HB⟩⟩
  isplitl [HB Ho]
  · isplitl [HB]; · iexact HB
    iexact Ho
  isplitl [Hv2 Hv HS HV]
  · isplitl [Hv2 Hv]
    · isplitl [Hv2]; · iexact Hv2
      iexact Hv
    isplitl [HS]; · iexact HS
    iexact HV
  isplitl [Hc]; · iexists _; iexact Hc
  isplitl [Hs]; · iexact Hs
  iexists _; iexact Hw

theorem lvR_pos : ∀ r : Fin 20, 0 < lvR r := by decide +kernel
theorem stage_lv : ∀ (w : Fin 2) (s : Fin (spec0 w).nbuf), lvS (.dma ((spec0 w).sem s)) = 0 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ _ _ (fun _ _ => by rw [stage_lv w s]; exact Nat.one_pos) (fun j _ => by rw [stage_lv w s]; exact lvR_pos _)
    · show (levAts L lv : sProp 𝕄) ⊢ MayWait (c : Thread nD τ) _ () 0
      rw [MayWait_zero]; iintro -; iempintro

/-! ## The run -/

theorem read_out (c : Dev nD) (s' : Phys nD τ sig (Elt F)) :
    (iprop((unscopedSems0 c ∗ (oL c ↦{fullShare} OV m ρ c)) ∗ emp ∗ SI s') : sProp 𝕄)
      ⊢ |={Set.univ}=> iprop(⌜(∀ sm : SemLoc sig, sm.isScoped .tc = false → s'.mem.sem ((c.tc : Thread nD τ), sm) = 0) ∧ s'.mem.mem (oL c) = OV m ρ c⌝ ∗ SI s') := by
  iintro ⟨⟨Hu, Ho⟩, -, HSI⟩
  ihave %h := (SI_pointsTo_agree) $$ [HSI Ho]
  · isplitl [HSI]; · iexact HSI
    iexact Ho
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => h i (Finset.mem_univ i)⟩
  iexact HSI

/-- From any memory with every counter at zero, every weakly fair run ends; the operands are what they were, the result is
    what the program computes from them, and every counter is at zero. -/
theorem run_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1)
      ∧ r.2.mem (oL c) = OV m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ [HX] with HG
      · unfold ER; iexact HX
      imodintro
      isplitl [HP] <;> iassumption)
    (hglob := glob m ρ)
    (hA := fun _ _ => rfl) (hpf := fun _ k => k.elim0)
    (X := start m ρ) (Y := fun c => iprop(unscopedSems0 c ∗ (oL c ↦{fullShare} OV m ρ c))) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (oL c) = OV m ρ c)
    (hY := fun c s' => read_out m ρ c s')
    (hQ := fun _ h hs => ⟨fun c => ⟨((h c).1 (0 : Fin 2)).trans ((dats m ρ 0 c).arrAt_in (0 : Fin 2) rfl _), ((h c).1 (1 : Fin 2)).trans ((dats m ρ 0 c).arrAt_in (1 : Fin 2) rfl _), (h c).2.2.2⟩,
      sem_eq_zero hs fun c => (h c).2.2.1⟩)

end Cert.Exchange

end
-- ==== Proof.Value.lean ====
/-
  The values, over the extended reals: one tile of the product is the plain product of one block of the first
  operand and the second operand, the result is the tiles laid row block after row block, and so it is the whole
  product that the reference computes.
-/
module

public import proofs.«01_k».proof.Proof.Copies
public import proofs.«01_k».proof.Proof.Gen.ReferenceIdeal.Run
public import Idealize.ShloMosaic.Lib.Pointwise
public import Idealize.ShloMosaic.Lib.Layout

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One tile at a row and a column: the sum over the contracted axis of the block's row times the second operand's
    column. The casts between the two float formats and the reshapes change nothing. -/
theorem tile_apply (a : FVec Ideal S1536x768 .bf16) (b : FVec Ideal S768x1536 .bf16) (r l : Fin 1536) :
    k0_pay11 (k0_pay1 a) (k0_pay2 b) (ix2 r l) = ∑ k : Fin 768, (a (ix2 r k) : EReal) * b (ix2 k l) := by
  pointwise [k0_pay11, k0_pay1, k0_pay2]

/-- The reference's result at a row and a column: the sum over the contracted axis of the products. -/
theorem whole_apply (A : FVec Ideal Cert.ReferenceIdeal.S24576x768 .bf16) (B : FVec Ideal Cert.ReferenceIdeal.S768x1536 .bf16) (r : Fin 24576) (l : Fin 1536) :
    truncf .bf16 (Host.dotGeneral Cert.ReferenceIdeal.dot_S24576x768_S768x1536_S24576x1536_1_0_0_1_n_n none
      (extf .f32 A Cert.ReferenceIdeal.Gen.bitsLt_bf16_f32) (extf .f32 B Cert.ReferenceIdeal.Gen.bitsLt_bf16_f32)) Cert.ReferenceIdeal.Gen.bitsLt_bf16_f32 (ix2 r l)
      = ∑ k : Fin 768, (A (ix2 r k) : EReal) * B (ix2 k l) := by
  pointwise

/-- Reading an operand's one whole block reads the array itself. -/
theorem read_win0 (f : Buf (Elt F) ((0 : Dev nD).tc.loc main_arg0 : Loc nD τ sig)) (i : S1536x768.Idx) : (win0_0.blk (0 : Fin 1)).view.read (Elt F) f i = f i := by
  show f ((win0_0.blk (0 : Fin 1)).view.emb i) = f i
  refine congrArg f (funext fun a => Fin.ext ?_)
  show 0 * S1536x768.size a + 1 * (i a).val = (i a).val
  omega
/-- The same of the second operand. -/
theorem read_win1 (f : Buf (Elt F) ((0 : Dev nD).tc.loc main_arg1 : Loc nD τ sig)) (i : S768x1536.Idx) : (win0_1.blk (0 : Fin 1)).view.read (Elt F) f i = f i := by
  show f ((win0_1.blk (0 : Fin 1)).view.emb i) = f i
  refine congrArg f (funext fun a => Fin.ext ?_)
  show 0 * S768x1536.size a + 1 * (i a).val = (i a).val
  omega

/-- If every device starts with its block of `A` and with `B`, then every device's result is the whole product, as the
    reference computes it. -/
theorem OV_eq (m : (ℓ : Loc nD τ sig) → Buf (Elt Ideal) ℓ) (ρ : Dev nD → PrngReg)
    (A : FVec Ideal Cert.ReferenceIdeal.S24576x768 .bf16) (B : FVec Ideal Cert.ReferenceIdeal.S768x1536 .bf16)
    (hA : ∀ c : Dev nD, m ((c.tc : Thread nD τ).loc main_arg0) = Layout.block ⟨2, ![1536, 768]⟩ ⟨2, ![24576, 768]⟩ 0 16 c A)
    (hB : ∀ c : Dev nD, m ((c.tc : Thread nD τ).loc main_arg1) = B) (c : Dev nD) :
    OV m ρ c = truncf .bf16 (Host.dotGeneral Cert.ReferenceIdeal.dot_S24576x768_S768x1536_S24576x1536_1_0_0_1_n_n none
      (extf .f32 A Cert.ReferenceIdeal.Gen.bitsLt_bf16_f32) (extf .f32 B Cert.ReferenceIdeal.Gen.bitsLt_bf16_f32)) Cert.ReferenceIdeal.Gen.bitsLt_bf16_f32 := by
  funext i
  obtain ⟨r, l, rfl⟩ : ∃ (r : Fin 24576) (l : Fin 1536), i = ix2 r l := ⟨i 0, i 1, eq_ix2 i⟩
  rw [whole_apply]
  have ho : r.val / 1536 < 16 := by omega
  have hr : r.val % 1536 < 1536 := Nat.mod_lt _ (by norm_num)
  have ei : inRows (ix2 r l) = ix2 (⟨r.val % 1536, hr⟩ : Fin 1536) l := by
    funext a; match a with
    | ⟨0, _⟩ => rfl
    | ⟨1, _⟩ => rfl
  show k0_pay11 (k0_pay1 (xA m ρ ⟨r.val / 1536, ho⟩)) (k0_pay2 (xB m ρ c)) (inRows (ix2 r l)) = _
  rw [ei, tile_apply]
  refine Finset.sum_congr rfl fun k _ => ?_
  have ea : xA m ρ ⟨r.val / 1536, ho⟩ (ix2 (⟨r.val % 1536, hr⟩ : Fin 1536) k) = A (ix2 r k) := by
    refine (read_win0 _ _).trans ((congrFun (hA _) _).trans (congrArg A (funext fun a => Fin.ext ?_)))
    match a with
    | ⟨0, _⟩ => show r.val / 1536 * 1536 + r.val % 1536 = r.val; omega
    | ⟨1, _⟩ => rfl
  have eb : xB m ρ c (ix2 k l) = B (ix2 k l) := (read_win1 _ _).trans (congrFun (hB _) _)
  exact congrArg₂ (· * ·) ea eb

end Cert.Exchange

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

/-- The kernel's run, over any float values, with the result dropped: it terminates, keeps its arguments and leaves
    every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.Exchange.run_main (F := F) m ρ)

/-- The kernel at the extended reals terminates, keeps its arguments and leaves every counter at zero. -/
theorem frame_ideal : Cert.quiescent_KernelIdeal := fun m ρ _ => frame_any (F := Ideal) m ρ

/-- The two printings of the kernel have the same body table: the one label runs the same text. -/
theorem bodies_eq : Cert.Kernel.defs₀ (F := Bits) = Cert.KernelIdeal.defs₀ (F := Bits) := by
  unfold Cert.Kernel.defs₀ Cert.KernelIdeal.defs₀
  refine congrArg Defs.onTc ?_
  funext ℓ a
  match ℓ, a with
  | ⟨0, _⟩, (t, s) => rfl

/-- And so the same table with the pipeline's own labels. -/
theorem defs_eq : Cert.Kernel.defs (F := Bits) = Cert.KernelIdeal.defs (F := Bits) :=
  congrArg (Pipeline.defs Cert.KernelIdeal.pcfgs) bodies_eq

/-- So does the kernel at the bit patterns. -/
theorem frame_kernel : Cert.quiescent_Kernel := by
  intro m ρ _
  rw [defs_eq]
  exact frame_any (F := Bits) m ρ

/-- And the reference, which has no counter. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals, every device's result is the reference's whole product of the whole first operand, of which
    each device starts with its block of rows, and the second. -/
theorem values : Cert.algebraic_KernelIdeal_ReferenceIdeal := by
  intro m ρ m' ρ' _ h
  refine ⟨_, ?_, (θ_run Cert.ReferenceIdeal.defs _ _).mono (fun r h => h 0) (Cert.ReferenceIdeal.Value.run (F := Ideal) m' ρ')⟩
  exact (θ_run Cert.KernelIdeal.defs _ _).mono
    (fun r hr c => ⟨(hr.1 c).2.2.trans (Cert.Exchange.OV_eq m ρ _ _ (fun c => (h c).1) (fun c => (h c).2) c), (hr.1 c).1, (hr.1 c).2.1⟩)
    (Cert.Exchange.run_main (F := Ideal) m ρ)

/-- Every claim of the certificate. -/
theorem claim : Cert.Claim := ⟨Cert.Kernel.Gen.facts, Cert.KernelIdeal.Gen.facts, Cert.ReferenceIdeal.Gen.facts,
  frame_kernel, frame_ideal, frame_reference, trivial, values⟩

end Cert.Proof

end
